-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_OutMlp (m : (ℓ : Loc Cert.OutMlp.nD Cert.OutMlp.τ Cert.OutMlp.sig) → Buf (Elt Bits) ℓ) : Prop :=
  True

def Pre_OutMlpIdeal (m : (ℓ : Loc Cert.OutMlpIdeal.nD Cert.OutMlpIdeal.τ Cert.OutMlpIdeal.sig) → Buf (Elt Ideal) ℓ) : Prop :=
  True

def Pre_OutMlpRefIdeal (m : (ℓ : Loc Cert.OutMlpRefIdeal.nD Cert.OutMlpRefIdeal.τ Cert.OutMlpRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_OutMlp [hOutMlp : Cert.OutMlp.Facts] : Prop :=
  ∀ (m : (ℓ : Loc Cert.OutMlp.nD Cert.OutMlp.τ Cert.OutMlp.sig) → Buf (Elt Bits) ℓ) (g : Dev Cert.OutMlp.nD → PrngReg), Pre_OutMlp m →
    θ_run (Cert.OutMlp.defs (F := Bits)) (onTc (τ := Cert.OutMlp.τ) (Cert.OutMlp.main (F := Bits))) ⟨m, fun _ => 0, g⟩ (fun r => (∀ c : Dev Cert.OutMlp.nD,
      r.2.mem ((c.tc : Thread Cert.OutMlp.nD Cert.OutMlp.τ).loc Cert.OutMlp.main_arg0) = m ((c.tc : Thread Cert.OutMlp.nD Cert.OutMlp.τ).loc Cert.OutMlp.main_arg0)
      ∧ r.2.mem ((c.tc : Thread Cert.OutMlp.nD Cert.OutMlp.τ).loc Cert.OutMlp.main_arg1) = m ((c.tc : Thread Cert.OutMlp.nD Cert.OutMlp.τ).loc Cert.OutMlp.main_arg1)
      ∧ r.2.mem ((c.tc : Thread Cert.OutMlp.nD Cert.OutMlp.τ).loc Cert.OutMlp.main_arg2) = m ((c.tc : Thread Cert.OutMlp.nD Cert.OutMlp.τ).loc Cert.OutMlp.main_arg2)
      ∧ r.2.mem ((c.tc : Thread Cert.OutMlp.nD Cert.OutMlp.τ).loc Cert.OutMlp.main_arg3) = m ((c.tc : Thread Cert.OutMlp.nD Cert.OutMlp.τ).loc Cert.OutMlp.main_arg3)
      ∧ r.2.mem ((c.tc : Thread Cert.OutMlp.nD Cert.OutMlp.τ).loc Cert.OutMlp.main_arg4) = m ((c.tc : Thread Cert.OutMlp.nD Cert.OutMlp.τ).loc Cert.OutMlp.main_arg4)
      ∧ r.2.mem ((c.tc : Thread Cert.OutMlp.nD Cert.OutMlp.τ).loc Cert.OutMlp.main_arg5) = m ((c.tc : Thread Cert.OutMlp.nD Cert.OutMlp.τ).loc Cert.OutMlp.main_arg5)
      ∧ r.2.mem ((c.tc : Thread Cert.OutMlp.nD Cert.OutMlp.τ).loc Cert.OutMlp.main_arg6) = m ((c.tc : Thread Cert.OutMlp.nD Cert.OutMlp.τ).loc Cert.OutMlp.main_arg6)
      ∧ r.2.mem ((c.tc : Thread Cert.OutMlp.nD Cert.OutMlp.τ).loc Cert.OutMlp.main_arg7) = m ((c.tc : Thread Cert.OutMlp.nD Cert.OutMlp.τ).loc Cert.OutMlp.main_arg7)
      ∧ r.2.mem ((c.tc : Thread Cert.OutMlp.nD Cert.OutMlp.τ).loc Cert.OutMlp.main_arg8) = m ((c.tc : Thread Cert.OutMlp.nD Cert.OutMlp.τ).loc Cert.OutMlp.main_arg8)
      ∧ r.2.mem ((c.tc : Thread Cert.OutMlp.nD Cert.OutMlp.τ).loc Cert.OutMlp.main_arg9) = m ((c.tc : Thread Cert.OutMlp.nD Cert.OutMlp.τ).loc Cert.OutMlp.main_arg9)
      ∧ r.2.mem ((c.tc : Thread Cert.OutMlp.nD Cert.OutMlp.τ).loc Cert.OutMlp.main_arg10) = m ((c.tc : Thread Cert.OutMlp.nD Cert.OutMlp.τ).loc Cert.OutMlp.main_arg10)
      ∧ r.2.mem ((c.tc : Thread Cert.OutMlp.nD Cert.OutMlp.τ).loc Cert.OutMlp.main_arg11) = m ((c.tc : Thread Cert.OutMlp.nD Cert.OutMlp.τ).loc Cert.OutMlp.main_arg11)
      ∧ r.2.mem ((c.tc : Thread Cert.OutMlp.nD Cert.OutMlp.τ).loc Cert.OutMlp.main_arg12) = m ((c.tc : Thread Cert.OutMlp.nD Cert.OutMlp.τ).loc Cert.OutMlp.main_arg12)
      ∧ r.2.mem ((c.tc : Thread Cert.OutMlp.nD Cert.OutMlp.τ).loc Cert.OutMlp.main_arg13) = m ((c.tc : Thread Cert.OutMlp.nD Cert.OutMlp.τ).loc Cert.OutMlp.main_arg13)
      ∧ r.2.mem ((c.tc : Thread Cert.OutMlp.nD Cert.OutMlp.τ).loc Cert.OutMlp.main_arg14) = m ((c.tc : Thread Cert.OutMlp.nD Cert.OutMlp.τ).loc Cert.OutMlp.main_arg14)
      ∧ r.2.mem ((c.tc : Thread Cert.OutMlp.nD Cert.OutMlp.τ).loc Cert.OutMlp.main_arg15) = m ((c.tc : Thread Cert.OutMlp.nD Cert.OutMlp.τ).loc Cert.OutMlp.main_arg15))
      ∧ r.2.sem = fun _ => 0)

def quiescent_OutMlpIdeal [hOutMlpIdeal : Cert.OutMlpIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg), Pre_OutMlpIdeal m →
    θ_run (Cert.OutMlpIdeal.defs (F := Ideal)) (onTc (τ := Cert.OutMlpIdeal.τ) (Cert.OutMlpIdeal.main (F := Ideal))) ⟨m, fun _ => 0, g⟩ (fun r => (∀ c : Dev Cert.OutMlpIdeal.nD,
      r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
      ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
      ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
      ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
      ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
      ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
      ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6)
      ∧ r.2.mem ((c.tc : Thread Cert.OutMlpIdeal.nD Cert.OutMlpIdeal.τ).loc Cert.OutMlpIdeal.main_arg7) = m ((c.tc : Thread Cert.OutMlpIdeal.nD Cert.OutMlpIdeal.τ).loc Cert.OutMlpIdeal.main_arg7)
      ∧ r.2.mem ((c.tc : Thread Cert.OutMlpIdeal.nD Cert.OutMlpIdeal.τ).loc Cert.OutMlpIdeal.main_arg8) = m ((c.tc : Thread Cert.OutMlpIdeal.nD Cert.OutMlpIdeal.τ).loc Cert.OutMlpIdeal.main_arg8)
      ∧ r.2.mem ((c.tc : Thread Cert.OutMlpIdeal.nD Cert.OutMlpIdeal.τ).loc Cert.OutMlpIdeal.main_arg9) = m ((c.tc : Thread Cert.OutMlpIdeal.nD Cert.OutMlpIdeal.τ).loc Cert.OutMlpIdeal.main_arg9)
      ∧ r.2.mem ((c.tc : Thread Cert.OutMlpIdeal.nD Cert.OutMlpIdeal.τ).loc Cert.OutMlpIdeal.main_arg10) = m ((c.tc : Thread Cert.OutMlpIdeal.nD Cert.OutMlpIdeal.τ).loc Cert.OutMlpIdeal.main_arg10)
      ∧ r.2.mem ((c.tc : Thread Cert.OutMlpIdeal.nD Cert.OutMlpIdeal.τ).loc Cert.OutMlpIdeal.main_arg11) = m ((c.tc : Thread Cert.OutMlpIdeal.nD Cert.OutMlpIdeal.τ).loc Cert.OutMlpIdeal.main_arg11)
      ∧ r.2.mem ((c.tc : Thread Cert.OutMlpIdeal.nD Cert.OutMlpIdeal.τ).loc Cert.OutMlpIdeal.main_arg12) = m ((c.tc : Thread Cert.OutMlpIdeal.nD Cert.OutMlpIdeal.τ).loc Cert.OutMlpIdeal.main_arg12)
      ∧ r.2.mem ((c.tc : Thread Cert.OutMlpIdeal.nD Cert.OutMlpIdeal.τ).loc Cert.OutMlpIdeal.main_arg13) = m ((c.tc : Thread Cert.OutMlpIdeal.nD Cert.OutMlpIdeal.τ).loc Cert.OutMlpIdeal.main_arg13)
      ∧ r.2.mem ((c.tc : Thread Cert.OutMlpIdeal.nD Cert.OutMlpIdeal.τ).loc Cert.OutMlpIdeal.main_arg14) = m ((c.tc : Thread Cert.OutMlpIdeal.nD Cert.OutMlpIdeal.τ).loc Cert.OutMlpIdeal.main_arg14)
      ∧ r.2.mem ((c.tc : Thread Cert.OutMlpIdeal.nD Cert.OutMlpIdeal.τ).loc Cert.OutMlpIdeal.main_arg15) = m ((c.tc : Thread Cert.OutMlpIdeal.nD Cert.OutMlpIdeal.τ).loc Cert.OutMlpIdeal.main_arg15))
      ∧ r.2.sem = fun _ => 0)

def quiescent_OutMlpRefIdeal [hOutMlpRefIdeal : Cert.OutMlpRefIdeal.Facts] : Prop :=
  ∀ (m : (ℓ : Loc Cert.OutMlpRefIdeal.nD Cert.OutMlpRefIdeal.τ Cert.OutMlpRefIdeal.sig) → Buf (Elt Ideal) ℓ) (g : Dev Cert.OutMlpRefIdeal.nD → PrngReg), Pre_OutMlpRefIdeal m →
    θ_run (Cert.OutMlpRefIdeal.defs (F := Ideal)) (onTc (τ := Cert.OutMlpRefIdeal.τ) (Cert.OutMlpRefIdeal.main (F := Ideal))) ⟨m, fun _ => 0, g⟩ (fun r => (∀ c : Dev Cert.OutMlpRefIdeal.nD,
      r.2.mem ((c.tc : Thread Cert.OutMlpRefIdeal.nD Cert.OutMlpRefIdeal.τ).loc Cert.OutMlpRefIdeal.main_arg0) = m ((c.tc : Thread Cert.OutMlpRefIdeal.nD Cert.OutMlpRefIdeal.τ).loc Cert.OutMlpRefIdeal.main_arg0)
      ∧ r.2.mem ((c.tc : Thread Cert.OutMlpRefIdeal.nD Cert.OutMlpRefIdeal.τ).loc Cert.OutMlpRefIdeal.main_arg1) = m ((c.tc : Thread Cert.OutMlpRefIdeal.nD Cert.OutMlpRefIdeal.τ).loc Cert.OutMlpRefIdeal.main_arg1)
      ∧ r.2.mem ((c.tc : Thread Cert.OutMlpRefIdeal.nD Cert.OutMlpRefIdeal.τ).loc Cert.OutMlpRefIdeal.main_arg2) = m ((c.tc : Thread Cert.OutMlpRefIdeal.nD Cert.OutMlpRefIdeal.τ).loc Cert.OutMlpRefIdeal.main_arg2)
      ∧ r.2.mem ((c.tc : Thread Cert.OutMlpRefIdeal.nD Cert.OutMlpRefIdeal.τ).loc Cert.OutMlpRefIdeal.main_arg3) = m ((c.tc : Thread Cert.OutMlpRefIdeal.nD Cert.OutMlpRefIdeal.τ).loc Cert.OutMlpRefIdeal.main_arg3)
      ∧ r.2.mem ((c.tc : Thread Cert.OutMlpRefIdeal.nD Cert.OutMlpRefIdeal.τ).loc Cert.OutMlpRefIdeal.main_arg4) = m ((c.tc : Thread Cert.OutMlpRefIdeal.nD Cert.OutMlpRefIdeal.τ).loc Cert.OutMlpRefIdeal.main_arg4)
      ∧ r.2.mem ((c.tc : Thread Cert.OutMlpRefIdeal.nD Cert.OutMlpRefIdeal.τ).loc Cert.OutMlpRefIdeal.main_arg5) = m ((c.tc : Thread Cert.OutMlpRefIdeal.nD Cert.OutMlpRefIdeal.τ).loc Cert.OutMlpRefIdeal.main_arg5)
      ∧ r.2.mem ((c.tc : Thread Cert.OutMlpRefIdeal.nD Cert.OutMlpRefIdeal.τ).loc Cert.OutMlpRefIdeal.main_arg6) = m ((c.tc : Thread Cert.OutMlpRefIdeal.nD Cert.OutMlpRefIdeal.τ).loc Cert.OutMlpRefIdeal.main_arg6)
      ∧ r.2.mem ((c.tc : Thread Cert.OutMlpRefIdeal.nD Cert.OutMlpRefIdeal.τ).loc Cert.OutMlpRefIdeal.main_arg7) = m ((c.tc : Thread Cert.OutMlpRefIdeal.nD Cert.OutMlpRefIdeal.τ).loc Cert.OutMlpRefIdeal.main_arg7)
      ∧ r.2.mem ((c.tc : Thread Cert.OutMlpRefIdeal.nD Cert.OutMlpRefIdeal.τ).loc Cert.OutMlpRefIdeal.main_arg8) = m ((c.tc : Thread Cert.OutMlpRefIdeal.nD Cert.OutMlpRefIdeal.τ).loc Cert.OutMlpRefIdeal.main_arg8)
      ∧ r.2.mem ((c.tc : Thread Cert.OutMlpRefIdeal.nD Cert.OutMlpRefIdeal.τ).loc Cert.OutMlpRefIdeal.main_arg9) = m ((c.tc : Thread Cert.OutMlpRefIdeal.nD Cert.OutMlpRefIdeal.τ).loc Cert.OutMlpRefIdeal.main_arg9)
      ∧ r.2.mem ((c.tc : Thread Cert.OutMlpRefIdeal.nD Cert.OutMlpRefIdeal.τ).loc Cert.OutMlpRefIdeal.main_arg10) = m ((c.tc : Thread Cert.OutMlpRefIdeal.nD Cert.OutMlpRefIdeal.τ).loc Cert.OutMlpRefIdeal.main_arg10)
      ∧ r.2.mem ((c.tc : Thread Cert.OutMlpRefIdeal.nD Cert.OutMlpRefIdeal.τ).loc Cert.OutMlpRefIdeal.main_arg11) = m ((c.tc : Thread Cert.OutMlpRefIdeal.nD Cert.OutMlpRefIdeal.τ).loc Cert.OutMlpRefIdeal.main_arg11)
      ∧ r.2.mem ((c.tc : Thread Cert.OutMlpRefIdeal.nD Cert.OutMlpRefIdeal.τ).loc Cert.OutMlpRefIdeal.main_arg12) = m ((c.tc : Thread Cert.OutMlpRefIdeal.nD Cert.OutMlpRefIdeal.τ).loc Cert.OutMlpRefIdeal.main_arg12)
      ∧ r.2.mem ((c.tc : Thread Cert.OutMlpRefIdeal.nD Cert.OutMlpRefIdeal.τ).loc Cert.OutMlpRefIdeal.main_arg13) = m ((c.tc : Thread Cert.OutMlpRefIdeal.nD Cert.OutMlpRefIdeal.τ).loc Cert.OutMlpRefIdeal.main_arg13)
      ∧ r.2.mem ((c.tc : Thread Cert.OutMlpRefIdeal.nD Cert.OutMlpRefIdeal.τ).loc Cert.OutMlpRefIdeal.main_arg14) = m ((c.tc : Thread Cert.OutMlpRefIdeal.nD Cert.OutMlpRefIdeal.τ).loc Cert.OutMlpRefIdeal.main_arg14)
      ∧ r.2.mem ((c.tc : Thread Cert.OutMlpRefIdeal.nD Cert.OutMlpRefIdeal.τ).loc Cert.OutMlpRefIdeal.main_arg15) = m ((c.tc : Thread Cert.OutMlpRefIdeal.nD Cert.OutMlpRefIdeal.τ).loc Cert.OutMlpRefIdeal.main_arg15))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_OutMlp_OutMlpIdeal : Prop :=
  True

def algebraic_OutMlpIdeal_OutMlpRefIdeal [hOutMlpIdeal : Cert.OutMlpIdeal.Facts] [hOutMlpRefIdeal : Cert.OutMlpRefIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg)
    (m' : (ℓ : Loc Cert.OutMlpRefIdeal.nD Cert.OutMlpRefIdeal.τ Cert.OutMlpRefIdeal.sig) → Buf (Elt Ideal) ℓ) (g' : Dev Cert.OutMlpRefIdeal.nD → PrngReg), Pre_OutMlpIdeal m →
    (∀ c : Dev Cert.OutMlpIdeal.nD,
      m' ((c.tc : Thread Cert.OutMlpRefIdeal.nD Cert.OutMlpRefIdeal.τ).loc Cert.OutMlpRefIdeal.main_arg0) = m ((c.tc : Thread Cert.OutMlpIdeal.nD Cert.OutMlpIdeal.τ).loc Cert.OutMlpIdeal.main_arg0)
      ∧ m' ((c.tc : Thread Cert.OutMlpRefIdeal.nD Cert.OutMlpRefIdeal.τ).loc Cert.OutMlpRefIdeal.main_arg1) = m ((c.tc : Thread Cert.OutMlpIdeal.nD Cert.OutMlpIdeal.τ).loc Cert.OutMlpIdeal.main_arg1)
      ∧ m' ((c.tc : Thread Cert.OutMlpRefIdeal.nD Cert.OutMlpRefIdeal.τ).loc Cert.OutMlpRefIdeal.main_arg2) = m ((c.tc : Thread Cert.OutMlpIdeal.nD Cert.OutMlpIdeal.τ).loc Cert.OutMlpIdeal.main_arg2)
      ∧ m' ((c.tc : Thread Cert.OutMlpRefIdeal.nD Cert.OutMlpRefIdeal.τ).loc Cert.OutMlpRefIdeal.main_arg3) = m ((c.tc : Thread Cert.OutMlpIdeal.nD Cert.OutMlpIdeal.τ).loc Cert.OutMlpIdeal.main_arg3)
      ∧ m' ((c.tc : Thread Cert.OutMlpRefIdeal.nD Cert.OutMlpRefIdeal.τ).loc Cert.OutMlpRefIdeal.main_arg4) = m ((c.tc : Thread Cert.OutMlpIdeal.nD Cert.OutMlpIdeal.τ).loc Cert.OutMlpIdeal.main_arg4)
      ∧ m' ((c.tc : Thread Cert.OutMlpRefIdeal.nD Cert.OutMlpRefIdeal.τ).loc Cert.OutMlpRefIdeal.main_arg5) = m ((c.tc : Thread Cert.OutMlpIdeal.nD Cert.OutMlpIdeal.τ).loc Cert.OutMlpIdeal.main_arg5)
      ∧ m' ((c.tc : Thread Cert.OutMlpRefIdeal.nD Cert.OutMlpRefIdeal.τ).loc Cert.OutMlpRefIdeal.main_arg6) = m ((c.tc : Thread Cert.OutMlpIdeal.nD Cert.OutMlpIdeal.τ).loc Cert.OutMlpIdeal.main_arg6)
      ∧ m' ((c.tc : Thread Cert.OutMlpRefIdeal.nD Cert.OutMlpRefIdeal.τ).loc Cert.OutMlpRefIdeal.main_arg7) = m ((c.tc : Thread Cert.OutMlpIdeal.nD Cert.OutMlpIdeal.τ).loc Cert.OutMlpIdeal.main_arg7)
      ∧ m' ((c.tc : Thread Cert.OutMlpRefIdeal.nD Cert.OutMlpRefIdeal.τ).loc Cert.OutMlpRefIdeal.main_arg8) = m ((c.tc : Thread Cert.OutMlpIdeal.nD Cert.OutMlpIdeal.τ).loc Cert.OutMlpIdeal.main_arg8)
      ∧ m' ((c.tc : Thread Cert.OutMlpRefIdeal.nD Cert.OutMlpRefIdeal.τ).loc Cert.OutMlpRefIdeal.main_arg9) = m ((c.tc : Thread Cert.OutMlpIdeal.nD Cert.OutMlpIdeal.τ).loc Cert.OutMlpIdeal.main_arg9)
      ∧ m' ((c.tc : Thread Cert.OutMlpRefIdeal.nD Cert.OutMlpRefIdeal.τ).loc Cert.OutMlpRefIdeal.main_arg10) = m ((c.tc : Thread Cert.OutMlpIdeal.nD Cert.OutMlpIdeal.τ).loc Cert.OutMlpIdeal.main_arg10)
      ∧ m' ((c.tc : Thread Cert.OutMlpRefIdeal.nD Cert.OutMlpRefIdeal.τ).loc Cert.OutMlpRefIdeal.main_arg11) = m ((c.tc : Thread Cert.OutMlpIdeal.nD Cert.OutMlpIdeal.τ).loc Cert.OutMlpIdeal.main_arg11)
      ∧ m' ((c.tc : Thread Cert.OutMlpRefIdeal.nD Cert.OutMlpRefIdeal.τ).loc Cert.OutMlpRefIdeal.main_arg12) = m ((c.tc : Thread Cert.OutMlpIdeal.nD Cert.OutMlpIdeal.τ).loc Cert.OutMlpIdeal.main_arg12)
      ∧ m' ((c.tc : Thread Cert.OutMlpRefIdeal.nD Cert.OutMlpRefIdeal.τ).loc Cert.OutMlpRefIdeal.main_arg13) = m ((c.tc : Thread Cert.OutMlpIdeal.nD Cert.OutMlpIdeal.τ).loc Cert.OutMlpIdeal.main_arg13)
      ∧ m' ((c.tc : Thread Cert.OutMlpRefIdeal.nD Cert.OutMlpRefIdeal.τ).loc Cert.OutMlpRefIdeal.main_arg14) = m ((c.tc : Thread Cert.OutMlpIdeal.nD Cert.OutMlpIdeal.τ).loc Cert.OutMlpIdeal.main_arg14)
      ∧ m' ((c.tc : Thread Cert.OutMlpRefIdeal.nD Cert.OutMlpRefIdeal.τ).loc Cert.OutMlpRefIdeal.main_arg15) = m ((c.tc : Thread Cert.OutMlpIdeal.nD Cert.OutMlpIdeal.τ).loc Cert.OutMlpIdeal.main_arg15)) →
    ∃ (v0 : (c : Dev Cert.OutMlpIdeal.nD) → Buf (Elt Ideal) ((c.tc : Thread Cert.OutMlpIdeal.nD Cert.OutMlpIdeal.τ).loc Cert.OutMlpIdeal.main_v22)),
      θ_run (Cert.OutMlpIdeal.defs (F := Ideal)) (onTc (τ := Cert.OutMlpIdeal.τ) (Cert.OutMlpIdeal.main (F := Ideal))) ⟨m, fun _ => 0, g⟩ (fun r => ∀ c : Dev Cert.OutMlpIdeal.nD,
          r.2.mem ((c.tc : Thread Cert.OutMlpIdeal.nD Cert.OutMlpIdeal.τ).loc Cert.OutMlpIdeal.main_v22) = v0 c
          ∧ r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
          ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
          ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
          ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
          ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
          ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
          ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6)
          ∧ r.2.mem ((c.tc : Thread Cert.OutMlpIdeal.nD Cert.OutMlpIdeal.τ).loc Cert.OutMlpIdeal.main_arg7) = m ((c.tc : Thread Cert.OutMlpIdeal.nD Cert.OutMlpIdeal.τ).loc Cert.OutMlpIdeal.main_arg7)
          ∧ r.2.mem ((c.tc : Thread Cert.OutMlpIdeal.nD Cert.OutMlpIdeal.τ).loc Cert.OutMlpIdeal.main_arg8) = m ((c.tc : Thread Cert.OutMlpIdeal.nD Cert.OutMlpIdeal.τ).loc Cert.OutMlpIdeal.main_arg8)
          ∧ r.2.mem ((c.tc : Thread Cert.OutMlpIdeal.nD Cert.OutMlpIdeal.τ).loc Cert.OutMlpIdeal.main_arg9) = m ((c.tc : Thread Cert.OutMlpIdeal.nD Cert.OutMlpIdeal.τ).loc Cert.OutMlpIdeal.main_arg9)
          ∧ r.2.mem ((c.tc : Thread Cert.OutMlpIdeal.nD Cert.OutMlpIdeal.τ).loc Cert.OutMlpIdeal.main_arg10) = m ((c.tc : Thread Cert.OutMlpIdeal.nD Cert.OutMlpIdeal.τ).loc Cert.OutMlpIdeal.main_arg10)
          ∧ r.2.mem ((c.tc : Thread Cert.OutMlpIdeal.nD Cert.OutMlpIdeal.τ).loc Cert.OutMlpIdeal.main_arg11) = m ((c.tc : Thread Cert.OutMlpIdeal.nD Cert.OutMlpIdeal.τ).loc Cert.OutMlpIdeal.main_arg11)
          ∧ r.2.mem ((c.tc : Thread Cert.OutMlpIdeal.nD Cert.OutMlpIdeal.τ).loc Cert.OutMlpIdeal.main_arg12) = m ((c.tc : Thread Cert.OutMlpIdeal.nD Cert.OutMlpIdeal.τ).loc Cert.OutMlpIdeal.main_arg12)
          ∧ r.2.mem ((c.tc : Thread Cert.OutMlpIdeal.nD Cert.OutMlpIdeal.τ).loc Cert.OutMlpIdeal.main_arg13) = m ((c.tc : Thread Cert.OutMlpIdeal.nD Cert.OutMlpIdeal.τ).loc Cert.OutMlpIdeal.main_arg13)
          ∧ r.2.mem ((c.tc : Thread Cert.OutMlpIdeal.nD Cert.OutMlpIdeal.τ).loc Cert.OutMlpIdeal.main_arg14) = m ((c.tc : Thread Cert.OutMlpIdeal.nD Cert.OutMlpIdeal.τ).loc Cert.OutMlpIdeal.main_arg14)
          ∧ r.2.mem ((c.tc : Thread Cert.OutMlpIdeal.nD Cert.OutMlpIdeal.τ).loc Cert.OutMlpIdeal.main_arg15) = m ((c.tc : Thread Cert.OutMlpIdeal.nD Cert.OutMlpIdeal.τ).loc Cert.OutMlpIdeal.main_arg15))
      ∧ θ_run (Cert.OutMlpRefIdeal.defs (F := Ideal)) (onTc (τ := Cert.OutMlpRefIdeal.τ) (Cert.OutMlpRefIdeal.main (F := Ideal))) ⟨m', fun _ => 0, g'⟩ (fun r => ∀ c : Dev Cert.OutMlpRefIdeal.nD,
          r.2.mem ((c.tc : Thread Cert.OutMlpRefIdeal.nD Cert.OutMlpRefIdeal.τ).loc Cert.OutMlpRefIdeal.main_v94) = v0 c
          ∧ r.2.mem ((c.tc : Thread Cert.OutMlpRefIdeal.nD Cert.OutMlpRefIdeal.τ).loc Cert.OutMlpRefIdeal.main_arg0) = m' ((c.tc : Thread Cert.OutMlpRefIdeal.nD Cert.OutMlpRefIdeal.τ).loc Cert.OutMlpRefIdeal.main_arg0)
          ∧ r.2.mem ((c.tc : Thread Cert.OutMlpRefIdeal.nD Cert.OutMlpRefIdeal.τ).loc Cert.OutMlpRefIdeal.main_arg1) = m' ((c.tc : Thread Cert.OutMlpRefIdeal.nD Cert.OutMlpRefIdeal.τ).loc Cert.OutMlpRefIdeal.main_arg1)
          ∧ r.2.mem ((c.tc : Thread Cert.OutMlpRefIdeal.nD Cert.OutMlpRefIdeal.τ).loc Cert.OutMlpRefIdeal.main_arg2) = m' ((c.tc : Thread Cert.OutMlpRefIdeal.nD Cert.OutMlpRefIdeal.τ).loc Cert.OutMlpRefIdeal.main_arg2)
          ∧ r.2.mem ((c.tc : Thread Cert.OutMlpRefIdeal.nD Cert.OutMlpRefIdeal.τ).loc Cert.OutMlpRefIdeal.main_arg3) = m' ((c.tc : Thread Cert.OutMlpRefIdeal.nD Cert.OutMlpRefIdeal.τ).loc Cert.OutMlpRefIdeal.main_arg3)
          ∧ r.2.mem ((c.tc : Thread Cert.OutMlpRefIdeal.nD Cert.OutMlpRefIdeal.τ).loc Cert.OutMlpRefIdeal.main_arg4) = m' ((c.tc : Thread Cert.OutMlpRefIdeal.nD Cert.OutMlpRefIdeal.τ).loc Cert.OutMlpRefIdeal.main_arg4)
          ∧ r.2.mem ((c.tc : Thread Cert.OutMlpRefIdeal.nD Cert.OutMlpRefIdeal.τ).loc Cert.OutMlpRefIdeal.main_arg5) = m' ((c.tc : Thread Cert.OutMlpRefIdeal.nD Cert.OutMlpRefIdeal.τ).loc Cert.OutMlpRefIdeal.main_arg5)
          ∧ r.2.mem ((c.tc : Thread Cert.OutMlpRefIdeal.nD Cert.OutMlpRefIdeal.τ).loc Cert.OutMlpRefIdeal.main_arg6) = m' ((c.tc : Thread Cert.OutMlpRefIdeal.nD Cert.OutMlpRefIdeal.τ).loc Cert.OutMlpRefIdeal.main_arg6)
          ∧ r.2.mem ((c.tc : Thread Cert.OutMlpRefIdeal.nD Cert.OutMlpRefIdeal.τ).loc Cert.OutMlpRefIdeal.main_arg7) = m' ((c.tc : Thread Cert.OutMlpRefIdeal.nD Cert.OutMlpRefIdeal.τ).loc Cert.OutMlpRefIdeal.main_arg7)
          ∧ r.2.mem ((c.tc : Thread Cert.OutMlpRefIdeal.nD Cert.OutMlpRefIdeal.τ).loc Cert.OutMlpRefIdeal.main_arg8) = m' ((c.tc : Thread Cert.OutMlpRefIdeal.nD Cert.OutMlpRefIdeal.τ).loc Cert.OutMlpRefIdeal.main_arg8)
          ∧ r.2.mem ((c.tc : Thread Cert.OutMlpRefIdeal.nD Cert.OutMlpRefIdeal.τ).loc Cert.OutMlpRefIdeal.main_arg9) = m' ((c.tc : Thread Cert.OutMlpRefIdeal.nD Cert.OutMlpRefIdeal.τ).loc Cert.OutMlpRefIdeal.main_arg9)
          ∧ r.2.mem ((c.tc : Thread Cert.OutMlpRefIdeal.nD Cert.OutMlpRefIdeal.τ).loc Cert.OutMlpRefIdeal.main_arg10) = m' ((c.tc : Thread Cert.OutMlpRefIdeal.nD Cert.OutMlpRefIdeal.τ).loc Cert.OutMlpRefIdeal.main_arg10)
          ∧ r.2.mem ((c.tc : Thread Cert.OutMlpRefIdeal.nD Cert.OutMlpRefIdeal.τ).loc Cert.OutMlpRefIdeal.main_arg11) = m' ((c.tc : Thread Cert.OutMlpRefIdeal.nD Cert.OutMlpRefIdeal.τ).loc Cert.OutMlpRefIdeal.main_arg11)
          ∧ r.2.mem ((c.tc : Thread Cert.OutMlpRefIdeal.nD Cert.OutMlpRefIdeal.τ).loc Cert.OutMlpRefIdeal.main_arg12) = m' ((c.tc : Thread Cert.OutMlpRefIdeal.nD Cert.OutMlpRefIdeal.τ).loc Cert.OutMlpRefIdeal.main_arg12)
          ∧ r.2.mem ((c.tc : Thread Cert.OutMlpRefIdeal.nD Cert.OutMlpRefIdeal.τ).loc Cert.OutMlpRefIdeal.main_arg13) = m' ((c.tc : Thread Cert.OutMlpRefIdeal.nD Cert.OutMlpRefIdeal.τ).loc Cert.OutMlpRefIdeal.main_arg13)
          ∧ r.2.mem ((c.tc : Thread Cert.OutMlpRefIdeal.nD Cert.OutMlpRefIdeal.τ).loc Cert.OutMlpRefIdeal.main_arg14) = m' ((c.tc : Thread Cert.OutMlpRefIdeal.nD Cert.OutMlpRefIdeal.τ).loc Cert.OutMlpRefIdeal.main_arg14)
          ∧ r.2.mem ((c.tc : Thread Cert.OutMlpRefIdeal.nD Cert.OutMlpRefIdeal.τ).loc Cert.OutMlpRefIdeal.main_arg15) = m' ((c.tc : Thread Cert.OutMlpRefIdeal.nD Cert.OutMlpRefIdeal.τ).loc Cert.OutMlpRefIdeal.main_arg15))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v17_0)) (v1 : (c : Dev Cert.InProjIdeal.nD) → Buf (Elt Ideal) ((c.tc : Thread Cert.InProjIdeal.nD Cert.InProjIdeal.τ).loc Cert.InProjIdeal.main_v17_1)) (v2 : (c : Dev Cert.InProjIdeal.nD) → Buf (Elt Ideal) ((c.tc : Thread Cert.InProjIdeal.nD Cert.InProjIdeal.τ).loc Cert.InProjIdeal.main_v17_2)) (v3 : (c : Dev Cert.InProjIdeal.nD) → Buf (Elt Ideal) ((c.tc : Thread Cert.InProjIdeal.nD Cert.InProjIdeal.τ).loc Cert.InProjIdeal.main_v17_3)) (v4 : (c : Dev Cert.InProjIdeal.nD) → Buf (Elt Ideal) ((c.tc : Thread Cert.InProjIdeal.nD Cert.InProjIdeal.τ).loc Cert.InProjIdeal.main_v17_4)) (v5 : (c : Dev Cert.InProjIdeal.nD) → Buf (Elt Ideal) ((c.tc : Thread Cert.InProjIdeal.nD Cert.InProjIdeal.τ).loc Cert.InProjIdeal.main_v17_5)) (v6 : (c : Dev Cert.InProjIdeal.nD) → Buf (Elt Ideal) ((c.tc : Thread Cert.InProjIdeal.nD Cert.InProjIdeal.τ).loc Cert.InProjIdeal.main_v17_6)) (v7 : (c : Dev Cert.InProjIdeal.nD) → Buf (Elt Ideal) ((c.tc : Thread Cert.InProjIdeal.nD Cert.InProjIdeal.τ).loc Cert.InProjIdeal.main_v17_7)) (v8 : (c : Dev Cert.InProjIdeal.nD) → Buf (Elt Ideal) ((c.tc : Thread Cert.InProjIdeal.nD Cert.InProjIdeal.τ).loc Cert.InProjIdeal.main_v17_8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v17_0) = v0 c
          ∧ r.2.mem ((c.tc : Thread Cert.InProjIdeal.nD Cert.InProjIdeal.τ).loc Cert.InProjIdeal.main_v17_1) = v1 c
          ∧ r.2.mem ((c.tc : Thread Cert.InProjIdeal.nD Cert.InProjIdeal.τ).loc Cert.InProjIdeal.main_v17_2) = v2 c
          ∧ r.2.mem ((c.tc : Thread Cert.InProjIdeal.nD Cert.InProjIdeal.τ).loc Cert.InProjIdeal.main_v17_3) = v3 c
          ∧ r.2.mem ((c.tc : Thread Cert.InProjIdeal.nD Cert.InProjIdeal.τ).loc Cert.InProjIdeal.main_v17_4) = v4 c
          ∧ r.2.mem ((c.tc : Thread Cert.InProjIdeal.nD Cert.InProjIdeal.τ).loc Cert.InProjIdeal.main_v17_5) = v5 c
          ∧ r.2.mem ((c.tc : Thread Cert.InProjIdeal.nD Cert.InProjIdeal.τ).loc Cert.InProjIdeal.main_v17_6) = v6 c
          ∧ r.2.mem ((c.tc : Thread Cert.InProjIdeal.nD Cert.InProjIdeal.τ).loc Cert.InProjIdeal.main_v17_7) = v7 c
          ∧ r.2.mem ((c.tc : Thread Cert.InProjIdeal.nD Cert.InProjIdeal.τ).loc Cert.InProjIdeal.main_v17_8) = v8 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v132) = v0 c
          ∧ r.2.mem ((c.tc : Thread Cert.InProjRefIdeal.nD Cert.InProjRefIdeal.τ).loc Cert.InProjRefIdeal.main_v30) = v1 c
          ∧ r.2.mem ((c.tc : Thread Cert.InProjRefIdeal.nD Cert.InProjRefIdeal.τ).loc Cert.InProjRefIdeal.main_v32) = v2 c
          ∧ r.2.mem ((c.tc : Thread Cert.InProjRefIdeal.nD Cert.InProjRefIdeal.τ).loc Cert.InProjRefIdeal.main_v43) = v3 c
          ∧ r.2.mem ((c.tc : Thread Cert.InProjRefIdeal.nD Cert.InProjRefIdeal.τ).loc Cert.InProjRefIdeal.main_v45) = v4 c
          ∧ r.2.mem ((c.tc : Thread Cert.InProjRefIdeal.nD Cert.InProjRefIdeal.τ).loc Cert.InProjRefIdeal.main_v46) = v5 c
          ∧ r.2.mem ((c.tc : Thread Cert.InProjRefIdeal.nD Cert.InProjRefIdeal.τ).loc Cert.InProjRefIdeal.main_v47) = v6 c
          ∧ r.2.mem ((c.tc : Thread Cert.InProjRefIdeal.nD Cert.InProjRefIdeal.τ).loc Cert.InProjRefIdeal.main_v48) = v7 c
          ∧ r.2.mem ((c.tc : Thread Cert.InProjRefIdeal.nD Cert.InProjRefIdeal.τ).loc Cert.InProjRefIdeal.main_v137) = v8 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def Claim : Prop :=
  ∃ (hKernel : Cert.Kernel.Facts) (hKernelIdeal : Cert.KernelIdeal.Facts) (hReferenceIdeal : Cert.ReferenceIdeal.Facts) (hOutMlp : Cert.OutMlp.Facts) (hOutMlpIdeal : Cert.OutMlpIdeal.Facts) (hOutMlpRefIdeal : Cert.OutMlpRefIdeal.Facts) (hInProj : Cert.InProj.Facts) (hInProjIdeal : Cert.InProjIdeal.Facts) (hInProjRefIdeal : Cert.InProjRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_OutMlp (hOutMlp := hOutMlp)
    ∧ quiescent_OutMlpIdeal (hOutMlpIdeal := hOutMlpIdeal)
    ∧ quiescent_OutMlpRefIdeal (hOutMlpRefIdeal := hOutMlpRefIdeal)
    ∧ quiescent_InProj (hInProj := hInProj)
    ∧ quiescent_InProjIdeal (hInProjIdeal := hInProjIdeal)
    ∧ quiescent_InProjRefIdeal (hInProjRefIdeal := hInProjRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_OutMlp_OutMlpIdeal
    ∧ algebraic_OutMlpIdeal_OutMlpRefIdeal (hOutMlpIdeal := hOutMlpIdeal) (hOutMlpRefIdeal := hOutMlpRefIdeal)
    ∧ preserves_InProj_InProjIdeal
    ∧ algebraic_InProjIdeal_InProjRefIdeal (hInProjIdeal := hInProjIdeal) (hInProjRefIdeal := hInProjRefIdeal)
-- ==== Pre_finite_scores.lean ====
abbrev S8x2048x512 : Shape := ⟨3, ![8, 2048, 512]⟩
abbrev S8x2048x128 : Shape := ⟨3, ![8, 2048, 128]⟩
abbrev S8 : Shape := ⟨1, ![8]⟩
abbrev S32x8 : Shape := ⟨2, ![32, 8]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_
  bcast_S_S8 : S_.BroadcastsInDim S8 (![] : Fin 0 → Fin S8.rank)
  reducesTo_S8_S_d0 : S8.ReducesTo [0] S_
  bcast_S_S32x8 : S_.BroadcastsInDim S32x8 (![] : Fin 0 → Fin S32x8.rank)
  reducesTo_S32x8_S_d0_1 : S32x8.ReducesTo [0, 1] S_

variable [Facts]

def fn_part1 {F : FTy → Type} [FloatOps F] (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  main_v18

def fn {F : FTy → Type} [FloatOps F] (main_arg0 : FVec F S8x2048x512 .f32) (main_arg1 : FVec F S8x2048x128 .f32) (main_arg2 : FVec F S8x2048x128 .f32) (main_arg3 : FVec F S8 .f32) (main_arg4 : FVec F S32x8 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S32x8 .f32 := Host.absf main_arg4
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_v13 main_v16
-- ==== Kernel.lean ====
abbrev S8x2048x512 : Shape := ⟨3, ![8, 2048, 512]⟩
abbrev S8x2048x128 : Shape := ⟨3, ![8, 2048, 128]⟩
abbrev S8 : Shape := ⟨1, ![8]⟩
abbrev S32x8 : Shape := ⟨2, ![32, 8]⟩
abbrev S16384x128 : Shape := ⟨2, ![16384, 128]⟩
abbrev S16384x64 : Shape := ⟨2, ![16384, 64]⟩
abbrev S16384x512 : Shape := ⟨2, ![16384, 512]⟩
abbrev S384 : Shape := ⟨1, ![384]⟩
abbrev S1x384 : Shape := ⟨2, ![1, 384]⟩
abbrev S_ : Shape := ⟨0, ![]⟩
abbrev S128 : Shape := ⟨1, ![128]⟩
abbrev S128x1 : Shape := ⟨2, ![128, 1]⟩
abbrev S128x384 : Shape := ⟨2, ![128, 384]⟩
abbrev S8x128x384 : Shape := ⟨3, ![8, 128, 384]⟩
abbrev S1x1 : Shape := ⟨2, ![1, 1]⟩
abbrev S1x128x384 : Shape := ⟨3, ![1, 128, 384]⟩
abbrev S1024x512 : Shape := ⟨2, ![1024, 512]⟩
abbrev S128x512 : Shape := ⟨2, ![128, 512]⟩
abbrev S1280x512 : Shape := ⟨2, ![1280, 512]⟩
abbrev S128x128 : Shape := ⟨2, ![128, 128]⟩
abbrev S384x128 : Shape := ⟨2, ![384, 128]⟩
abbrev S768x128 : Shape := ⟨2, ![768, 128]⟩
abbrev S384x256 : Shape := ⟨2, ![384, 256]⟩
abbrev S768x256 : Shape := ⟨2, ![768, 256]⟩
abbrev S128x768 : Shape := ⟨2, ![128, 768]⟩
abbrev S1 : Shape := ⟨1, ![1]⟩
abbrev S128x256 : Shape := ⟨2, ![128, 256]⟩

abbrev nBuf : Space → Nat
  | .hbm => 67
  | .vmem => 14
  | .smem => 2
  | _ => 0

abbrev bufTy : (tb : Table) → Fin (tcTables nBuf tb) → BufTy
  | .hbm, ⟨0, _⟩ => ⟨S8x2048x512, .f32⟩
  | .hbm, ⟨1, _⟩ => ⟨S8x2048x128, .f32⟩
  | .hbm, ⟨2, _⟩ => ⟨S8x2048x128, .f32⟩
  | .hbm, ⟨3, _⟩ => ⟨S8, .f32⟩
  | .hbm, ⟨4, _⟩ => ⟨S32x8, .f32⟩
  | .hbm, ⟨5, _⟩ => ⟨S16384x128, .f32⟩
  | .hbm, ⟨6, _⟩ => ⟨S16384x128, .f32⟩
  | .hbm, ⟨7, _⟩ => ⟨S16384x64, .f32⟩
  | .hbm, ⟨8, _⟩ => ⟨S16384x64, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S16384x64, .f32⟩
  | .hbm, ⟨15, _⟩ => ⟨S16384x512, .f32⟩
  | .hbm, ⟨16, _⟩ => ⟨S16384x512, .bf16⟩
  | .hbm, ⟨17, _⟩ => ⟨S16384x512, .f32⟩
  | .hbm, ⟨18, _⟩ => ⟨S16384x512, .bf16⟩
  | .hbm, ⟨19, _⟩ => ⟨S384, .i32⟩
  | .hbm, ⟨20, _⟩ => ⟨S1x384, .i32⟩
  | .hbm, ⟨21, _⟩ => ⟨S_, .i32⟩
  | .hbm, ⟨22, _⟩ => ⟨S1x384, .i32⟩
  | .hbm, ⟨23, _⟩ => ⟨S1x384, .i32⟩
  | .hbm, ⟨24, _⟩ => ⟨S128, .i32⟩
  | .hbm, ⟨25, _⟩ => ⟨S128x1, .i32⟩
  | .hbm, ⟨26, _⟩ => ⟨S128x384, .i32⟩
  | .hbm, ⟨27, _⟩ => ⟨S128x384, .i32⟩
  | .hbm, ⟨28, _⟩ => ⟨S128x384, .i32⟩
  | .hbm, ⟨29, _⟩ => ⟨S_, .i32⟩
  | .hbm, ⟨30, _⟩ => ⟨S128x384, .i32⟩
  | .hbm, ⟨31, _⟩ => ⟨S128x384, .i1⟩
  | .hbm, ⟨32, _⟩ => ⟨S_, .i32⟩
  | .hbm, ⟨33, _⟩ => ⟨S_, .i32⟩
  | .hbm, ⟨34, _⟩ => ⟨S128x384, .i32⟩
  | .hbm, ⟨35, _⟩ => ⟨S128x384, .i32⟩
  | .hbm, ⟨36, _⟩ => ⟨S128x384, .i32⟩
  | .hbm, ⟨37, _⟩ => ⟨S128x384, .i32⟩
  | .hbm, ⟨38, _⟩ => ⟨S_, .i32⟩
  | .hbm, ⟨39, _⟩ => ⟨S128x384, .i32⟩
  | .hbm, ⟨40, _⟩ => ⟨S128x384, .i32⟩
  | .hbm, ⟨41, _⟩ => ⟨S128x384, .f32⟩
  | .hbm, ⟨42, _⟩ => ⟨S_, .f32⟩
  | .hbm, ⟨43, _⟩ => ⟨S128x384, .f32⟩
  | .hbm, ⟨44, _⟩ => ⟨S128x384, .f32⟩
  | .hbm, ⟨45, _⟩ => ⟨S128x384, .f32⟩
  | .hbm, ⟨46, _⟩ => ⟨S_, .f32⟩
  | .hbm, ⟨47, _⟩ => ⟨S128x384, .f32⟩
  | .hbm, ⟨48, _⟩ => ⟨S128x384, .f32⟩
  | .hbm, ⟨49, _⟩ => ⟨S_, .f32⟩
  | .hbm, ⟨50, _⟩ => ⟨S128x384, .f32⟩
  | .hbm, ⟨51, _⟩ => ⟨S128x384, .f32⟩
  | .hbm, ⟨52, _⟩ => ⟨S128x384, .i32⟩
  | .hbm, ⟨53, _⟩ => ⟨S_, .i32⟩
  | .hbm, ⟨54, _⟩ => ⟨S128x384, .i32⟩
  | .hbm, ⟨55, _⟩ => ⟨S128x384, .i32⟩
  | .hbm, ⟨56, _⟩ => ⟨S_, .i32⟩
  | .hbm, ⟨57, _⟩ => ⟨S128x384, .i32⟩
  | .hbm, ⟨58, _⟩ => ⟨S128x384, .i32⟩
  | .hbm, ⟨59, _⟩ => ⟨S_, .i32⟩
  | .hbm, ⟨60, _⟩ => ⟨S128x384, .i32⟩
  | .hbm, ⟨61, _⟩ => ⟨S128x384, .i1⟩
  | .hbm, ⟨62, _⟩ => ⟨S128x384, .i32⟩
  | .hbm, ⟨63, _⟩ => ⟨S128x384, .i32⟩
  | .hbm, ⟨64, _⟩ => ⟨S128x384, .i32⟩
  | .hbm, ⟨65, _⟩ => ⟨S8x128x384, .f32⟩
  | .hbm, ⟨66, _⟩ => ⟨S16384x512, .bf16⟩
  | .local _ .vmem, ⟨0, _⟩ => ⟨S128x384, .i32⟩
  | .local _ .vmem, ⟨1, _⟩ => ⟨S8x128x384, .f32⟩
  | .local _ .vmem, ⟨2, _⟩ => ⟨S1024x512, .bf16⟩
  | .local _ .vmem, ⟨3, _⟩ => ⟨S1024x512, .bf16⟩
  | .local _ .vmem, ⟨4, _⟩ => ⟨S128x512, .bf16⟩
  | .local _ .vmem, ⟨5, _⟩ => ⟨S128x512, .bf16⟩
  | .local _ .vmem, ⟨6, _⟩ => ⟨S1024x512, .bf16⟩
  | .local _ .vmem, ⟨7, _⟩ => ⟨S1024x512, .bf16⟩
  | .local _ .vmem, ⟨8, _⟩ => ⟨S128x512, .bf16⟩
  | .local _ .vmem, ⟨9, _⟩ => ⟨S128x512, .bf16⟩
  | .local _ .vmem, ⟨10, _⟩ => ⟨S8x128x384, .f32⟩
  | .local _ .vmem, ⟨11, _⟩ => ⟨S1024x512, .bf16⟩
  | .local _ .vmem, ⟨12, _⟩ => ⟨S1024x512, .bf16⟩
  | .local _ .vmem, ⟨13, _⟩ => ⟨S1280x512, .bf16⟩
  | .local _ .smem, ⟨0, _⟩ => ⟨S32x8, .f32⟩
  | .local _ .smem, ⟨1, _⟩ => ⟨S8, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_0 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_c_2 : Ref sig .tc := ⟨.hbm, 33, rfl⟩
abbrev main_call0_v0 : Ref sig .tc := ⟨.hbm, 34, rfl⟩
abbrev main_call0_v1 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg1_0 : Ref sig .tc := ⟨.vmem, 0, rfl⟩
abbrev cc0_stg2_0 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc1_scratch0 : Ref sig .tc := ⟨.vmem, 13, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := .none

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![8, 2], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c8_i32 : BitVec 32 := 8#32
  let v1 : BitVec 32 := Scalar.muli arg1 c8_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc1_transform_3 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c8_i32 : BitVec 32 := 8#32
  let v2 : BitVec 32 := Scalar.muli v1 c8_i32
  let c15_i32 : BitVec 32 := 15#32
  let v3 : BitVec 32 := Scalar.minsi v2 c15_i32
  let v4 : BitVec 32 := Scalar.addi v0 v3
  let c0_i32 : BitVec 32 := 0#32
  let c0_i32_0 : BitVec 32 := 0#32
  ![v4.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage1_0 : Fin 1 → Memref sig .tc .smem S8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S8x128x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S8x2048x512 : Shape := ⟨3, ![8, 2048, 512]⟩
abbrev S8x2048x128 : Shape := ⟨3, ![8, 2048, 128]⟩
abbrev S8 : Shape := ⟨1, ![8]⟩
abbrev S32x8 : Shape := ⟨2, ![32, 8]⟩
abbrev S384 : Shape := ⟨1, ![384]⟩
abbrev S1x384 : Shape := ⟨2, ![1, 384]⟩
abbrev S_ : Shape := ⟨0, ![]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S2x4x128x384 : Shape := ⟨4, ![2, 4, 128, 384]⟩
abbrev S16 : Shape := ⟨1, ![16]⟩
abbrev S16x1x1 : Shape := ⟨3, ![16, 1, 1]⟩
abbrev S1x128x1 : Shape := ⟨3, ![1, 128, 1]⟩
abbrev S1x1x384 : Shape := ⟨3, ![1, 1, 384]⟩
abbrev S16x1x384 : Shape := ⟨3, ![16, 1, 384]⟩
abbrev S1x128x384 : Shape := ⟨3, ![1, 128, 384]⟩
abbrev S16x128x384 : Shape := ⟨3, ![16, 128, 384]⟩
abbrev S8x16x128x2x4x64 : Shape := ⟨6, ![8, 16, 128, 2, 4, 64]⟩
abbrev S8x2048x2x64 : Shape := ⟨4, ![8, 2048, 2, 64]⟩
abbrev S8x2304x2x64 : Shape := ⟨4, ![8, 2304, 2, 64]⟩
abbrev S8x18x128x2x64 : Shape := ⟨5, ![8, 18, 128, 2, 64]⟩
abbrev S8x16x128x2x64 : Shape := ⟨5, ![8, 16, 128, 2, 64]⟩
abbrev S8x16x384x2x64 : Shape := ⟨5, ![8, 16, 384, 2, 64]⟩
abbrev S8x16x2x384x128x4 : Shape := ⟨6, ![8, 16, 2, 384, 128, 4]⟩
abbrev S8x16x2x4x128x384 : Shape := ⟨6, ![8, 16, 2, 4, 128, 384]⟩
abbrev S1x1x2x4x128x384 : Shape := ⟨6, ![1, 1, 2, 4, 128, 384]⟩
abbrev S1x16x1x1x128x384 : Shape := ⟨6, ![1, 16, 1, 1, 128, 384]⟩
abbrev S2x4 : Shape := ⟨2, ![2, 4]⟩
abbrev S1x1x2x4x1x1 : Shape := ⟨6, ![1, 1, 2, 4, 1, 1]⟩
abbrev S8x16x2x4x128 : Shape := ⟨5, ![8, 16, 2, 4, 128]⟩
abbrev S8x16x2x4x128x1 : Shape := ⟨6, ![8, 16, 2, 4, 128, 1]⟩
abbrev S8x16x2x64x4x128 : Shape := ⟨6, ![8, 16, 2, 64, 4, 128]⟩
abbrev S16384x512 : Shape := ⟨2, ![16384, 512]⟩

abbrev nBuf : Space → Nat
  | .hbm => 154
  | .vmem => 0
  | .smem => 0
  | _ => 0

abbrev hbmTy0_0 (i : Nat) : BufTy := match i % 128 with
  | 0 => ⟨S8x2048x512, .f32⟩
  | 1 => ⟨S8x2048x128, .f32⟩
  | 2 => ⟨S8x2048x128, .f32⟩
  | 3 => ⟨S8, .f32⟩
  | 4 => ⟨S32x8, .f32⟩
  | 5 => ⟨S384, .i32⟩
  | 6 => ⟨S1x384, .i32⟩
  | 7 => ⟨S_, .i32⟩
  | 8 => ⟨S1x384, .i32⟩
  | 9 => ⟨S1x384, .i32⟩
  | 10 => ⟨S128, .i32⟩
  | 11 => ⟨S128x1, .i32⟩
  | 12 => ⟨S128x384, .i32⟩
  | 13 => ⟨S128x384, .i32⟩
  | 14 => ⟨S128x384, .i32⟩
  | 15 => ⟨S_, .i32⟩
  | 16 => ⟨S128x384, .i32⟩
  | 17 => ⟨S128x384, .i1⟩
  | 18 => ⟨S_, .i32⟩
  | 19 => ⟨S_, .i32⟩
  | 20 => ⟨S128x384, .i32⟩
  | 21 => ⟨S128x384, .i32⟩
  | 22 => ⟨S128x384, .i32⟩
  | 23 => ⟨S128x384, .i32⟩
  | 24 => ⟨S_, .i32⟩
  | 25 => ⟨S128x384, .i32⟩
  | 26 => ⟨S128x384, .i32⟩
  | 27 => ⟨S128x384, .f32⟩
  | 28 => ⟨S_, .f32⟩
  | 29 => ⟨S128x384, .f32⟩
  | 30 => ⟨S128x384, .f32⟩
  | 31 => ⟨S128x384, .f32⟩
  | 32 => ⟨S_, .f32⟩
  | 33 => ⟨S128x384, .f32⟩
  | 34 => ⟨S128x384, .f32⟩
  | 35 => ⟨S_, .f32⟩
  | 36 => ⟨S128x384, .f32⟩
  | 37 => ⟨S128x384, .f32⟩
  | 38 => ⟨S128x384, .i32⟩
  | 39 => ⟨S_, .i32⟩
  | 40 => ⟨S128x384, .i32⟩
  | 41 => ⟨S128x384, .i32⟩
  | 42 => ⟨S_, .i32⟩
  | 43 => ⟨S128x384, .i32⟩
  | 44 => ⟨S128x384, .i32⟩
  | 45 => ⟨S_, .i32⟩
  | 46 => ⟨S128x384, .i32⟩
  | 47 => ⟨S128x384, .i1⟩
  | 48 => ⟨S128x384, .i32⟩
  | 49 => ⟨S128x384, .i32⟩
  | 50 => ⟨S128x384, .i32⟩
  | 51 => ⟨S_, .i32⟩
  | 52 => ⟨S128x384, .i32⟩
  | 53 => ⟨S128x384, .i1⟩
  | 54 => ⟨S_, .i32⟩
  | 55 => ⟨S128x384, .i32⟩
  | 56 => ⟨S128x384, .i32⟩
  | 57 => ⟨S128x384, .i32⟩
  | 58 => ⟨S128x384x1, .i32⟩
  | 59 => ⟨S128x384x8, .f32⟩
  | 60 => ⟨S8x128x384, .f32⟩
  | 61 => ⟨S2x4x128x384, .f32⟩
  | 62 => ⟨S16, .i32⟩
  | 63 => ⟨S16x1x1, .i32⟩
  | 64 => ⟨S128, .i32⟩
  | 65 => ⟨S1x128x1, .i32⟩
  | 66 => ⟨S384, .i32⟩
  | 67 => ⟨S1x1x384, .i32⟩
  | 68 => ⟨S_, .i32⟩
  | 69 => ⟨S16x1x1, .i32⟩
  | 70 => ⟨S16x1x1, .i32⟩
  | 71 => ⟨S16x1x384, .i32⟩
  | 72 => ⟨S16x1x384, .i32⟩
  | 73 => ⟨S16x1x384, .i32⟩
  | 74 => ⟨S_, .i32⟩
  | 75 => ⟨S16x1x384, .i32⟩
  | 76 => ⟨S16x1x384, .i32⟩
  | 77 => ⟨S_, .i32⟩
  | 78 => ⟨S1x1x384, .i32⟩
  | 79 => ⟨S1x1x384, .i32⟩
  | 80 => ⟨S1x128x384, .i32⟩
  | 81 => ⟨S1x128x384, .i32⟩
  | 82 => ⟨S1x128x384, .i32⟩
  | 83 => ⟨S1x128x384, .i32⟩
  | 84 => ⟨S_, .i32⟩
  | 85 => ⟨S1x128x384, .i32⟩
  | 86 => ⟨S1x128x384, .i1⟩
  | 87 => ⟨S_, .i32⟩
  | 88 => ⟨S16x1x384, .i32⟩
  | 89 => ⟨S16x1x384, .i1⟩
  | 90 => ⟨S16x128x384, .i1⟩
  | 91 => ⟨S16x128x384, .i1⟩
  | 92 => ⟨S16x128x384, .i1⟩
  | 93 => ⟨S_, .i32⟩
  | 94 => ⟨S16x1x384, .i32⟩
  | 95 => ⟨S16x1x384, .i1⟩
  | 96 => ⟨S16x128x384, .i1⟩
  | 97 => ⟨S16x128x384, .i1⟩
  | 98 => ⟨S8x16x128x2x4x64, .f32⟩
  | 99 => ⟨S8x2048x2x64, .f32⟩
  | 100 => ⟨S_, .i32⟩
  | 101 => ⟨S_, .f32⟩
  | 102 => ⟨S8x2304x2x64, .f32⟩
  | 103 => ⟨S8x18x128x2x64, .f32⟩
  | 104 => ⟨S8x16x128x2x64, .f32⟩
  | 105 => ⟨S8x16x128x2x64, .f32⟩
  | 106 => ⟨S8x16x128x2x64, .f32⟩
  | 107 => ⟨S8x16x384x2x64, .f32⟩
  | 108 => ⟨S8x2048x2x64, .f32⟩
  | 109 => ⟨S_, .i32⟩
  | 110 => ⟨S_, .f32⟩
  | 111 => ⟨S8x2304x2x64, .f32⟩
  | 112 => ⟨S8x18x128x2x64, .f32⟩
  | 113 => ⟨S8x16x128x2x64, .f32⟩
  | 114 => ⟨S8x16x128x2x64, .f32⟩
  | 115 => ⟨S8x16x128x2x64, .f32⟩
  | 116 => ⟨S8x16x384x2x64, .f32⟩
  | 117 => ⟨S8x16x2x384x128x4, .f32⟩
  | 118 => ⟨S8x16x2x4x128x384, .f32⟩
  | 119 => ⟨S_, .f32⟩
  | 120 => ⟨S8x16x2x4x128x384, .f32⟩
  | 121 => ⟨S8x16x2x4x128x384, .f32⟩
  | 122 => ⟨S1x1x2x4x128x384, .f32⟩
  | 123 => ⟨S8x16x2x4x128x384, .f32⟩
  | 124 => ⟨S8x16x2x4x128x384, .f32⟩
  | 125 => ⟨S1x16x1x1x128x384, .i1⟩
  | 126 => ⟨S_, .f32⟩
  | 127 => ⟨S_, .f32⟩
  | _ => ⟨S8x2048x512, .f32⟩

abbrev hbmTy0_1 (i : Nat) : BufTy := match i % 128 with
  | 0 => ⟨S8x16x2x4x128x384, .i1⟩
  | 1 => ⟨S8x16x2x4x128x384, .f32⟩
  | 2 => ⟨S8x16x2x4x128x384, .f32⟩
  | 3 => ⟨S2x4, .f32⟩
  | 4 => ⟨S1x1x2x4x1x1, .f32⟩
  | 5 => ⟨S_, .f32⟩
  | 6 => ⟨S8x16x2x4x128, .f32⟩
  | 7 => ⟨S8x16x2x4x128x1, .f32⟩
  | 8 => ⟨S8x16x2x4x128x1, .f32⟩
  | 9 => ⟨S8x16x2x4x128x1, .f32⟩
  | 10 => ⟨S8x16x2x4x128x384, .f32⟩
  | 11 => ⟨S8x16x2x4x128x384, .f32⟩
  | 12 => ⟨S8x16x2x4x128x384, .f32⟩
  | 13 => ⟨S_, .f32⟩
  | 14 => ⟨S8x16x2x4x128, .f32⟩
  | 15 => ⟨S8x16x2x4x128x1, .f32⟩
  | 16 => ⟨S8x16x2x4x128x1, .f32⟩
  | 17 => ⟨S8x16x2x4x128x1, .f32⟩
  | 18 => ⟨S8x16x2x4x128x1, .f32⟩
  | 19 => ⟨S8x16x2x4x128x1, .f32⟩
  | 20 => ⟨S8x16x2x4x128x384, .f32⟩
  | 21 => ⟨S8x16x2x4x128x384, .f32⟩
  | 22 => ⟨S8x16x2x64x4x128, .f32⟩
  | 23 => ⟨S8x16x128x2x4x64, .f32⟩
  | 24 => ⟨S16384x512, .f32⟩
  | 25 => ⟨S16384x512, .bf16⟩
  | _ => ⟨S8x2048x512, .f32⟩

abbrev hbmTy (i : Nat) : BufTy := match i / 128 with
  | 0 => hbmTy0_0 i
  | 1 => hbmTy0_1 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_9 : Ref sig .tc := ⟨.hbm, 51, rfl⟩
abbrev main_v33 : Ref sig .tc := ⟨.hbm, 52, rfl⟩
abbrev main_v34 : Ref sig .tc := ⟨.hbm, 53, rfl⟩
abbrev main_c_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_c_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_14 : Ref sig .tc := ⟨.hbm, 84, rfl⟩
abbrev main_v61 : Ref sig .tc := ⟨.hbm, 85, rfl⟩
abbrev main_v62 : Ref sig .tc := ⟨.hbm, 86, rfl⟩
abbrev main_c_15 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_16 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_17 : Ref sig .tc := ⟨.hbm, 100, rfl⟩
abbrev main_call2_v0 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_18 : Ref sig .tc := ⟨.hbm, 109, rfl⟩
abbrev main_call3_v0 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_19 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_20 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_21 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_22 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩

abbrev nD : Nat := 1
abbrev τ : Topo := Topo.v7x

variable {F : FTy → Type} [FloatOps F]
-- ==== OutMlp.lean ====
abbrev S8x2048x256 : Shape := ⟨3, ![8, 2048, 256]⟩
abbrev S8x2048x512 : Shape := ⟨3, ![8, 2048, 512]⟩
abbrev S8x2048x1024 : Shape := ⟨3, ![8, 2048, 1024]⟩
abbrev S4x1024x1024 : Shape := ⟨3, ![4, 1024, 1024]⟩
abbrev S64 : Shape := ⟨1, ![64]⟩
abbrev S1024 : Shape := ⟨1, ![1024]⟩
abbrev S4x1024x4096 : Shape := ⟨3, ![4, 1024, 4096]⟩
abbrev S4x4096x1024 : Shape := ⟨3, ![4, 4096, 1024]⟩
abbrev S16384x256 : Shape := ⟨2, ![16384, 256]⟩
abbrev S16384x512 : Shape := ⟨2, ![16384, 512]⟩
abbrev S16384x1024 : Shape := ⟨2, ![16384, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S1x1024 : Shape := ⟨2, ![1, 1024]⟩
abbrev S512x256 : Shape := ⟨2, ![512, 256]⟩
abbrev S512x512 : Shape := ⟨2, ![512, 512]⟩
abbrev S512x1024 : Shape := ⟨2, ![512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S256x256 : Shape := ⟨2, ![256, 256]⟩
abbrev S1x256x1024 : Shape := ⟨3, ![1, 256, 1024]⟩
abbrev S256x1024 : Shape := ⟨2, ![256, 1024]⟩
abbrev S1x512x1024 : Shape := ⟨3, ![1, 512, 1024]⟩
abbrev S512 : Shape := ⟨1, ![512]⟩
abbrev S512x1 : Shape := ⟨2, ![512, 1]⟩
abbrev S1x1024x2048 : Shape := ⟨3, ![1, 1024, 2048]⟩
abbrev S1024x2048 : Shape := ⟨2, ![1024, 2048]⟩
abbrev S512x2048 : Shape := ⟨2, ![512, 2048]⟩
abbrev S1x2048x1024 : Shape := ⟨3, ![1, 2048, 1024]⟩
abbrev S2048x1024 : Shape := ⟨2, ![2048, 1024]⟩

abbrev nBuf : Space → Nat
  | .hbm => 39
  | .vmem => 26
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x256, .f32⟩
  | .hbm, ⟨3, _⟩ => ⟨S8x2048x512, .bf16⟩
  | .hbm, ⟨4, _⟩ => ⟨S8x2048x256, .f32⟩
  | .hbm, ⟨5, _⟩ => ⟨S8x2048x256, .f32⟩
  | .hbm, ⟨6, _⟩ => ⟨S8x2048x256, .f32⟩
  | .hbm, ⟨7, _⟩ => ⟨S8x2048x1024, .f32⟩
  | .hbm, ⟨8, _⟩ => ⟨S4x1024x1024, .f32⟩
  | .hbm, ⟨9, _⟩ => ⟨S64, .f32⟩
  | .hbm, ⟨10, _⟩ => ⟨S64, .f32⟩
  | .hbm, ⟨11, _⟩ => ⟨S1024, .f32⟩
  | .hbm, ⟨12, _⟩ => ⟨S1024, .f32⟩
  | .hbm, ⟨13, _⟩ => ⟨S4x1024x4096, .f32⟩
  | .hbm, ⟨14, _⟩ => ⟨S4x4096x1024, .f32⟩
  | .hbm, ⟨15, _⟩ => ⟨S1024, .f32⟩
  | .hbm, ⟨16, _⟩ => ⟨S16384x256, .f32⟩
  | .hbm, ⟨17, _⟩ => ⟨S16384x256, .f32⟩
  | .hbm, ⟨18, _⟩ => ⟨S16384x256, .f32⟩
  | .hbm, ⟨19, _⟩ => ⟨S16384x512, .bf16⟩
  | .hbm, ⟨20, _⟩ => ⟨S16384x256, .f32⟩
  | .hbm, ⟨21, _⟩ => ⟨S16384x256, .f32⟩
  | .hbm, ⟨22, _⟩ => ⟨S16384x256, .f32⟩
  | .hbm, ⟨23, _⟩ => ⟨S16384x1024, .f32⟩
  | .hbm, ⟨24, _⟩ => ⟨S4x1024x1024, .bf16⟩
  | .hbm, ⟨25, _⟩ => ⟨S4x1024x4096, .bf16⟩
  | .hbm, ⟨26, _⟩ => ⟨S4x4096x1024, .bf16⟩
  | .hbm, ⟨27, _⟩ => ⟨S1x64, .f32⟩
  | .hbm, ⟨28, _⟩ => ⟨S4x64, .f32⟩
  | .hbm, ⟨29, _⟩ => ⟨S256, .f32⟩
  | .hbm, ⟨30, _⟩ => ⟨S1x256, .f32⟩
  | .hbm, ⟨31, _⟩ => ⟨S1x64, .f32⟩
  | .hbm, ⟨32, _⟩ => ⟨S4x64, .f32⟩
  | .hbm, ⟨33, _⟩ => ⟨S256, .f32⟩
  | .hbm, ⟨34, _⟩ => ⟨S1x256, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S16384x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x512, .bf16⟩
  | .local _ .vmem, ⟨7, _⟩ => ⟨S512x512, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x1024, .f32⟩
  | .local _ .vmem, ⟨15, _⟩ => ⟨S512x1024, .f32⟩
  | .local _ .vmem, ⟨16, _⟩ => ⟨S1x1024x1024, .bf16⟩
  | .local _ .vmem, ⟨17, _⟩ => ⟨S1x256, .f32⟩
  | .local _ .vmem, ⟨18, _⟩ => ⟨S1x256, .f32⟩
  | .local _ .vmem, ⟨19, _⟩ => ⟨S1x1024, .f32⟩
  | .local _ .vmem, ⟨20, _⟩ => ⟨S1x1024, .f32⟩
  | .local _ .vmem, ⟨21, _⟩ => ⟨S1x1024x4096, .bf16⟩
  | .local _ .vmem, ⟨22, _⟩ => ⟨S1x4096x1024, .bf16⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== OutMlpRefIdeal.lean ====
abbrev S8x2048x256 : Shape := ⟨3, ![8, 2048, 256]⟩
abbrev S8x2048x512 : Shape := ⟨3, ![8, 2048, 512]⟩
abbrev S8x2048x1024 : Shape := ⟨3, ![8, 2048, 1024]⟩
abbrev S4x1024x1024 : Shape := ⟨3, ![4, 1024, 1024]⟩
abbrev S64 : Shape := ⟨1, ![64]⟩
abbrev S1024 : Shape := ⟨1, ![1024]⟩
abbrev S4x1024x4096 : Shape := ⟨3, ![4, 1024, 4096]⟩
abbrev S4x4096x1024 : Shape := ⟨3, ![4, 4096, 1024]⟩
abbrev S8x2048x4x64 : Shape := ⟨4, ![8, 2048, 4, 64]⟩
abbrev S8x4x2048x64 : Shape := ⟨4, ![8, 4, 2048, 64]⟩
abbrev S_ : Shape := ⟨0, ![]⟩
abbrev S8x4x2048 : Shape := ⟨3, ![8, 4, 2048]⟩
abbrev S8x4x2048x1 : Shape := ⟨4, ![8, 4, 2048, 1]⟩
abbrev S1x1x1x64 : Shape := ⟨4, ![1, 1, 1, 64]⟩
abbrev S1x1024x1024 : Shape := ⟨3, ![1, 1024, 1024]⟩
abbrev S1024x1024 : Shape := ⟨2, ![1024, 1024]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩
abbrev S16384x1024 : Shape := ⟨2, ![16384, 1024]⟩

abbrev nBuf : Space → Nat
  | .hbm => 144
  | .vmem => 0
  | .smem => 0
  | _ => 0

abbrev hbmTy0_0 (i : Nat) : BufTy := match i % 128 with
  | 0 => ⟨S8x2048x256, .f32⟩
  | 1 => ⟨S8x2048x256, .f32⟩
  | 2 => ⟨S8x2048x256, .f32⟩
  | 3 => ⟨S8x2048x512, .bf16⟩
  | 4 => ⟨S8x2048x256, .f32⟩
  | 5 => ⟨S8x2048x256, .f32⟩
  | 6 => ⟨S8x2048x256, .f32⟩
  | 7 => ⟨S8x2048x1024, .f32⟩
  | 8 => ⟨S4x1024x1024, .f32⟩
  | 9 => ⟨S64, .f32⟩
  | 10 => ⟨S64, .f32⟩
  | 11 => ⟨S1024, .f32⟩
  | 12 => ⟨S1024, .f32⟩
  | 13 => ⟨S4x1024x4096, .f32⟩
  | 14 => ⟨S4x4096x1024, .f32⟩
  | 15 => ⟨S1024, .f32⟩
  | 16 => ⟨S8x2048x256, .f32⟩
  | 17 => ⟨S8x2048x4x64, .f32⟩
  | 18 => ⟨S8x4x2048x64, .f32⟩
  | 19 => ⟨S8x4x2048x64, .f32⟩
  | 20 => ⟨S_, .f32⟩
  | 21 => ⟨S8x4x2048, .f32⟩
  | 22 => ⟨S8x4x2048x1, .f32⟩
  | 23 => ⟨S_, .f32⟩
  | 24 => ⟨S8x4x2048x1, .f32⟩
  | 25 => ⟨S8x4x2048x1, .f32⟩
  | 26 => ⟨S_, .f32⟩
  | 27 => ⟨S8x4x2048x1, .f32⟩
  | 28 => ⟨S8x4x2048x1, .f32⟩
  | 29 => ⟨S8x4x2048x1, .f32⟩
  | 30 => ⟨S8x4x2048x64, .f32⟩
  | 31 => ⟨S8x4x2048x64, .f32⟩
  | 32 => ⟨S1x1x1x64, .f32⟩
  | 33 => ⟨S8x4x2048x64, .f32⟩
  | 34 => ⟨S8x4x2048x64, .f32⟩
  | 35 => ⟨S8x2048x4x64, .f32⟩
  | 36 => ⟨S8x2048x256, .f32⟩
  | 37 => ⟨S8x2048x256, .f32⟩
  | 38 => ⟨S8x2048x256, .f32⟩
  | 39 => ⟨S_, .f32⟩
  | 40 => ⟨S8x2048x256, .f32⟩
  | 41 => ⟨S8x2048x256, .f32⟩
  | 42 => ⟨S_, .f32⟩
  | 43 => ⟨S8x2048x256, .f32⟩
  | 44 => ⟨S8x2048x256, .f32⟩
  | 45 => ⟨S8x2048x256, .f32⟩
  | 46 => ⟨S8x2048x256, .f32⟩
  | 47 => ⟨S8x2048x256, .f32⟩
  | 48 => ⟨S8x2048x4x64, .f32⟩
  | 49 => ⟨S8x4x2048x64, .f32⟩
  | 50 => ⟨S8x4x2048x64, .f32⟩
  | 51 => ⟨S_, .f32⟩
  | 52 => ⟨S8x4x2048, .f32⟩
  | 53 => ⟨S8x4x2048x1, .f32⟩
  | 54 => ⟨S_, .f32⟩
  | 55 => ⟨S8x4x2048x1, .f32⟩
  | 56 => ⟨S8x4x2048x1, .f32⟩
  | 57 => ⟨S_, .f32⟩
  | 58 => ⟨S8x4x2048x1, .f32⟩
  | 59 => ⟨S8x4x2048x1, .f32⟩
  | 60 => ⟨S8x4x2048x1, .f32⟩
  | 61 => ⟨S8x4x2048x64, .f32⟩
  | 62 => ⟨S8x4x2048x64, .f32⟩
  | 63 => ⟨S1x1x1x64, .f32⟩
  | 64 => ⟨S8x4x2048x64, .f32⟩
  | 65 => ⟨S8x4x2048x64, .f32⟩
  | 66 => ⟨S8x2048x4x64, .f32⟩
  | 67 => ⟨S8x2048x256, .f32⟩
  | 68 => ⟨S8x2048x256, .f32⟩
  | 69 => ⟨S8x2048x256, .f32⟩
  | 70 => ⟨S_, .f32⟩
  | 71 => ⟨S8x2048x256, .f32⟩
  | 72 => ⟨S8x2048x256, .f32⟩
  | 73 => ⟨S_, .f32⟩
  | 74 => ⟨S8x2048x256, .f32⟩
  | 75 => ⟨S8x2048x256, .f32⟩
  | 76 => ⟨S8x2048x256, .f32⟩
  | 77 => ⟨S8x2048x256, .f32⟩
  | 78 => ⟨S8x2048x512, .f32⟩
  | 79 => ⟨S8x2048x1024, .f32⟩
  | 80 => ⟨S1x1024x1024, .f32⟩
  | 81 => ⟨S1024x1024, .f32⟩
  | 82 => ⟨S8x2048x1024, .f32⟩
  | 83 => ⟨S8x2048x1024, .f32⟩
  | 84 => ⟨S_, .f32⟩
  | 85 => ⟨S8x2048, .f32⟩
  | 86 => ⟨S8x2048x1, .f32⟩
  | 87 => ⟨S_, .f32⟩
  | 88 => ⟨S8x2048x1, .f32⟩
  | 89 => ⟨S8x2048x1, .f32⟩
  | 90 => ⟨S_, .f32⟩
  | 91 => ⟨S8x2048x1, .f32⟩
  | 92 => ⟨S8x2048x1, .f32⟩
  | 93 => ⟨S8x2048x1, .f32⟩
  | 94 => ⟨S8x2048x1024, .f32⟩
  | 95 => ⟨S8x2048x1024, .f32⟩
  | 96 => ⟨S1x1x1024, .f32⟩
  | 97 => ⟨S8x2048x1024, .f32⟩
  | 98 => ⟨S8x2048x1024, .f32⟩
  | 99 => ⟨S8x2048x1024, .f32⟩
  | 100 => ⟨S8x2048x1024, .f32⟩
  | 101 => ⟨S_, .f32⟩
  | 102 => ⟨S8x2048, .f32⟩
  | 103 => ⟨S8x2048x1, .f32⟩
  | 104 => ⟨S_, .f32⟩
  | 105 => ⟨S8x2048x1, .f32⟩
  | 106 => ⟨S8x2048x1, .f32⟩
  | 107 => ⟨S_, .f32⟩
  | 108 => ⟨S8x2048x1, .f32⟩
  | 109 => ⟨S8x2048x1, .f32⟩
  | 110 => ⟨S8x2048x1, .f32⟩
  | 111 => ⟨S8x2048x1024, .f32⟩
  | 112 => ⟨S8x2048x1024, .f32⟩
  | 113 => ⟨S1x1x1024, .f32⟩
  | 114 => ⟨S8x2048x1024, .f32⟩
  | 115 => ⟨S8x2048x1024, .f32⟩
  | 116 => ⟨S1x1024x4096, .f32⟩
  | 117 => ⟨S1024x4096, .f32⟩
  | 118 => ⟨S8x2048x4096, .f32⟩
  | 119 => ⟨S_, .f32⟩
  | 120 => ⟨S8x2048x4096, .f32⟩
  | 121 => ⟨S8x2048x4096, .f32⟩
  | 122 => ⟨S8x2048x4096, .f32⟩
  | 123 => ⟨S1x4096x1024, .f32⟩
  | 124 => ⟨S4096x1024, .f32⟩
  | 125 => ⟨S8x2048x1024, .f32⟩
  | 126 => ⟨S8x2048x1024, .f32⟩
  | 127 => ⟨S_, .f32⟩
  | _ => ⟨S8x2048x256, .f32⟩

abbrev hbmTy0_1 (i : Nat) : BufTy := match i % 128 with
  | 0 => ⟨S8x2048, .f32⟩
  | 1 => ⟨S8x2048x1, .f32⟩
  | 2 => ⟨S_, .f32⟩
  | 3 => ⟨S8x2048x1, .f32⟩
  | 4 => ⟨S8x2048x1, .f32⟩
  | 5 => ⟨S_, .f32⟩
  | 6 => ⟨S8x2048x1, .f32⟩
  | 7 => ⟨S8x2048x1, .f32⟩
  | 8 => ⟨S8x2048x1, .f32⟩
  | 9 => ⟨S8x2048x1024, .f32⟩
  | 10 => ⟨S8x2048x1024, .f32⟩
  | 11 => ⟨S1x1x1024, .f32⟩
  | 12 => ⟨S8x2048x1024, .f32⟩
  | 13 => ⟨S8x2048x1024, .f32⟩
  | 14 => ⟨S8x2048x1024, .f32⟩
  | 15 => ⟨S16384x1024, .f32⟩
  | _ => ⟨S8x2048x256, .f32⟩

abbrev hbmTy (i : Nat) : BufTy := match i / 128 with
  | 0 => hbmTy0_0 i
  | 1 => hbmTy0_1 i
  | _ => ⟨S8x2048x256, .f32⟩

abbrev bufTy : (tb : Table) → Fin (tcTables nBuf tb) → BufTy
  | .hbm, ⟨i, _⟩ => hbmTy i
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_v24 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_v27 : Ref sig .tc := ⟨.hbm, 56, rfl⟩
abbrev main_cst_4 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_5 : Ref sig .tc := ⟨.hbm, 84, rfl⟩
abbrev main_v46 : Ref sig .tc := ⟨.hbm, 85, rfl⟩
abbrev main_v47 : Ref sig .tc := ⟨.hbm, 86, rfl⟩
abbrev main_cst_6 : Ref sig .tc := ⟨.hbm, 87, rfl⟩
abbrev main_v48 : Ref sig .tc := ⟨.hbm, 88, rfl⟩
abbrev main_v49 : Ref sig .tc := ⟨.hbm, 89, rfl⟩
abbrev main_cst_7 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_8 : Ref sig .tc := ⟨.hbm, 101, rfl⟩
abbrev main_v60 : Ref sig .tc := ⟨.hbm, 102, rfl⟩
abbrev main_v61 : Ref sig .tc := ⟨.hbm, 103, rfl⟩
abbrev main_cst_9 : Ref sig .tc := ⟨.hbm, 104, rfl⟩
abbrev main_v62 : Ref sig .tc := ⟨.hbm, 105, rfl⟩
abbrev main_v63 : Ref sig .tc := ⟨.hbm, 106, rfl⟩
abbrev main_cst_10 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_call2_cst : Ref sig .tc := ⟨.hbm, 119, rfl⟩
abbrev main_call2_v0 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_11 : Ref sig .tc := ⟨.hbm, 127, rfl⟩
abbrev main_v81 : Ref sig .tc := ⟨.hbm, 128, rfl⟩
abbrev main_v82 : Ref sig .tc := ⟨.hbm, 129, rfl⟩
abbrev main_cst_12 : Ref sig .tc := ⟨.hbm, 130, rfl⟩
abbrev main_v83 : Ref sig .tc := ⟨.hbm, 131, rfl⟩
abbrev main_v84 : Ref sig .tc := ⟨.hbm, 132, rfl⟩
abbrev main_cst_13 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩

abbrev nD : Nat := 1
abbrev τ : Topo := Topo.v7x

variable {F : FTy → Type} [FloatOps F]
-- ==== InProj.lean ====
abbrev S8x2048x1024 : Shape := ⟨3, ![8, 2048, 1024]⟩
abbrev S1024 : Shape := ⟨1, ![1024]⟩
abbrev S4x1024x2608 : Shape := ⟨3, ![4, 1024, 2608]⟩
abbrev S5x768 : Shape := ⟨2, ![5, 768]⟩
abbrev S2x4 : Shape := ⟨2, ![2, 4]⟩
abbrev S16384x1024 : Shape := ⟨2, ![16384, 1024]⟩
abbrev S4x1024x2944 : Shape := ⟨3, ![4, 1024, 2944]⟩
abbrev S1x256x2608 : Shape := ⟨3, ![1, 256, 2608]⟩
abbrev S1x256x2944 : Shape := ⟨3, ![1, 256, 2944]⟩
abbrev S256x2608 : Shape := ⟨2, ![256, 2608]⟩
abbrev S256x128 : Shape := ⟨2, ![256, 128]⟩
abbrev S256x256 : Shape := ⟨2, ![256, 256]⟩
abbrev S256x32 : Shape := ⟨2, ![256, 32]⟩
abbrev S256x512 : Shape := ⟨2, ![256, 512]⟩
abbrev S256x768 : Shape := ⟨2, ![256, 768]⟩
abbrev S256x8 : Shape := ⟨2, ![256, 8]⟩
abbrev S256x64 : Shape := ⟨2, ![256, 64]⟩
abbrev S256x80 : Shape := ⟨2, ![256, 80]⟩
abbrev S1x256x768 : Shape := ⟨3, ![1, 256, 768]⟩
abbrev S1x256x128 : Shape := ⟨3, ![1, 256, 128]⟩
abbrev S1x256x512 : Shape := ⟨3, ![1, 256, 512]⟩
abbrev S1x256x256 : Shape := ⟨3, ![1, 256, 256]⟩
abbrev S1x1024 : Shape := ⟨2, ![1, 1024]⟩
abbrev S_ : Shape := ⟨0, ![]⟩
abbrev S1x128 : Shape := ⟨2, ![1, 128]⟩
abbrev S8 : Shape := ⟨1, ![8]⟩
abbrev S1 : Shape := ⟨1, ![1]⟩
abbrev S2 : Shape := ⟨1, ![2]⟩
abbrev S16384x768 : Shape := ⟨2, ![16384, 768]⟩
abbrev S16384x128 : Shape := ⟨2, ![16384, 128]⟩
abbrev S16384x512 : Shape := ⟨2, ![16384, 512]⟩
abbrev S16384x256 : Shape := ⟨2, ![16384, 256]⟩
abbrev S8x1024 : Shape := ⟨2, ![8, 1024]⟩
abbrev S1024x1024 : Shape := ⟨2, ![1024, 1024]⟩
abbrev S1x1024x2944 : Shape := ⟨3, ![1, 1024, 2944]⟩
abbrev S1024x768 : Shape := ⟨2, ![1024, 768]⟩
abbrev S1024x128 : Shape := ⟨2, ![1024, 128]⟩
abbrev S1024x512 : Shape := ⟨2, ![1024, 512]⟩
abbrev S1024x256 : Shape := ⟨2, ![1024, 256]⟩
abbrev S1040x768 : Shape := ⟨2, ![1040, 768]⟩
abbrev S1040x1024 : Shape := ⟨2, ![1040, 1024]⟩
abbrev S1040 : Shape := ⟨1, ![1040]⟩
abbrev S1040x1 : Shape := ⟨2, ![1040, 1]⟩
abbrev S1x1024x896 : Shape := ⟨3, ![1, 1024, 896]⟩
abbrev S1024x896 : Shape := ⟨2, ![1024, 896]⟩
abbrev S1040x896 : Shape := ⟨2, ![1040, 896]⟩
abbrev S8x768 : Shape := ⟨2, ![8, 768]⟩
abbrev S1x1024x1024 : Shape := ⟨3, ![1, 1024, 1024]⟩
abbrev S512x768 : Shape := ⟨2, ![512, 768]⟩
abbrev S1x768 : Shape := ⟨2, ![1, 768]⟩
abbrev S512x256 : Shape := ⟨2, ![512, 256]⟩

abbrev nBuf : Space → Nat
  | .hbm => 38
  | .vmem => 34
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S4x1024x2608, .f32⟩
  | .hbm, ⟨3, _⟩ => ⟨S5x768, .f32⟩
  | .hbm, ⟨4, _⟩ => ⟨S2x4, .f32⟩
  | .hbm, ⟨5, _⟩ => ⟨S2x4, .f32⟩
  | .hbm, ⟨6, _⟩ => ⟨S16384x1024, .f32⟩
  | .hbm, ⟨7, _⟩ => ⟨S4x1024x2944, .bf16⟩
  | .hbm, ⟨8, _⟩ => ⟨S1x1024, .f32⟩
  | .hbm, ⟨9, _⟩ => ⟨S2x4, .f32⟩
  | .hbm, ⟨10, _⟩ => ⟨S2x4, .f32⟩
  | .hbm, ⟨11, _⟩ => ⟨S_, .f32⟩
  | .hbm, ⟨12, _⟩ => ⟨S1x128, .f32⟩
  | .hbm, ⟨13, _⟩ => ⟨S8, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S1x128, .f32⟩
  | .hbm, ⟨20, _⟩ => ⟨S_, .f32⟩
  | .hbm, ⟨21, _⟩ => ⟨S1x128, .f32⟩
  | .hbm, ⟨22, _⟩ => ⟨S8, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S1x128, .f32⟩
  | .hbm, ⟨29, _⟩ => ⟨S16384x768, .f32⟩
  | .hbm, ⟨30, _⟩ => ⟨S16384x128, .f32⟩
  | .hbm, ⟨31, _⟩ => ⟨S16384x512, .bf16⟩
  | .hbm, ⟨32, _⟩ => ⟨S16384x512, .bf16⟩
  | .hbm, ⟨33, _⟩ => ⟨S16384x256, .f32⟩
  | .hbm, ⟨34, _⟩ => ⟨S16384x256, .f32⟩
  | .hbm, ⟨35, _⟩ => ⟨S16384x256, .f32⟩
  | .hbm, ⟨36, _⟩ => ⟨S16384x256, .f32⟩
  | .hbm, ⟨37, _⟩ => ⟨S16384x128, .f32⟩
  | .local _ .vmem, ⟨0, _⟩ => ⟨S1x256x2608, .f32⟩
  | .local _ .vmem, ⟨1, _⟩ => ⟨S1x256x2608, .f32⟩
  | .local _ .vmem, ⟨2, _⟩ => ⟨S1x256x2944, .bf16⟩
  | .local _ .vmem, ⟨3, _⟩ => ⟨S1x256x2944, .bf16⟩
  | .local _ .vmem, ⟨4, _⟩ => ⟨S8x1024, .f32⟩
  | .local _ .vmem, ⟨5, _⟩ => ⟨S8x1024, .f32⟩
  | .local _ .vmem, ⟨6, _⟩ => ⟨S1024x1024, .f32⟩
  | .local _ .vmem, ⟨7, _⟩ => ⟨S1024x1024, .f32⟩
  | .local _ .vmem, ⟨8, _⟩ => ⟨S8x1024, .f32⟩
  | .local _ .vmem, ⟨9, _⟩ => ⟨S8x1024, .f32⟩
  | .local _ .vmem, ⟨10, _⟩ => ⟨S1x1024, .f32⟩
  | .local _ .vmem, ⟨11, _⟩ => ⟨S1x1024x2944, .bf16⟩
  | .local _ .vmem, ⟨12, _⟩ => ⟨S5x768, .f32⟩
  | .local _ .vmem, ⟨13, _⟩ => ⟨S1x128, .f32⟩
  | .local _ .vmem, ⟨14, _⟩ => ⟨S1x128, .f32⟩
  | .local _ .vmem, ⟨15, _⟩ => ⟨S1024x768, .f32⟩
  | .local _ .vmem, ⟨16, _⟩ => ⟨S1024x768, .f32⟩
  | .local _ .vmem, ⟨17, _⟩ => ⟨S1024x128, .f32⟩
  | .local _ .vmem, ⟨18, _⟩ => ⟨S1024x128, .f32⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x128, .f32⟩
  | .local _ .vmem, ⟨32, _⟩ => ⟨S1024x128, .f32⟩
  | .local _ .vmem, ⟨33, _⟩ => ⟨S1040x768, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev main_v17_3 : Ref sig .tc := ⟨.hbm, 32, rfl⟩
abbrev main_v17_4 : Ref sig .tc := ⟨.hbm, 33, rfl⟩
abbrev main_v17_5 : Ref sig .tc := ⟨.hbm, 34, rfl⟩
abbrev main_v17_6 : Ref sig .tc := ⟨.hbm, 35, rfl⟩
abbrev main_v17_7 : Ref sig .tc := ⟨.hbm, 36, rfl⟩
abbrev main_v17_8 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc1_stg11_0 : Ref sig .tc := ⟨.vmem, 21, rfl⟩
abbrev cc1_stg11_1 : Ref sig .tc := ⟨.vmem, 22, rfl⟩
abbrev cc1_stg12_0 : Ref sig .tc := ⟨.vmem, 23, rfl⟩
abbrev cc1_stg12_1 : Ref sig .tc := ⟨.vmem, 24, rfl⟩
abbrev cc1_stg13_0 : Ref sig .tc := ⟨.vmem, 25, rfl⟩
abbrev cc1_stg13_1 : Ref sig .tc := ⟨.vmem, 26, rfl⟩
abbrev cc1_stg14_0 : Ref sig .tc := ⟨.vmem, 27, rfl⟩
abbrev cc1_stg14_1 : Ref sig .tc := ⟨.vmem, 28, rfl⟩
abbrev cc1_stg15_0 : Ref sig .tc := ⟨.vmem, 29, rfl⟩
abbrev cc1_stg15_1 : Ref sig .tc := ⟨.vmem, 30, rfl⟩
abbrev cc1_stg16_0 : Ref sig .tc := ⟨.vmem, 31, rfl⟩
abbrev cc1_stg16_1 : Ref sig .tc := ⟨.vmem, 32, rfl⟩
abbrev cc1_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem8_1 : DmaSem sig := 16
abbrev cc1_sem9_0 : DmaSem sig := 17
abbrev cc1_sem9_1 : DmaSem sig := 18
abbrev cc1_sem10_0 : DmaSem sig := 19
abbrev cc1_sem10_1 : DmaSem sig := 20
abbrev cc1_sem11_0 : DmaSem sig := 21
abbrev cc1_sem11_1 : DmaSem sig := 22
abbrev cc1_sem12_0 : DmaSem sig := 23
abbrev cc1_sem12_1 : DmaSem sig := 24
abbrev cc1_sem13_0 : DmaSem sig := 25
abbrev cc1_sem13_1 : DmaSem sig := 26
abbrev cc1_sem14_0 : DmaSem sig := 27
abbrev cc1_sem14_1 : DmaSem sig := 28
abbrev cc1_sem15_0 : DmaSem sig := 29
abbrev cc1_sem15_1 : DmaSem sig := 30
abbrev cc1_sem16_0 : DmaSem sig := 31
abbrev cc1_sem16_1 : DmaSem sig := 32

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024x2944 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S5x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1024x768 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1024x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1024x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1024x512 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1024x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1024x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1024x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1024x256 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1024x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]
-- ==== InProjRefIdeal.lean ====
abbrev S8x2048x1024 : Shape := ⟨3, ![8, 2048, 1024]⟩
abbrev S1024 : Shape := ⟨1, ![1024]⟩
abbrev S4x1024x2608 : Shape := ⟨3, ![4, 1024, 2608]⟩
abbrev S5x768 : Shape := ⟨2, ![5, 768]⟩
abbrev S2x4 : Shape := ⟨2, ![2, 4]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2608 : Shape := ⟨3, ![1, 1024, 2608]⟩
abbrev S1024x2608 : Shape := ⟨2, ![1024, 2608]⟩
abbrev S8x2048x2608 : Shape := ⟨3, ![8, 2048, 2608]⟩
abbrev S8x2048x128 : Shape := ⟨3, ![8, 2048, 128]⟩
abbrev S8x2048x256 : Shape := ⟨3, ![8, 2048, 256]⟩
abbrev S8x2048x32 : Shape := ⟨3, ![8, 2048, 32]⟩
abbrev S8x2048x512 : Shape := ⟨3, ![8, 2048, 512]⟩
abbrev S8x2048x768 : Shape := ⟨3, ![8, 2048, 768]⟩
abbrev S8x2048x8 : Shape := ⟨3, ![8, 2048, 8]⟩
abbrev S8x2048x48 : Shape := ⟨3, ![8, 2048, 48]⟩
abbrev S16384x48 : Shape := ⟨2, ![16384, 48]⟩
abbrev S16384x128 : Shape := ⟨2, ![16384, 128]⟩
abbrev S16384x512 : Shape := ⟨2, ![16384, 512]⟩
abbrev S8x2048x2x64 : Shape := ⟨4, ![8, 2048, 2, 64]⟩
abbrev S8x2048x2x2x64 : Shape := ⟨5, ![8, 2048, 2, 2, 64]⟩
abbrev S8x2048x4x64 : Shape := ⟨4, ![8, 2048, 4, 64]⟩
abbrev S16384x256 : Shape := ⟨2, ![16384, 256]⟩
abbrev S8x2052x768 : Shape := ⟨3, ![8, 2052, 768]⟩
abbrev S1x768 : Shape := ⟨2, ![1, 768]⟩
abbrev S768 : Shape := ⟨1, ![768]⟩
abbrev S1x1x768 : Shape := ⟨3, ![1, 1, 768]⟩
abbrev S8x4x2048x64 : Shape := ⟨4, ![8, 4, 2048, 64]⟩
abbrev S8x4x2048 : Shape := ⟨3, ![8, 4, 2048]⟩
abbrev S8x4x2048x1 : Shape := ⟨4, ![8, 4, 2048, 1]⟩
abbrev S8x2048x2x4 : Shape := ⟨4, ![8, 2048, 2, 4]⟩
abbrev S1x1x2x4 : Shape := ⟨4, ![1, 1, 2, 4]⟩
abbrev S16384x768 : Shape := ⟨2, ![16384, 768]⟩
abbrev S8x2048x16 : Shape := ⟨3, ![8, 2048, 16]⟩
abbrev S16384x16 : Shape := ⟨2, ![16384, 16]⟩

abbrev nBuf : Space → Nat
  | .hbm => 181
  | .vmem => 0
  | .smem => 0
  | _ => 0

abbrev hbmTy0_0 (i : Nat) : BufTy := match i % 128 with
  | 0 => ⟨S8x2048x1024, .f32⟩
  | 1 => ⟨S1024, .f32⟩
  | 2 => ⟨S4x1024x2608, .f32⟩
  | 3 => ⟨S5x768, .f32⟩
  | 4 => ⟨S2x4, .f32⟩
  | 5 => ⟨S2x4, .f32⟩
  | 6 => ⟨S8x2048x1024, .f32⟩
  | 7 => ⟨S_, .f32⟩
  | 8 => ⟨S8x2048, .f32⟩
  | 9 => ⟨S8x2048x1, .f32⟩
  | 10 => ⟨S_, .f32⟩
  | 11 => ⟨S8x2048x1, .f32⟩
  | 12 => ⟨S8x2048x1, .f32⟩
  | 13 => ⟨S_, .f32⟩
  | 14 => ⟨S8x2048x1, .f32⟩
  | 15 => ⟨S8x2048x1, .f32⟩
  | 16 => ⟨S8x2048x1, .f32⟩
  | 17 => ⟨S8x2048x1024, .f32⟩
  | 18 => ⟨S8x2048x1024, .f32⟩
  | 19 => ⟨S1x1x1024, .f32⟩
  | 20 => ⟨S8x2048x1024, .f32⟩
  | 21 => ⟨S8x2048x1024, .f32⟩
  | 22 => ⟨S1x1024x2608, .f32⟩
  | 23 => ⟨S1024x2608, .f32⟩
  | 24 => ⟨S8x2048x2608, .f32⟩
  | 25 => ⟨S8x2048x128, .f32⟩
  | 26 => ⟨S8x2048x128, .f32⟩
  | 27 => ⟨S8x2048x256, .f32⟩
  | 28 => ⟨S8x2048x256, .f32⟩
  | 29 => ⟨S8x2048x32, .f32⟩
  | 30 => ⟨S8x2048x512, .f32⟩
  | 31 => ⟨S8x2048x128, .f32⟩
  | 32 => ⟨S8x2048x128, .f32⟩
  | 33 => ⟨S8x2048x768, .f32⟩
  | 34 => ⟨S8x2048x256, .f32⟩
  | 35 => ⟨S8x2048x8, .f32⟩
  | 36 => ⟨S8x2048x8, .f32⟩
  | 37 => ⟨S8x2048x48, .f32⟩
  | 38 => ⟨S16384x48, .f32⟩
  | 39 => ⟨S_, .i32⟩
  | 40 => ⟨S_, .f32⟩
  | 41 => ⟨S16384x128, .f32⟩
  | 42 => ⟨S16384x512, .f32⟩
  | 43 => ⟨S16384x512, .bf16⟩
  | 44 => ⟨S8x2048x2x64, .f32⟩
  | 45 => ⟨S8x2048x2x2x64, .f32⟩
  | 46 => ⟨S8x2048x4x64, .f32⟩
  | 47 => ⟨S8x2048x256, .f32⟩
  | 48 => ⟨S8x2048x2x64, .f32⟩
  | 49 => ⟨S8x2048x2x2x64, .f32⟩
  | 50 => ⟨S8x2048x4x64, .f32⟩
  | 51 => ⟨S8x2048x256, .f32⟩
  | 52 => ⟨S8x2048x512, .f32⟩
  | 53 => ⟨S16384x512, .f32⟩
  | 54 => ⟨S16384x512, .bf16⟩
  | 55 => ⟨S8x2048x256, .f32⟩
  | 56 => ⟨S16384x256, .f32⟩
  | 57 => ⟨S16384x256, .f32⟩
  | 58 => ⟨S16384x256, .f32⟩
  | 59 => ⟨S16384x256, .f32⟩
  | 60 => ⟨S_, .i32⟩
  | 61 => ⟨S_, .f32⟩
  | 62 => ⟨S8x2052x768, .f32⟩
  | 63 => ⟨S8x2048x768, .f32⟩
  | 64 => ⟨S1x768, .f32⟩
  | 65 => ⟨S768, .f32⟩
  | 66 => ⟨S1x1x768, .f32⟩
  | 67 => ⟨S8x2048x768, .f32⟩
  | 68 => ⟨S8x2048x768, .f32⟩
  | 69 => ⟨S8x2048x768, .f32⟩
  | 70 => ⟨S1x768, .f32⟩
  | 71 => ⟨S768, .f32⟩
  | 72 => ⟨S1x1x768, .f32⟩
  | 73 => ⟨S8x2048x768, .f32⟩
  | 74 => ⟨S8x2048x768, .f32⟩
  | 75 => ⟨S8x2048x768, .f32⟩
  | 76 => ⟨S8x2048x768, .f32⟩
  | 77 => ⟨S1x768, .f32⟩
  | 78 => ⟨S768, .f32⟩
  | 79 => ⟨S1x1x768, .f32⟩
  | 80 => ⟨S8x2048x768, .f32⟩
  | 81 => ⟨S8x2048x768, .f32⟩
  | 82 => ⟨S8x2048x768, .f32⟩
  | 83 => ⟨S8x2048x768, .f32⟩
  | 84 => ⟨S1x768, .f32⟩
  | 85 => ⟨S768, .f32⟩
  | 86 => ⟨S1x1x768, .f32⟩
  | 87 => ⟨S8x2048x768, .f32⟩
  | 88 => ⟨S8x2048x768, .f32⟩
  | 89 => ⟨S8x2048x768, .f32⟩
  | 90 => ⟨S8x2048x768, .f32⟩
  | 91 => ⟨S1x768, .f32⟩
  | 92 => ⟨S768, .f32⟩
  | 93 => ⟨S1x1x768, .f32⟩
  | 94 => ⟨S8x2048x768, .f32⟩
  | 95 => ⟨S8x2048x768, .f32⟩
  | 96 => ⟨S8x2048x768, .f32⟩
  | 97 => ⟨S8x2048x768, .f32⟩
  | 98 => ⟨S8x2048x768, .f32⟩
  | 99 => ⟨S_, .f32⟩
  | 100 => ⟨S8x2048x768, .f32⟩
  | 101 => ⟨S8x2048x768, .f32⟩
  | 102 => ⟨S_, .f32⟩
  | 103 => ⟨S8x2048x768, .f32⟩
  | 104 => ⟨S8x2048x768, .f32⟩
  | 105 => ⟨S8x2048x768, .f32⟩
  | 106 => ⟨S8x2048x256, .f32⟩
  | 107 => ⟨S8x2048x256, .f32⟩
  | 108 => ⟨S8x2048x256, .f32⟩
  | 109 => ⟨S8x2048x4x64, .f32⟩
  | 110 => ⟨S8x4x2048x64, .f32⟩
  | 111 => ⟨S8x4x2048x64, .f32⟩
  | 112 => ⟨S_, .f32⟩
  | 113 => ⟨S8x4x2048, .f32⟩
  | 114 => ⟨S8x4x2048x1, .f32⟩
  | 115 => ⟨S_, .f32⟩
  | 116 => ⟨S8x4x2048x1, .f32⟩
  | 117 => ⟨S8x4x2048x1, .f32⟩
  | 118 => ⟨S8x4x2048x1, .f32⟩
  | 119 => ⟨S8x4x2048x64, .f32⟩
  | 120 => ⟨S8x4x2048x64, .f32⟩
  | 121 => ⟨S_, .f32⟩
  | 122 => ⟨S8x4x2048x64, .f32⟩
  | 123 => ⟨S8x4x2048x64, .f32⟩
  | 124 => ⟨S8x2048x4x64, .f32⟩
  | 125 => ⟨S8x4x2048x64, .f32⟩
  | 126 => ⟨S8x4x2048x64, .f32⟩
  | 127 => ⟨S_, .f32⟩
  | _ => ⟨S8x2048x1024, .f32⟩

abbrev hbmTy0_1 (i : Nat) : BufTy := match i % 128 with
  | 0 => ⟨S8x4x2048, .f32⟩
  | 1 => ⟨S8x4x2048x1, .f32⟩
  | 2 => ⟨S_, .f32⟩
  | 3 => ⟨S8x4x2048x1, .f32⟩
  | 4 => ⟨S8x4x2048x1, .f32⟩
  | 5 => ⟨S8x4x2048x1, .f32⟩
  | 6 => ⟨S8x4x2048x64, .f32⟩
  | 7 => ⟨S8x4x2048x64, .f32⟩
  | 8 => ⟨S8x2048x2x4, .f32⟩
  | 9 => ⟨S8x2048x2x4, .f32⟩
  | 10 => ⟨S8x2048x2x4, .f32⟩
  | 11 => ⟨S_, .f32⟩
  | 12 => ⟨S8x2048x2x4, .f32⟩
  | 13 => ⟨S8x2048x2x4, .f32⟩
  | 14 => ⟨S_, .f32⟩
  | 15 => ⟨S8x2048x2x4, .f32⟩
  | 16 => ⟨S8x2048x2x4, .f32⟩
  | 17 => ⟨S2x4, .f32⟩
  | 18 => ⟨S2x4, .f32⟩
  | 19 => ⟨S8x2048x2x4, .f32⟩
  | 20 => ⟨S1x1x2x4, .f32⟩
  | 21 => ⟨S8x2048x2x4, .f32⟩
  | 22 => ⟨S8x2048x2x4, .f32⟩
  | 23 => ⟨S_, .f32⟩
  | 24 => ⟨S8x2048x2x4, .f32⟩
  | 25 => ⟨S8x2048x2x4, .f32⟩
  | 26 => ⟨S8x2048x2x4, .f32⟩
  | 27 => ⟨S8x2048x2x4, .f32⟩
  | 28 => ⟨S8x2048x2x4, .i1⟩
  | 29 => ⟨S8x2048x2x4, .f32⟩
  | 30 => ⟨S8x2048x2x4, .f32⟩
  | 31 => ⟨S8x2048x2x4, .f32⟩
  | 32 => ⟨S8x2048x2x4, .f32⟩
  | 33 => ⟨S8x2048x2x4, .f32⟩
  | 34 => ⟨S8x2048x2x4, .f32⟩
  | 35 => ⟨S8x2048x2x4, .f32⟩
  | 36 => ⟨S8x2048x2x4, .f32⟩
  | 37 => ⟨S1x1x2x4, .f32⟩
  | 38 => ⟨S8x2048x2x4, .f32⟩
  | 39 => ⟨S8x2048x2x4, .f32⟩
  | 40 => ⟨S8x2048x4x64, .f32⟩
  | 41 => ⟨S8x2048x256, .f32⟩
  | 42 => ⟨S8x2048x4x64, .f32⟩
  | 43 => ⟨S8x2048x256, .f32⟩
  | 44 => ⟨S8x2048x768, .f32⟩
  | 45 => ⟨S16384x768, .f32⟩
  | 46 => ⟨S8x2048x8, .f32⟩
  | 47 => ⟨S8x2048x8, .f32⟩
  | 48 => ⟨S8x2048x16, .f32⟩
  | 49 => ⟨S16384x16, .f32⟩
  | 50 => ⟨S_, .i32⟩
  | 51 => ⟨S_, .f32⟩
  | 52 => ⟨S16384x128, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_call0_v0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_2 : Ref sig .tc := ⟨.hbm, 60, rfl⟩
abbrev main_call1_v0 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_call2_v0 : Ref sig .tc := ⟨.hbm, 97, rfl⟩
abbrev main_call2_v1 : Ref sig .tc := ⟨.hbm, 98, rfl⟩
abbrev main_call2_cst : Ref sig .tc := ⟨.hbm, 99, rfl⟩
abbrev main_call2_v2 : Ref sig .tc := ⟨.hbm, 100, rfl⟩
abbrev main_call2_v3 : Ref sig .tc := ⟨.hbm, 101, rfl⟩
abbrev main_call2_cst_0 : Ref sig .tc := ⟨.hbm, 102, rfl⟩
abbrev main_call2_v4 : Ref sig .tc := ⟨.hbm, 103, rfl⟩
abbrev main_call2_v5 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_3 : Ref sig .tc := ⟨.hbm, 112, rfl⟩
abbrev main_v91 : Ref sig .tc := ⟨.hbm, 113, rfl⟩
abbrev main_v92 : Ref sig .tc := ⟨.hbm, 114, rfl⟩
abbrev main_cst_4 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_5 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_6 : Ref sig .tc := ⟨.hbm, 127, rfl⟩
abbrev main_v103 : Ref sig .tc := ⟨.hbm, 128, rfl⟩
abbrev main_v104 : Ref sig .tc := ⟨.hbm, 129, rfl⟩
abbrev main_cst_7 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_8 : Ref sig .tc := ⟨.hbm, 139, rfl⟩
abbrev main_v113 : Ref sig .tc := ⟨.hbm, 140, rfl⟩
abbrev main_v114 : Ref sig .tc := ⟨.hbm, 141, rfl⟩
abbrev main_cst_9 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_call3_cst : Ref sig .tc := ⟨.hbm, 151, rfl⟩
abbrev main_call3_v0 : Ref sig .tc := ⟨.hbm, 152, rfl⟩
abbrev main_call3_v1 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_call3_v5 : Ref sig .tc := ⟨.hbm, 157, rfl⟩
abbrev main_call3_v6 : Ref sig .tc := ⟨.hbm, 158, rfl⟩
abbrev main_call3_v7 : Ref sig .tc := ⟨.hbm, 159, rfl⟩
abbrev main_call3_v8 : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_c_10 : Ref sig .tc := ⟨.hbm, 178, rfl⟩
abbrev main_call4_v0 : Ref sig .tc := ⟨.hbm, 179, rfl⟩
abbrev main_v137 : Ref sig .tc := ⟨.hbm, 180, rfl⟩

abbrev nD : Nat := 1
abbrev τ : Topo := Topo.v7x

variable {F : FTy → Type} [FloatOps F]
-- ==== Proof.OutMlp.Spec.lean ====
/-
  What the output half of a layer computes for ONE token, as a function of that token's rows: the two gated group norms, the
  output projection of the three mixers' results side by side, the residual with its root-mean-square norm, and the squared-ReLU
  MLP with its own. Both programs' results are read as this function of their arguments' rows.
-/
module

public import Idealize.ShloMosaic.Lib.Pointwise
public import Idealize.ShloMosaic.Lib.IdealHost
public import Idealize.ShloMosaic.PureOps.Ideal.Laws

@[expose] public section

noncomputable section

namespace Cert.Proof.OutMlp

open Idealize.ShloMosaic

/-- The variance offset of every norm. -/
def eps : EReal := Ideal.ofBits .f32 0x358637BD#32

/-- The width of a model row, as the divisor of its mean square. -/
def width : EReal := Ideal.ofBits .f32 0x44800000#32

/-- The lane of head `h`'s `c`-th element. -/
abbrev lane (j : Fin 256) (c : Fin 64) : Fin 256 := ⟨j.val / 64 * 64 + c.val, by omega⟩

/-- The sum of squares of the 64 lanes of lane `j`'s head. -/
def headSq (o : Fin 256 → EReal) (j : Fin 256) : EReal := ∑ c : Fin 64, o (lane j c) * o (lane j c)

/-- `gate · logistic gate`. -/
def silu (x : EReal) : EReal := x * Ideal.div 1 (1 + Ideal.exp (-x))

/-- The group norm of `o` with gain `g`, gated by `z`. -/
def gated (o z g : Fin 256 → EReal) (j : Fin 256) : EReal :=
  o j * Ideal.rsqrt (Ideal.div (headSq o j) (((64 : ℝ)) : EReal) + eps) * g j * silu (z j)

/-- The root-mean-square norm of a model row. -/
def rms (f g : Fin 1024 → EReal) (j : Fin 1024) : EReal :=
  f j * Ideal.rsqrt (Ideal.div (∑ k, f k * f k) width + eps) * g j

/-- The output projection: the three mixers' rows side by side against the matrix. -/
def project (a : Fin 256 → EReal) (b : Fin 512 → EReal) (d : Fin 256 → EReal) (w : Fin 1024 → Fin 1024 → EReal) (j : Fin 1024) : EReal :=
  (∑ k : Fin 256, a k * w ⟨k.val, by omega⟩ j) + (∑ k : Fin 512, b k * w ⟨256 + k.val, by omega⟩ j)
    + ∑ k : Fin 256, d k * w ⟨768 + k.val, by omega⟩ j

/-- The squared ReLU of the hidden layer. -/
def hidden (h : Fin 1024 → EReal) (w : Fin 1024 → Fin 4096 → EReal) (c : Fin 4096) : EReal :=
  max (∑ k, h k * w k c) 0 * max (∑ k, h k * w k c) 0

/-- The MLP of a normed row. -/
def mlp (h : Fin 1024 → EReal) (w1 : Fin 1024 → Fin 4096 → EReal) (w2 : Fin 4096 → Fin 1024 → EReal) (j : Fin 1024) : EReal :=
  ∑ c : Fin 4096, hidden h w1 c * w2 c j

/-- The MLP summed in two halves of the hidden layer. -/
theorem mlp_halves (h : Fin 1024 → EReal) (w1 : Fin 1024 → Fin 4096 → EReal) (w2 : Fin 4096 → Fin 1024 → EReal) (j : Fin 1024) :
    mlp h w1 w2 j = (∑ c : Fin 2048, hidden h w1 ⟨c.val, by omega⟩ * w2 ⟨c.val, by omega⟩ j)
      + ∑ c : Fin 2048, hidden h w1 ⟨2048 + c.val, by omega⟩ * w2 ⟨2048 + c.val, by omega⟩ j :=
  Fin.sum_univ_two_halves 2048 2048 rfl fun c => hidden h w1 c * w2 c j

/-- The row after the first residual. -/
def mid (a : Fin 256 → EReal) (b : Fin 512 → EReal) (d : Fin 256 → EReal) (x : Fin 1024 → EReal)
    (wo : Fin 1024 → Fin 1024 → EReal) (g1 : Fin 1024 → EReal) (j : Fin 1024) : EReal :=
  x j + rms (project a b d wo) g1 j

/-- The row after the second residual. -/
def last (y : Fin 1024 → EReal) (g2 : Fin 1024 → EReal) (w1 : Fin 1024 → Fin 4096 → EReal) (w2 : Fin 4096 → Fin 1024 → EReal)
    (g3 : Fin 1024 → EReal) (j : Fin 1024) : EReal :=
  y j + rms (mlp (rms y g2) w1 w2) g3 j

/-- The bits of 64.0. -/
theorem ofBits_64 : Ideal.ofBits .f32 0x42800000#32 = (((64 : ℝ)) : EReal) := by
  simp [Ideal.ofBits, Ideal.ieee]; rw [← EReal.coe_mul]; norm_num

/-- The bits of 1/64. -/
theorem ofBits_inv64 : Ideal.ofBits .f32 0x3C800000#32 = (((1 / 64 : ℝ)) : EReal) := by
  simp [Ideal.ofBits, Ideal.ieee]; rw [← EReal.coe_mul]; norm_num

/-- Multiplying by 1/64 is dividing by 64. -/
theorem mul_inv64 (x : EReal) : x * (((1 / 64 : ℝ)) : EReal) = Ideal.div x (((64 : ℝ)) : EReal) := by
  rw [Ideal.div_coe (by norm_num)]

/-- Summing against the indicator of lane `j`'s head is summing over that head's lanes. -/
theorem sum_indicator (f : Fin 256 → EReal) (j : Fin 256) :
    ∑ k : Fin 256, f k * (if k.val / 64 = j.val / 64 then 1 else 0) = ∑ c : Fin 64, f (lane j c) := by
  simp only [mul_ite, mul_one, mul_zero]
  rw [← Finset.sum_filter]
  symm
  refine Finset.sum_nbij' (fun c => lane j c) (fun k => ⟨k.val % 64, by omega⟩) ?_ ?_ ?_ ?_ ?_
  · intro c _; simp only [Finset.mem_filter, Finset.mem_univ, true_and]; show (j.val / 64 * 64 + c.val) / 64 = j.val / 64; omega
  · intro k _; simp
  · intro c _; apply Fin.ext; show (j.val / 64 * 64 + c.val) % 64 = c.val; omega
  · intro k hk; simp only [Finset.mem_filter, Finset.mem_univ, true_and] at hk; apply Fin.ext
    show j.val / 64 * 64 + k.val % 64 = k.val; omega
  · intro c _; rfl

end Cert.Proof.OutMlp

end
-- ==== Proof.OutMlp.Kernel.lean ====
/-
  The kernel's payloads read at a row and a lane: each is the corresponding row function of `Spec`.
-/
module

public import proofs.«01_k».proof.Proof.OutMlp.Spec
public import proofs.«01_k».proof.Proof.Gen.OutMlpIdeal.Skeleton

@[expose] public section

set_option maxRecDepth 16384

noncomputable section

namespace Cert.Proof.OutMlp

open Idealize.ShloMosaic Idealize.ShloMosaic.TcCoe
open Cert.OutMlpIdeal Cert.OutMlpIdeal.Gen

/-- The printed lane's head, in the words the kernel computes it with: a floor division by 64. -/
theorem head_word : ∀ k : Fin 256,
    Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 k.val) 64#32) 0#32))
      (IntOp.subi (IntOp.divsi ArithUnit.vector (BitVec.ofNat 32 k.val) 64#32) 1#32)
      (IntOp.divsi ArithUnit.vector (BitVec.ofNat 32 k.val) 64#32)
    = BitVec.ofNat 32 (k.val / 64) := by
  decide +kernel

/-- An equality of words of head numbers, widened and read as a float. -/
theorem eq_word : ∀ a b : Fin 4,
    BitVec.setWidth 32 (IntOp.cmpi CmpIPredicate.eq (BitVec.ofNat 32 a.val) (BitVec.ofNat 32 b.val))
      = if a.val = b.val then 1#32 else 0#32 := by
  decide +kernel

/-- The printed group indicator: 1 where the two lanes belong to one head. -/
theorem indicator (k j : Fin 256) :
    k0_pay6 (F := Ideal) k0_pay2 k0_pay3 k0_pay4 k0_pay5 (ix2 k j) = (if k.val / 64 = j.val / 64 then 1 else 0 : EReal) := by
  pointwise [k0_pay6, k0_pay2, k0_pay3, k0_pay4, k0_pay5]
  rw [head_word, head_word]
  have h := eq_word ⟨k.val / 64, by omega⟩ ⟨j.val / 64, by omega⟩
  dsimp only at h
  rw [h]
  split <;> simp [FloatOps.sitofp]

/-- The gated group norm of the linear-attention mixer. -/
theorem gated_gla (a b z : FVec Ideal S512x256 .f32) (g : FVec Ideal S1x256 .f32) (r : Fin 512) (j : Fin 256) :
    k0_pay7 (F := Ideal) k0_pay2 k0_pay3 k0_pay4 k0_pay5 a b z g (ix2 r j)
      = gated (fun k => a (ix2 r k) + b (ix2 r k)) (fun k => z (ix2 r k)) (fun k => g (ix2 0 k)) j := by
  pointwise [k0_pay7, gated, indicator, silu, headSq, eps]
  rw [sum_indicator (fun k => (a (ix2 r k) + b (ix2 r k)) * (a (ix2 r k) + b (ix2 r k))) j, ofBits_inv64, mul_inv64, zero_sub]

/-- The gated group norm of the delta-rule mixer. -/
theorem gated_dn (a b z : FVec Ideal S512x256 .f32) (g : FVec Ideal S1x256 .f32) (r : Fin 512) (j : Fin 256) :
    k0_pay9 (F := Ideal) (k0_pay6 (F := Ideal) k0_pay2 k0_pay3 k0_pay4 k0_pay5) (k0_pay8 (F := Ideal) a) b z g (ix2 r j)
      = gated (fun k => a (ix2 r k) + b (ix2 r k)) (fun k => z (ix2 r k)) (fun k => g (ix2 0 k)) j := by
  pointwise [k0_pay9, k0_pay8, gated, indicator, silu, headSq, eps]
  rw [sum_indicator (fun k => (a (ix2 r k) + b (ix2 r k)) * (a (ix2 r k) + b (ix2 r k))) j, ofBits_inv64, mul_inv64, zero_sub]

/-- The first two products of the output projection. -/
theorem proj (y : FVec Ideal S512x256 .bf16) (wa : FVec Ideal S1x256x1024 .bf16) (s : FVec Ideal S512x512 .bf16)
    (wb : FVec Ideal S1x512x1024 .bf16) (r : Fin 512) (j : Fin 1024) :
    k0_pay10 (F := Ideal) y wa s wb (ix2 r j) = (∑ k : Fin 256, y (ix2 r k) * wa (ix3 0 k j)) + ∑ k : Fin 512, s (ix2 r k) * wb (ix3 0 k j) := by
  pointwise [k0_pay10]

/-- The row after the first residual. -/
theorem p11 (y : FVec Ideal S512x256 .bf16) (p : FVec Ideal S512x1024 .f32) (wd : FVec Ideal S1x256x1024 .bf16)
    (x : FVec Ideal S512x1024 .f32) (g : FVec Ideal S1x1024 .f32) (r : Fin 512) (j : Fin 1024) :
    k0_pay11 (F := Ideal) y p wd x g (ix2 r j)
      = x (ix2 r j) + rms (fun j => p (ix2 r j) + ∑ k : Fin 256, y (ix2 r k) * wd (ix3 0 k j)) (fun k => g (ix2 0 k)) j := by
  pointwise [k0_pay11, rms, width, eps]

/-- Its norm. -/
theorem p12 (y : FVec Ideal S512x256 .bf16) (p : FVec Ideal S512x1024 .f32) (wd : FVec Ideal S1x256x1024 .bf16)
    (x : FVec Ideal S512x1024 .f32) (g g2 : FVec Ideal S1x1024 .f32) (r : Fin 512) (j : Fin 1024) :
    k0_pay12 (F := Ideal) y p wd x g g2 (ix2 r j)
      = rms (fun j => k0_pay11 (F := Ideal) y p wd x g (ix2 r j)) (fun k => g2 (ix2 0 k)) j := by
  pointwise [k0_pay12, rms, width, eps]

/-- The first half of the hidden layer before it is squared. -/
theorem p14 (y : FVec Ideal S512x256 .bf16) (p : FVec Ideal S512x1024 .f32) (wd : FVec Ideal S1x256x1024 .bf16)
    (x : FVec Ideal S512x1024 .f32) (g g2 : FVec Ideal S1x1024 .f32) (w : FVec Ideal S1x1024x2048 .bf16) (r : Fin 512) (c : Fin 2048) :
    k0_pay14 (F := Ideal) y p wd x g g2 w (ix2 r c)
      = max (∑ k : Fin 1024, k0_pay12 (F := Ideal) y p wd x g g2 (ix2 r k) * w (ix3 0 k c)) 0 := by
  pointwise [k0_pay14]

/-- The row after the second residual, from the first half of the hidden layer and the normed row. -/
theorem p1 (y : FVec Ideal S512x1024 .f32) (h : FVec Ideal S512x1024 .bf16) (f : FVec Ideal S512x2048 .f32)
    (wa : FVec Ideal S1x2048x1024 .bf16) (wb : FVec Ideal S1x1024x2048 .bf16) (wc : FVec Ideal S1x2048x1024 .bf16)
    (g : FVec Ideal S1x1024 .f32) (r : Fin 512) (j : Fin 1024) :
    k0_pay1 (F := Ideal) y h (k0_pay13 (F := Ideal)) f wa wb wc g (ix2 r j)
      = y (ix2 r j) + rms (fun j => (∑ c : Fin 2048, f (ix2 r c) * f (ix2 r c) * wa (ix3 0 c j))
          + ∑ c : Fin 2048, max (∑ k : Fin 1024, h (ix2 r k) * wb (ix3 0 k c)) 0 * max (∑ k : Fin 1024, h (ix2 r k) * wb (ix3 0 k c)) 0
              * wc (ix3 0 c j)) (fun k => g (ix2 0 k)) j := by
  pointwise [k0_pay1, k0_pay13, rms, width, eps]

end Cert.Proof.OutMlp

end
-- ==== Proof.OutMlp.Block.lean ====
/-
  What one grid point of the kernel leaves in its block of the result, at a row and a lane: the token's row function of the
  point's blocks.
-/
module

public import proofs.«01_k».proof.Proof.OutMlp.Kernel
public import proofs.«01_k».proof.Proof.Gen.OutMlpIdeal.Frame
public import Idealize.ShloMosaic.Lib.Pipeline.Value

@[expose] public section

set_option maxRecDepth 16384

noncomputable section

namespace Cert.Proof.OutMlp

open Idealize.ShloMosaic Idealize.ShloMosaic.TcCoe
open Cert.OutMlpIdeal Cert.OutMlpIdeal.Gen

section

variable (x0 x1 x2 : FVec Ideal S512x256 .f32) (x3 : FVec Ideal S512x512 .bf16) (x4 x5 x6 : FVec Ideal S512x256 .f32)
  (x7 : FVec Ideal S512x1024 .f32) (x8 : FVec Ideal S1x1024x1024 .bf16) (x9 x10 : FVec Ideal S1x256 .f32) (x11 x12 : FVec Ideal S1x1024 .f32)
  (x13 : FVec Ideal S1x1024x4096 .bf16) (x14 : FVec Ideal S1x4096x1024 .bf16) (x15 : FVec Ideal S1x1024 .f32)

/-- The row of the block after the first residual. -/
abbrev blockMid (r : Fin 512) : Fin 1024 → EReal :=
  mid (gated (fun k => x0 (ix2 r k) + x1 (ix2 r k)) (fun k => x2 (ix2 r k)) (fun k => x9 (ix2 0 k))) (fun k => x3 (ix2 r k))
    (gated (fun k => x4 (ix2 r k) + x5 (ix2 r k)) (fun k => x6 (ix2 r k)) (fun k => x10 (ix2 0 k))) (fun k => x7 (ix2 r k))
    (fun k j => x8 (ix3 0 k j)) (fun k => x11 (ix2 0 k))

/-- The point's block of the result. -/
theorem block_row (r : Fin 512) (j : Fin 1024) :
    (out0_16 (F := Ideal) x0 x1 x2 x3 x4 x5 x6 x7 x8 x9 x10 x11 x12 x13 x14 x15 : FVec Ideal S512x1024 .f32) (ix2 r j)
      = last (blockMid x0 x1 x2 x3 x4 x5 x6 x7 x8 x9 x10 x11 r) (fun k => x12 (ix2 0 k)) (fun k c => x13 (ix3 0 k c))
          (fun c j => x14 (ix3 0 c j)) (fun k => x15 (ix2 0 k)) j := by
  unfold_out out0_16
  rw [View.canon_unit_zero (by decide)]
  rw [p1]
  simp only [p14, p12, p11, proj, gated_gla, gated_dn]
  pointwise [last, mid]
  refine congrArg₂ (· + ·) rfl (congrArg (fun f => rms f _ j) (funext fun i => ?_))
  rw [mlp_halves]
  rfl

end

end Cert.Proof.OutMlp

end
-- ==== Proof.OutMlp.Ref.lean ====
/-
  The reference's stages read at a token and a lane: the same row functions of the arguments.
-/
module

public import proofs.«01_k».proof.Proof.OutMlp.Spec
public import proofs.«01_k».proof.Proof.Gen.OutMlpRefIdeal.Read

@[expose] public section

set_option maxRecDepth 16384

noncomputable section

namespace Cert.Proof.OutMlp

open Idealize.ShloMosaic Idealize.ShloMosaic.TcCoe
open Cert.OutMlpRefIdeal Cert.OutMlpRefIdeal.Gen Cert.OutMlpRefIdeal.Read

/-- A gain of one head, tiled over the four heads. -/
abbrev tiled (g : FVec Ideal S64 .f32) (k : Fin 256) : EReal := g (ix1 ⟨k.val % 64, by omega⟩)

section

variable (x0 x1 x2 : FVec Ideal S8x2048x256 .f32) (x3 : FVec Ideal S8x2048x512 .bf16) (x4 x5 x6 : FVec Ideal S8x2048x256 .f32)
  (x7 : FVec Ideal S8x2048x1024 .f32) (x8 : FVec Ideal S4x1024x1024 .f32) (x9 x10 : FVec Ideal S64 .f32) (x11 x12 : FVec Ideal S1024 .f32)
  (x13 : FVec Ideal S4x1024x4096 .f32) (x14 : FVec Ideal S4x4096x1024 .f32) (x15 : FVec Ideal S1024 .f32)

theorem ref_gla (b : Fin 8) (t : Fin 2048) (k : Fin 256) :
    (val_main_v19 (F := Ideal) x0 x1 x2 x9 : FVec Ideal S8x2048x256 .f32) (ix3 b t k)
      = gated (fun k => x0 (ix3 b t k) + x1 (ix3 b t k)) (fun k => x2 (ix3 b t k)) (tiled x9) k := by
  pointwise [val_main_v0, val_main_v1, val_main_v2, val_main_v3, val_main_cst, val_main_v4, val_main_v5, val_main_cst_0, val_main_v6,
    val_main_v7, val_main_cst_1, val_main_v8, val_main_v9, val_main_v10, val_main_v11, val_main_v12, val_main_v13, val_main_v14,
    val_main_v15, val_main_v16, val_main_v17, val_main_v18, val_main_v19, val_main_call0_v0, val_main_call0_v1, val_main_call0_v2,
    val_main_call0_v3, val_main_call0_v4, val_main_call0_v5, val_main_call0_cst, val_main_call0_cst_0]
  rw [ofBits_64]
  rfl

theorem ref_dn (b : Fin 8) (t : Fin 2048) (k : Fin 256) :
    (val_main_v39 (F := Ideal) x4 x5 x6 x10 : FVec Ideal S8x2048x256 .f32) (ix3 b t k)
      = gated (fun k => x4 (ix3 b t k) + x5 (ix3 b t k)) (fun k => x6 (ix3 b t k)) (tiled x10) k := by
  pointwise [val_main_v20, val_main_v21, val_main_v22, val_main_v23, val_main_cst_2, val_main_v24, val_main_v25, val_main_cst_3, val_main_v26,
    val_main_v27, val_main_cst_4, val_main_v28, val_main_v29, val_main_v30, val_main_v31, val_main_v32, val_main_v33, val_main_v34,
    val_main_v35, val_main_v36, val_main_v37, val_main_v38, val_main_v39, val_main_call1_v0, val_main_call1_v1, val_main_call1_v2,
    val_main_call1_v3, val_main_call1_v4, val_main_call1_v5, val_main_call1_cst, val_main_call1_cst_0]
  rw [ofBits_64]
  rfl

theorem ref_proj (b : Fin 8) (t : Fin 2048) (j : Fin 1024) :
    (val_main_v44 (F := Ideal) x0 x1 x2 x3 x4 x5 x6 x8 x9 x10 : FVec Ideal S8x2048x1024 .f32) (ix3 b t j)
      = project (fun k => (val_main_v19 (F := Ideal) x0 x1 x2 x9 : FVec Ideal S8x2048x256 .f32) (ix3 b t k)) (fun k => x3 (ix3 b t k))
         (fun k => (val_main_v39 (F := Ideal) x4 x5 x6 x10 : FVec Ideal S8x2048x256 .f32) (ix3 b t k)) (fun k j => x8 (ix3 3 k j)) j := by
  pointwise [val_main_v44, val_main_v43, val_main_v42, val_main_v41, val_main_v40]
  rw [Fin.sum_univ_two_halves 256 768 rfl, Fin.sum_univ_two_halves 512 256 rfl, ← add_assoc, project]
  refine congrArg₂ (· + ·) (congrArg₂ (· + ·) (Finset.sum_congr rfl fun k _ => ?_) (Finset.sum_congr rfl fun k _ => ?_))
    (Finset.sum_congr rfl fun k _ => ?_)
  · rw [dif_pos k.isLt]
  · rw [dif_neg (by show ¬ (256 + k.val < 256); omega), dif_pos (by show 256 + k.val - 256 < 512; omega)]
    exact congrArg₂ (· * ·) (congrArg (fun q => x3 (ix3 b t q)) (Fin.ext (by show 256 + k.val - 256 = k.val; omega))) rfl
  · rw [dif_neg (by show ¬ (256 + (512 + k.val) < 256); omega), dif_neg (by show ¬ (256 + (512 + k.val) - 256 < 512); omega)]
    exact congrArg₂ (· * ·) (congrArg (fun q => (val_main_v39 (F := Ideal) x4 x5 x6 x10 : FVec Ideal S8x2048x256 .f32) (ix3 b t q))
      (Fin.ext (by show 256 + (512 + k.val) - 256 - 512 = k.val; omega)))
      (congrArg (fun q => x8 (ix3 3 q j)) (Fin.ext (by show 256 + (512 + k.val) = 768 + k.val; omega)))

theorem ref_mid (b : Fin 8) (t : Fin 2048) (j : Fin 1024) :
    (val_main_v58 (F := Ideal) x0 x1 x2 x3 x4 x5 x6 x7 x8 x9 x10 x11 : FVec Ideal S8x2048x1024 .f32) (ix3 b t j)
      = x7 (ix3 b t j) + rms (fun j => (val_main_v44 (F := Ideal) x0 x1 x2 x3 x4 x5 x6 x8 x9 x10 : FVec Ideal S8x2048x1024 .f32) (ix3 b t j))
          (fun k => x11 (ix1 k)) j := by
  pointwise [val_main_v45, val_main_cst_5, val_main_v46, val_main_v47, val_main_cst_6, val_main_v48, val_main_v49, val_main_cst_7,
    val_main_v50, val_main_v51, val_main_v52, val_main_v53, val_main_v54, val_main_v55, val_main_v56, val_main_v57, val_main_v58]
  rfl

theorem ref_pre (b : Fin 8) (t : Fin 2048) (j : Fin 1024) :
    (val_main_v71 (F := Ideal) x0 x1 x2 x3 x4 x5 x6 x7 x8 x9 x10 x11 x12 : FVec Ideal S8x2048x1024 .f32) (ix3 b t j)
      = rms (fun j => (val_main_v58 (F := Ideal) x0 x1 x2 x3 x4 x5 x6 x7 x8 x9 x10 x11 : FVec Ideal S8x2048x1024 .f32) (ix3 b t j))
          (fun k => x12 (ix1 k)) j := by
  pointwise [val_main_v59, val_main_cst_8, val_main_v60, val_main_v61, val_main_cst_9, val_main_v62, val_main_v63, val_main_cst_10,
    val_main_v64, val_main_v65, val_main_v66, val_main_v67, val_main_v68, val_main_v69, val_main_v70, val_main_v71]
  rfl

theorem ref_mlp (b : Fin 8) (t : Fin 2048) (j : Fin 1024) :
    (val_main_v79 (F := Ideal) x0 x1 x2 x3 x4 x5 x6 x7 x8 x9 x10 x11 x12 x13 x14 : FVec Ideal S8x2048x1024 .f32) (ix3 b t j)
      = mlp (fun j => (val_main_v71 (F := Ideal) x0 x1 x2 x3 x4 x5 x6 x7 x8 x9 x10 x11 x12 : FVec Ideal S8x2048x1024 .f32) (ix3 b t j))
          (fun k c => x13 (ix3 3 k c)) (fun c j => x14 (ix3 3 c j)) j := by
  pointwise [val_main_v72, val_main_v73, val_main_v74, val_main_v75, val_main_v76, val_main_v77, val_main_v78, val_main_v79,
    val_main_call2_cst, val_main_call2_v0]
  rfl

theorem ref_last (b : Fin 8) (t : Fin 2048) (j : Fin 1024) :
    (val_main_v93 (F := Ideal) x0 x1 x2 x3 x4 x5 x6 x7 x8 x9 x10 x11 x12 x13 x14 x15 : FVec Ideal S8x2048x1024 .f32) (ix3 b t j)
      = (val_main_v58 (F := Ideal) x0 x1 x2 x3 x4 x5 x6 x7 x8 x9 x10 x11 : FVec Ideal S8x2048x1024 .f32) (ix3 b t j)
        + rms (fun j => (val_main_v79 (F := Ideal) x0 x1 x2 x3 x4 x5 x6 x7 x8 x9 x10 x11 x12 x13 x14 : FVec Ideal S8x2048x1024 .f32) (ix3 b t j))
          (fun k => x15 (ix1 k)) j := by
  pointwise [val_main_v80, val_main_cst_11, val_main_v81, val_main_v82, val_main_cst_12, val_main_v83, val_main_v84, val_main_cst_13,
    val_main_v85, val_main_v86, val_main_v87, val_main_v88, val_main_v89, val_main_v90, val_main_v91, val_main_v92, val_main_v93]
  rfl

/-- The token's row after the first residual. -/
abbrev tokenMid (b : Fin 8) (t : Fin 2048) : Fin 1024 → EReal :=
  mid (gated (fun k => x0 (ix3 b t k) + x1 (ix3 b t k)) (fun k => x2 (ix3 b t k)) (tiled x9)) (fun k => x3 (ix3 b t k))
    (gated (fun k => x4 (ix3 b t k) + x5 (ix3 b t k)) (fun k => x6 (ix3 b t k)) (tiled x10)) (fun k => x7 (ix3 b t k))
    (fun k j => x8 (ix3 3 k j)) (fun k => x11 (ix1 k))

/-- The reference's result at a row and a lane: the row function of the token's rows. -/
theorem ref_row (n : Fin 16384) (j : Fin 1024) :
    (val_main_v94 (F := Ideal) x0 x1 x2 x3 x4 x5 x6 x7 x8 x9 x10 x11 x12 x13 x14 x15 : FVec Ideal S16384x1024 .f32) (ix2 n j)
      = last (tokenMid x0 x1 x2 x3 x4 x5 x6 x7 x8 x9 x10 x11 ⟨n.val / 2048, by omega⟩ ⟨n.val % 2048, by omega⟩) (fun k => x12 (ix1 k))
          (fun k c => x13 (ix3 3 k c)) (fun c j => x14 (ix3 3 c j)) (fun k => x15 (ix1 k)) j := by
  have h : (val_main_v94 (F := Ideal) x0 x1 x2 x3 x4 x5 x6 x7 x8 x9 x10 x11 x12 x13 x14 x15 : FVec Ideal S16384x1024 .f32) (ix2 n j)
      = (val_main_v93 (F := Ideal) x0 x1 x2 x3 x4 x5 x6 x7 x8 x9 x10 x11 x12 x13 x14 x15 : FVec Ideal S8x2048x1024 .f32)
          (ix3 ⟨n.val / 2048, by omega⟩ ⟨n.val % 2048, by omega⟩ j) := by
    pointwise [val_main_v94]
  rw [h, ref_last]
  simp only [ref_mlp, ref_pre, ref_mid, ref_proj, ref_gla, ref_dn]
  rfl

end

end Cert.Proof.OutMlp

end
-- ==== Proof.OutMlp.Value.lean ====
/-
  The kernel's result as a whole array: the blocks of the 32 grid points put together are the reference's result over the same
  arguments.
-/
module

public import proofs.«01_k».proof.Proof.OutMlp.Block
public import proofs.«01_k».proof.Proof.OutMlp.Ref
public import proofs.«01_k».proof.Proof.Gen.OutMlpIdeal.Value
public import Idealize.ShloMosaic.Lib.Pipeline.ValueKit
public import Idealize.ShloMosaic.Lib.Claim

@[expose] public section

set_option maxRecDepth 16384

noncomputable section

namespace Cert.Proof.OutMlp

open Idealize.ShloMosaic Idealize.ShloMosaic.TcCoe Idealize.SL.Sem
open Idealize.ShloMosaic.Pipeline (Dat)
open Cert.OutMlpIdeal Cert.OutMlpIdeal.Gen

variable (m : (ℓ : Loc nD τ sig) → Buf (Elt Ideal) ℓ)

/-- The reference's result over the kernel's arguments. -/
abbrev result (c : Dev nD) : FVec Ideal S16384x1024 .f32 :=
  Cert.OutMlpRefIdeal.Read.val_main_v94 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15))

/-- Where the blocks of the token windows lie. -/
theorem idx_rows : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_16.index t = ![t.val, 0] :=
  (by decide +kernel : ∀ t : Fin grid0.N, _)

/-- Where the blocks of the weights and gains lie. -/
theorem idx_consts : ∀ t : Fin cfg0.N, win0_8.index t = ![3, 0, 0] ∧ win0_9.index t = ![0, 0] ∧ win0_10.index t = ![0, 0]
    ∧ win0_11.index t = ![0, 0] ∧ win0_12.index t = ![0, 0] ∧ win0_13.index t = ![3, 0, 0] ∧ win0_14.index t = ![3, 0, 0]
    ∧ win0_15.index t = ![0, 0] :=
  (by decide +kernel : ∀ t : Fin grid0.N, _)

/-- There are 32 grid points. -/
theorem point_lt (t : Fin cfg0.N) : t.val < 32 := t.isLt

/-- The token of row `r` of point `t`'s blocks: its batch. -/
abbrev batch (t : Fin cfg0.N) (r : Fin 512) : Fin 8 := ⟨(t.val * 512 + r.val) / 2048, by have := point_lt t; omega⟩

/-- The token of row `r` of point `t`'s blocks: its position. -/
abbrev token (t : Fin cfg0.N) (r : Fin 512) : Fin 2048 := ⟨(t.val * 512 + r.val) % 2048, by omega⟩

/-! Each row of a token window is the token's row of the argument. -/

theorem row0 (c : Dev nD) (t : Fin cfg0.N) (r : Fin 512) (k : Fin 256) :
    (show FVec Ideal S512x256 .f32 from iblk m c 0 t) (ix2 r k)
      = (show FVec Ideal S8x2048x256 .f32 from m ((c : Thread nD τ).loc main_arg0)) (ix3 (batch t r) (token t r) k) := by
  have := point_lt t
  blk_point [iblk, idx_rows t]

theorem row1 (c : Dev nD) (t : Fin cfg0.N) (r : Fin 512) (k : Fin 256) :
    (show FVec Ideal S512x256 .f32 from iblk m c 1 t) (ix2 r k)
      = (show FVec Ideal S8x2048x256 .f32 from m ((c : Thread nD τ).loc main_arg1)) (ix3 (batch t r) (token t r) k) := by
  have := point_lt t
  blk_point [iblk, idx_rows t]

theorem row2 (c : Dev nD) (t : Fin cfg0.N) (r : Fin 512) (k : Fin 256) :
    (show FVec Ideal S512x256 .f32 from iblk m c 2 t) (ix2 r k)
      = (show FVec Ideal S8x2048x256 .f32 from m ((c : Thread nD τ).loc main_arg2)) (ix3 (batch t r) (token t r) k) := by
  have := point_lt t
  blk_point [iblk, idx_rows t]

theorem row3 (c : Dev nD) (t : Fin cfg0.N) (r : Fin 512) (k : Fin 512) :
    (show FVec Ideal S512x512 .bf16 from iblk m c 3 t) (ix2 r k)
      = (show FVec Ideal S8x2048x512 .bf16 from m ((c : Thread nD τ).loc main_arg3)) (ix3 (batch t r) (token t r) k) := by
  have := point_lt t
  blk_point [iblk, idx_rows t]

theorem row4 (c : Dev nD) (t : Fin cfg0.N) (r : Fin 512) (k : Fin 256) :
    (show FVec Ideal S512x256 .f32 from iblk m c 4 t) (ix2 r k)
      = (show FVec Ideal S8x2048x256 .f32 from m ((c : Thread nD τ).loc main_arg4)) (ix3 (batch t r) (token t r) k) := by
  have := point_lt t
  blk_point [iblk, idx_rows t]

theorem row5 (c : Dev nD) (t : Fin cfg0.N) (r : Fin 512) (k : Fin 256) :
    (show FVec Ideal S512x256 .f32 from iblk m c 5 t) (ix2 r k)
      = (show FVec Ideal S8x2048x256 .f32 from m ((c : Thread nD τ).loc main_arg5)) (ix3 (batch t r) (token t r) k) := by
  have := point_lt t
  blk_point [iblk, idx_rows t]

theorem row6 (c : Dev nD) (t : Fin cfg0.N) (r : Fin 512) (k : Fin 256) :
    (show FVec Ideal S512x256 .f32 from iblk m c 6 t) (ix2 r k)
      = (show FVec Ideal S8x2048x256 .f32 from m ((c : Thread nD τ).loc main_arg6)) (ix3 (batch t r) (token t r) k) := by
  have := point_lt t
  blk_point [iblk, idx_rows t]

theorem row7 (c : Dev nD) (t : Fin cfg0.N) (r : Fin 512) (k : Fin 1024) :
    (show FVec Ideal S512x1024 .f32 from iblk m c 7 t) (ix2 r k)
      = (show FVec Ideal S8x2048x1024 .f32 from m ((c : Thread nD τ).loc main_arg7)) (ix3 (batch t r) (token t r) k) := by
  have := point_lt t
  blk_point [iblk, idx_rows t]

/-! The weight windows hold layer 3 of the weights, rounding dropped; the gain windows hold the gains. -/

theorem con8 (c : Dev nD) (t : Fin cfg0.N) (r : Fin 1024) (k : Fin 1024) :
    (show FVec Ideal S1x1024x1024 .bf16 from iblk m c 8 t) (ix3 0 r k)
      = (show FVec Ideal S4x1024x1024 .f32 from m ((c : Thread nD τ).loc main_arg8)) (ix3 3 r k) := by
  blk_point [iblk, idx_consts t]

theorem con13 (c : Dev nD) (t : Fin cfg0.N) (r : Fin 1024) (k : Fin 4096) :
    (show FVec Ideal S1x1024x4096 .bf16 from iblk m c 13 t) (ix3 0 r k)
      = (show FVec Ideal S4x1024x4096 .f32 from m ((c : Thread nD τ).loc main_arg13)) (ix3 3 r k) := by
  blk_point [iblk, idx_consts t]

theorem con14 (c : Dev nD) (t : Fin cfg0.N) (r : Fin 4096) (k : Fin 1024) :
    (show FVec Ideal S1x4096x1024 .bf16 from iblk m c 14 t) (ix3 0 r k)
      = (show FVec Ideal S4x4096x1024 .f32 from m ((c : Thread nD τ).loc main_arg14)) (ix3 3 r k) := by
  blk_point [iblk, idx_consts t]

theorem con9 (c : Dev nD) (t : Fin cfg0.N) (k : Fin 256) :
    (show FVec Ideal S1x256 .f32 from iblk m c 9 t) (ix2 0 k) = tiled (m ((c : Thread nD τ).loc main_arg9)) k := by
  blk_point [iblk, idx_consts t]

theorem con10 (c : Dev nD) (t : Fin cfg0.N) (k : Fin 256) :
    (show FVec Ideal S1x256 .f32 from iblk m c 10 t) (ix2 0 k) = tiled (m ((c : Thread nD τ).loc main_arg10)) k := by
  blk_point [iblk, idx_consts t]

theorem con11 (c : Dev nD) (t : Fin cfg0.N) (k : Fin 1024) :
    (show FVec Ideal S1x1024 .f32 from iblk m c 11 t) (ix2 0 k)
      = (show FVec Ideal S1024 .f32 from m ((c : Thread nD τ).loc main_arg11)) (ix1 k) := by
  blk_point [iblk, idx_consts t]

theorem con12 (c : Dev nD) (t : Fin cfg0.N) (k : Fin 1024) :
    (show FVec Ideal S1x1024 .f32 from iblk m c 12 t) (ix2 0 k)
      = (show FVec Ideal S1024 .f32 from m ((c : Thread nD τ).loc main_arg12)) (ix1 k) := by
  blk_point [iblk, idx_consts t]

theorem con15 (c : Dev nD) (t : Fin cfg0.N) (k : Fin 1024) :
    (show FVec Ideal S1x1024 .f32 from iblk m c 15 t) (ix2 0 k)
      = (show FVec Ideal S1024 .f32 from m ((c : Thread nD τ).loc main_arg15)) (ix1 k) := by
  blk_point [iblk, idx_consts t]

/-- What a point leaves at a row and a lane is the reference's result at the token's row. -/
theorem point (c : Dev nD) (t : Fin cfg0.N) (r : Fin 512) (j : Fin 1024) :
    (out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) : FVec Ideal S512x1024 .f32) (ix2 r j)
      = result m c (ix2 ⟨t.val * 512 + r.val, by have := point_lt t; omega⟩ j) := by
  rw [block_row, result, ref_row]
  simp only [blockMid, row0 m c t r, row1 m c t r, row2 m c t r, row3 m c t r, row4 m c t r, row5 m c t r, row6 m c t r, row7 m c t r,
    con8 m c t, con9 m c t, con10 m c t, con11 m c t, con12 m c t, con13 m c t, con14 m c t, con15 m c t]

/-- The result array after the run. -/
theorem final (c : Dev nD) : (dats m 0 c).arrAt 16 cfg0.N = result m c := by
  refine (dats m 0 c).arrAt_eq_of_covers 16 _ (by decide +kernel) fun t _ y => ?_
  blk_simp
  rw [after0_16]
  idx_vars y
  refine (point m c t y0 y1).trans (congrArg (result m c) ?_)
  blk_ext [idx_rows t]

end Cert.Proof.OutMlp

end
-- ==== Proof.OutMlp.Claims.lean ====
/-
  The claims about the output half of the layer: the two frames, the reference's, and the value.
-/
module

public import proofs.«01_k».proof.Defs
public import proofs.«01_k».proof.Proof.OutMlp.Value
public import proofs.«01_k».proof.Proof.Gen.OutMlp.Frame
public import Idealize.ShloMosaic.Lib.Quiescent

@[expose] public section

set_option maxRecDepth 16384

noncomputable section

namespace Cert.Proof.OutMlp

open Idealize.ShloMosaic Idealize.ShloMosaic.TcCoe Idealize.SL.Sem

/-- The kernel runs, at machine words. -/
theorem frame : Cert.quiescent_OutMlp (hOutMlp := Cert.OutMlp.Gen.facts) := fun m ρ _ =>
  Cert.OutMlp.Gen.frame (F := Bits) m ρ

/-- The kernel runs, at the extended reals. -/
theorem frame_ideal : Cert.quiescent_OutMlpIdeal (hOutMlpIdeal := Cert.OutMlpIdeal.Gen.facts) := fun m ρ _ =>
  Cert.OutMlpIdeal.Gen.frame (F := Ideal) m ρ

/-- The reference runs, at the extended reals. -/
theorem frame_ref : Cert.quiescent_OutMlpRefIdeal (hOutMlpRefIdeal := Cert.OutMlpRefIdeal.Gen.facts) := fun m ρ _ =>
  (θ_run Cert.OutMlpRefIdeal.defs _ _).mono (fun r h => ⟨fun c => (h c).2, sem_eq_zero_of_no_sems (by decide) r.2⟩)
    (Cert.OutMlpRefIdeal.Value.run (F := Ideal) m ρ)

/-- The idealization rewrites nothing. -/
theorem preserves : Cert.preserves_OutMlp_OutMlpIdeal := trivial

/-- Kernel and reference end with equal results from equal arguments. -/
theorem algebraic : Cert.algebraic_OutMlpIdeal_OutMlpRefIdeal (hOutMlpIdeal := Cert.OutMlpIdeal.Gen.facts)
    (hOutMlpRefIdeal := Cert.OutMlpRefIdeal.Gen.facts) := by
  intro m ρ m' ρ' _ hag
  refine ⟨fun c => result m c, ?_, ?_⟩
  · exact (θ_run Cert.OutMlpIdeal.defs _ _).mono (fun _ h c => ⟨(h c).1.trans (final m c), (h c).2⟩)
      (Cert.OutMlpIdeal.Value.run_blocks (F := Ideal) m ρ)
  · refine (θ_run Cert.OutMlpRefIdeal.defs _ _).mono (fun _ h c => ⟨(h c).1.trans ?_, (h c).2⟩)
      (Cert.OutMlpRefIdeal.Value.run (F := Ideal) m' ρ')
    obtain ⟨h0, h1, h2, h3, h4, h5, h6, h7, h8, h9, h10, h11, h12, h13, h14, h15⟩ := hag c
    refine (Cert.OutMlpRefIdeal.Read.val_main_v94_eq (F := Ideal) (StableHlo.launchContents m' c)).trans ?_
    show Cert.OutMlpRefIdeal.Read.val_main_v94 (F := Ideal) (m' ((c.tc : Thread _ _).loc Cert.OutMlpRefIdeal.main_arg0)) (m' ((c.tc : Thread _ _).loc Cert.OutMlpRefIdeal.main_arg1)) (m' ((c.tc : Thread _ _).loc Cert.OutMlpRefIdeal.main_arg2)) (m' ((c.tc : Thread _ _).loc Cert.OutMlpRefIdeal.main_arg3)) (m' ((c.tc : Thread _ _).loc Cert.OutMlpRefIdeal.main_arg4)) (m' ((c.tc : Thread _ _).loc Cert.OutMlpRefIdeal.main_arg5)) (m' ((c.tc : Thread _ _).loc Cert.OutMlpRefIdeal.main_arg6)) (m' ((c.tc : Thread _ _).loc Cert.OutMlpRefIdeal.main_arg7)) (m' ((c.tc : Thread _ _).loc Cert.OutMlpRefIdeal.main_arg8)) (m' ((c.tc : Thread _ _).loc Cert.OutMlpRefIdeal.main_arg9)) (m' ((c.tc : Thread _ _).loc Cert.OutMlpRefIdeal.main_arg10)) (m' ((c.tc : Thread _ _).loc Cert.OutMlpRefIdeal.main_arg11)) (m' ((c.tc : Thread _ _).loc Cert.OutMlpRefIdeal.main_arg12)) (m' ((c.tc : Thread _ _).loc Cert.OutMlpRefIdeal.main_arg13)) (m' ((c.tc : Thread _ _).loc Cert.OutMlpRefIdeal.main_arg14)) (m' ((c.tc : Thread _ _).loc Cert.OutMlpRefIdeal.main_arg15)) = _
    rw [h0, h1, h2, h3, h4, h5, h6, h7, h8, h9, h10, h11, h12, h13, h14, h15]

end Cert.Proof.OutMlp

end
-- ==== Proof.Swa.Launch.lean ====
/-
  A run of the attention program: its result is what the second kernel's write-backs leave, and its arguments end as launched.
-/
module

public import proofs.«01_k».proof.Proof.Gen.KernelIdeal.Frame

@[expose] public section

set_option maxRecDepth 16384

noncomputable section

namespace Cert.Proof.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result array at what the attention kernel writes back, and the arguments unchanged. -/
theorem run : θ_run defs (onTc (τ := τ) (main (F := F))) ⟨m, fun _ => 0, ρ⟩ (fun r => ∀ c : Dev nD,
      r.2.mem ((c.tc : Thread nD τ).loc main_v48) = (dat1 (V6 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c =>
      ⟨(h c _ (mem_uc main_v48 (by decide))).trans (W7_arr m ρ c 6),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.Proof.Swa

end
-- ==== Proof.Swa.Pair.lean ====
/-
  The attention kernel's block, one head pair at a time: what each of the 32 stores writes is the same function of its keys, values,
  queries, biases and sinks (with one more summand in the scores of the first and the last rows).
-/
module

public import proofs.«01_k».proof.Proof.Gen.KernelIdeal.Skeleton

@[expose] public section

set_option maxRecDepth 16384

noncomputable section

namespace Cert.Proof.Swa

open Idealize.ShloMosaic
open Cert.KernelIdeal Cert.KernelIdeal.Gen Cert.KernelIdeal.Facts

variable {F : FTy → Type} [FloatOps F]

/-- The queries of a head pair against the keys, once per lane half: the columns of the first head, then those of the second. -/
def scores (kd : Vec F S384x128 .bf16) (q : Vec F S128x128 .bf16) : FVec F S128x768 .f32 :=
  let k2 : FVec F S768x128 .bf16 := concatenate S768x128 0 [⟨S384x128, mulf kd (k1_pay6 (F := F))⟩, ⟨S384x128, mulf kd (k1_pay7 (F := F))⟩] concatenates_S384x128_S384x128_S768x128_d0
  let qs : FVec F S128x128 .bf16 := mulf (shapeCast S128x128 q shapeCasts_S128x128_S128x128) (broadcast S128x128 (Scalar.ofBits .bf16 0x3E00#16))
  matmul dot_S128x128_S768x128_S128x768_1_1_0_0_n_n none qs k2 (constant S128x768 .f32 0x00000000#32)

/-- The first head's scores with its bias. -/
def left (s2 : FVec F S128x768 .f32) (b : Vec F S1x128x384 .f32) : FVec F S128x384 .f32 :=
  addf (extractStridedSlice S128x384 ![0, 0] s2 slices_S128x768_o0_0_S128x384) (shapeCast S128x384 b shapeCasts_S1x128x384_S128x384)

/-- The second head's scores with its bias. -/
def right (s2 : FVec F S128x768 .f32) (b : Vec F S1x128x384 .f32) : FVec F S128x384 .f32 :=
  addf (extractStridedSlice S128x384 ![0, 384] s2 slices_S128x768_o0_384_S128x384) (shapeCast S128x384 b shapeCasts_S1x128x384_S128x384)

/-- Scores with the summand of the keys beyond the ends of the sequence. -/
def edged (sc : FVec F S128x384 .f32) (e : FVec F S1x384 .f32) : FVec F S128x384 .f32 :=
  addf sc (broadcastTo S128x384 e broadcasts_S1x384_S128x384)

/-- The greatest score of a row and the sink. -/
def top (sc : FVec F S128x384 .f32) (s : Elt F .f32) : FVec F S128x1 .f32 :=
  maximumf (shapeCast S128x1 (multiReduction .maximumf [1] S128 sc 0xFF800000#32 reduces_S128x384_S128 (.inl rfl) rfl) shapeCasts_S128_S128x1)
    (broadcast S128x1 s)

/-- The weights of a row, not yet divided. -/
def weights (sc : FVec F S128x384 .f32) (s : Elt F .f32) : FVec F S128x384 .bf16 :=
  exp (truncf .bf16 (subf sc (broadcastTo S128x384 (top sc s) broadcasts_S128x1_S128x384)) bitsLt_bf16_f32)

/-- The sink's own weight, over a head's lanes. -/
def sinkw (sc : FVec F S128x384 .f32) (s : Elt F .f32) : FVec F S128x128 .f32 :=
  broadcastTo S128x128 (shapeCast S128x1 (exp (subf (broadcast S128x1 s) (top sc s))) shapeCasts_S128x1_S128x1) broadcasts_S128x1_S128x128

/-- Both heads' weights against the values and the lanes' indicators. -/
def mixed (vd : Vec F S384x128 .bf16) (sc0 sc1 : FVec F S128x384 .f32) (s0 s1 : Elt F .f32) : FVec F S128x256 .f32 :=
  let v2 : FVec F S768x256 .bf16 := concatenate S768x256 0
    [⟨S384x256, concatenate S384x256 1 [⟨S384x128, mulf vd (k1_pay6 (F := F))⟩, ⟨S384x128, k1_pay6 (F := F)⟩] concatenates_S384x128_S384x128_S384x256_d1⟩,
     ⟨S384x256, concatenate S384x256 1 [⟨S384x128, mulf vd (k1_pay7 (F := F))⟩, ⟨S384x128, k1_pay7 (F := F)⟩] concatenates_S384x128_S384x128_S384x256_d1⟩]
    concatenates_S384x256_S384x256_S768x256_d0
  let ps : FVec F S128x768 .bf16 := concatenate S128x768 1 [⟨S128x384, weights sc0 s0⟩, ⟨S128x384, weights sc1 s1⟩] concatenates_S128x384_S128x384_S128x768_d1
  matmul dot_S128x768_S768x256_S128x256_1_0_0_1_n_n none ps v2 (constant S128x256 .f32 0x00000000#32)

/-- What a store writes, from the scores of its two heads. -/
def soft (vd : Vec F S384x128 .bf16) (sc0 sc1 : FVec F S128x384 .f32) (s0 s1 : Elt F .f32) : FVec F S128x128 .bf16 :=
  let o2 := mixed vd sc0 sc1 s0 s1
  let den : FVec F S128x128 .f32 := addf (extractStridedSlice S128x128 ![0, 128] o2 slices_S128x256_o0_128_S128x128)
    (select k1_pay5 (sinkw sc0 s0) (sinkw sc1 s1))
  truncf .bf16 (mulf (extractStridedSlice S128x128 ![0, 0] o2 slices_S128x256_o0_0_S128x128)
    (divf (broadcast S128x128 (Scalar.ofBits .f32 0x3F800000#32)) den)) bitsLt_bf16_f32

/-- A store away from the ends of the rows. -/
abbrev pair (kd vd : Vec F S384x128 .bf16) (q : Vec F S128x128 .bf16) (b0 : Vec F S1x128x384 .f32) (s0 : Elt F .f32)
    (b1 : Vec F S1x128x384 .f32) (s1 : Elt F .f32) : FVec F S128x128 .bf16 :=
  soft vd (left (scores kd q) b0) (right (scores kd q) b1) s0 s1

/-- A store of the first or the last rows. -/
abbrev pairE (e : FVec F S1x384 .f32) (kd vd : Vec F S384x128 .bf16) (q : Vec F S128x128 .bf16) (b0 : Vec F S1x128x384 .f32) (s0 : Elt F .f32)
    (b1 : Vec F S1x128x384 .f32) (s1 : Elt F .f32) : FVec F S128x128 .bf16 :=
  soft vd (edged (left (scores kd q) b0) e) (edged (right (scores kd q) b1) e) s0 s1

/-! Each store's value is that function. -/

variable (kd vd : Vec F S384x128 .bf16) (q : Vec F S128x128 .bf16) (b0 b1 : Vec F S1x128x384 .f32) (s0 s1 : Elt F .f32) (e : FVec F S1x384 .f32)

theorem store_7_3 : k1_pay1 k1_pay5 (k1_pay45 (k1_pay6 (F := F)) (k1_pay7 (F := F)) vd) (k1_pay250 (k1_pay248 e (k1_pay242 (k1_pay44 (k1_pay6 (F := F)) (k1_pay7 (F := F)) kd) q) b0) (k1_pay249 e (k1_pay242 (k1_pay44 (k1_pay6 (F := F)) (k1_pay7 (F := F)) kd) q) b0 s0)) (k1_pay251 s0 (k1_pay249 e (k1_pay242 (k1_pay44 (k1_pay6 (F := F)) (k1_pay7 (F := F)) kd) q) b0 s0)) (k1_pay252 e (k1_pay242 (k1_pay44 (k1_pay6 (F := F)) (k1_pay7 (F := F)) kd) q) b1) s1 =
    pairE e kd vd q b0 s0 b1 s1 := rfl
theorem store_7_2 : k1_pay247 k1_pay5 e (k1_pay45 (k1_pay6 (F := F)) (k1_pay7 (F := F)) vd) (k1_pay234 (k1_pay44 (k1_pay6 (F := F)) (k1_pay7 (F := F)) kd) q) (k1_pay245 e (k1_pay234 (k1_pay44 (k1_pay6 (F := F)) (k1_pay7 (F := F)) kd) q) b0 s0) (k1_pay246 e (k1_pay234 (k1_pay44 (k1_pay6 (F := F)) (k1_pay7 (F := F)) kd) q) b0 s0) b1 s1 =
    pairE e kd vd q b0 s0 b1 s1 := rfl
theorem store_7_1 : k1_pay241 k1_pay5 (k1_pay43 (k1_pay6 (F := F)) (k1_pay7 (F := F)) vd) (k1_pay237 e (k1_pay224 (k1_pay42 (k1_pay6 (F := F)) (k1_pay7 (F := F)) kd) q) b0 s0) (k1_pay238 e (k1_pay224 (k1_pay42 (k1_pay6 (F := F)) (k1_pay7 (F := F)) kd) q) b0 s0) (k1_pay239 e (k1_pay224 (k1_pay42 (k1_pay6 (F := F)) (k1_pay7 (F := F)) kd) q) b1) s1 (k1_pay240 e (k1_pay224 (k1_pay42 (k1_pay6 (F := F)) (k1_pay7 (F := F)) kd) q) b1) =
    pairE e kd vd q b0 s0 b1 s1 := rfl
theorem store_7_0 : k1_pay233 k1_pay5 (k1_pay229 e (k1_pay221 (k1_pay42 (k1_pay6 (F := F)) (k1_pay7 (F := F)) kd) q) b1 s1) (k1_pay230 e (k1_pay43 (k1_pay6 (F := F)) (k1_pay7 (F := F)) vd) (k1_pay221 (k1_pay42 (k1_pay6 (F := F)) (k1_pay7 (F := F)) kd) q) b0 s0 b1 s1) (k1_pay231 e (k1_pay43 (k1_pay6 (F := F)) (k1_pay7 (F := F)) vd) (k1_pay221 (k1_pay42 (k1_pay6 (F := F)) (k1_pay7 (F := F)) kd) q) b0 s0 b1 s1) (k1_pay232 e (k1_pay221 (k1_pay42 (k1_pay6 (F := F)) (k1_pay7 (F := F)) kd) q) b0 s0) =
    pairE e kd vd q b0 s0 b1 s1 := rfl
theorem store_6_3 : k1_pay223 k1_pay5 (k1_pay40 (k1_pay6 (F := F)) (k1_pay7 (F := F)) vd) (k1_pay217 (k1_pay39 (k1_pay6 (F := F)) (k1_pay7 (F := F)) kd) q) (k1_pay222 (k1_pay217 (k1_pay39 (k1_pay6 (F := F)) (k1_pay7 (F := F)) kd) q)) b0 s0 b1 s1 =
    pair kd vd q b0 s0 b1 s1 := rfl
theorem store_6_2 : k1_pay220 k1_pay5 (k1_pay40 (k1_pay6 (F := F)) (k1_pay7 (F := F)) vd) (k1_pay210 (k1_pay39 (k1_pay6 (F := F)) (k1_pay7 (F := F)) kd) q) (k1_pay218 (k1_pay210 (k1_pay39 (k1_pay6 (F := F)) (k1_pay7 (F := F)) kd) q) b0) s0 (k1_pay219 (k1_pay210 (k1_pay39 (k1_pay6 (F := F)) (k1_pay7 (F := F)) kd) q) b0 s0) b1 s1 =
    pair kd vd q b0 s0 b1 s1 := rfl
theorem store_6_1 : k1_pay216 k1_pay5 (k1_pay38 (k1_pay6 (F := F)) (k1_pay7 (F := F)) vd) (k1_pay213 (k1_pay201 (k1_pay37 (k1_pay6 (F := F)) (k1_pay7 (F := F)) kd) q) b0 s0) (k1_pay214 (k1_pay201 (k1_pay37 (k1_pay6 (F := F)) (k1_pay7 (F := F)) kd) q) b0 s0) (k1_pay215 (k1_pay201 (k1_pay37 (k1_pay6 (F := F)) (k1_pay7 (F := F)) kd) q)) b1 s1 =
    pair kd vd q b0 s0 b1 s1 := rfl
theorem store_6_0 : k1_pay209 k1_pay5 (k1_pay38 (k1_pay6 (F := F)) (k1_pay7 (F := F)) vd) (k1_pay204 (k1_pay191 (k1_pay37 (k1_pay6 (F := F)) (k1_pay7 (F := F)) kd) q) b0 s0) (k1_pay205 (k1_pay191 (k1_pay37 (k1_pay6 (F := F)) (k1_pay7 (F := F)) kd) q) b0 s0) (k1_pay206 (k1_pay191 (k1_pay37 (k1_pay6 (F := F)) (k1_pay7 (F := F)) kd) q) b1) s1 (k1_pay207 (k1_pay191 (k1_pay37 (k1_pay6 (F := F)) (k1_pay7 (F := F)) kd) q) b1 s1) (k1_pay208 (k1_pay191 (k1_pay37 (k1_pay6 (F := F)) (k1_pay7 (F := F)) kd) q) b1 s1) =
    pair kd vd q b0 s0 b1 s1 := rfl
theorem store_5_3 : k1_pay200 k1_pay5 (k1_pay196 (k1_pay189 (k1_pay35 (k1_pay6 (F := F)) (k1_pay7 (F := F)) kd) (k1_pay188 q)) b1 s1) (k1_pay197 (k1_pay36 (k1_pay6 (F := F)) (k1_pay7 (F := F)) vd) (k1_pay189 (k1_pay35 (k1_pay6 (F := F)) (k1_pay7 (F := F)) kd) (k1_pay188 q)) b0 s0 b1 s1) (k1_pay198 (k1_pay36 (k1_pay6 (F := F)) (k1_pay7 (F := F)) vd) (k1_pay189 (k1_pay35 (k1_pay6 (F := F)) (k1_pay7 (F := F)) kd) (k1_pay188 q)) b0 s0 b1 s1) (k1_pay199 (k1_pay189 (k1_pay35 (k1_pay6 (F := F)) (k1_pay7 (F := F)) kd) (k1_pay188 q)) b0 s0) =
    pair kd vd q b0 s0 b1 s1 := rfl
theorem store_5_2 : k1_pay190 k1_pay5 (k1_pay36 (k1_pay6 (F := F)) (k1_pay7 (F := F)) vd) (k1_pay185 (k1_pay35 (k1_pay6 (F := F)) (k1_pay7 (F := F)) kd) q) b0 s0 b1 s1 =
    pair kd vd q b0 s0 b1 s1 := rfl
theorem store_5_1 : k1_pay187 k1_pay5 (k1_pay34 (k1_pay6 (F := F)) (k1_pay7 (F := F)) vd (k1_pay33 k1_pay6 vd)) (k1_pay179 (k1_pay32 (k1_pay6 (F := F)) (k1_pay7 (F := F)) kd) q) (k1_pay186 (k1_pay179 (k1_pay32 (k1_pay6 (F := F)) (k1_pay7 (F := F)) kd) q) b0) s0 b1 s1 =
    pair kd vd q b0 s0 b1 s1 := rfl
theorem store_5_0 : k1_pay184 k1_pay5 (k1_pay34 (k1_pay6 (F := F)) (k1_pay7 (F := F)) vd (k1_pay33 k1_pay6 vd)) (k1_pay172 (k1_pay32 (k1_pay6 (F := F)) (k1_pay7 (F := F)) kd) q) (k1_pay182 (k1_pay172 (k1_pay32 (k1_pay6 (F := F)) (k1_pay7 (F := F)) kd) q) b0 s0) (k1_pay183 (k1_pay172 (k1_pay32 (k1_pay6 (F := F)) (k1_pay7 (F := F)) kd) q) b0 s0) b1 s1 =
    pair kd vd q b0 s0 b1 s1 := rfl
theorem store_4_3 : k1_pay178 k1_pay5 (k1_pay31 (k1_pay6 (F := F)) (k1_pay7 (F := F)) vd) (k1_pay175 (k1_pay162 (k1_pay30 (k1_pay6 (F := F)) (k1_pay7 (F := F)) kd) q) b0 s0) (k1_pay176 (k1_pay162 (k1_pay30 (k1_pay6 (F := F)) (k1_pay7 (F := F)) kd) q) b0 s0) (k1_pay177 (k1_pay162 (k1_pay30 (k1_pay6 (F := F)) (k1_pay7 (F := F)) kd) q) b1) s1 =
    pair kd vd q b0 s0 b1 s1 := rfl
theorem store_4_2 : k1_pay171 k1_pay5 (k1_pay31 (k1_pay6 (F := F)) (k1_pay7 (F := F)) vd) (k1_pay165 (k1_pay153 (k1_pay30 (k1_pay6 (F := F)) (k1_pay7 (F := F)) kd) q) b0 s0) (k1_pay166 (k1_pay153 (k1_pay30 (k1_pay6 (F := F)) (k1_pay7 (F := F)) kd) q) b0 s0) (k1_pay169 (k1_pay153 (k1_pay30 (k1_pay6 (F := F)) (k1_pay7 (F := F)) kd) q) b1 s1) (k1_pay170 (k1_pay153 (k1_pay30 (k1_pay6 (F := F)) (k1_pay7 (F := F)) kd) q) b1 s1) =
    pair kd vd q b0 s0 b1 s1 := rfl
theorem store_4_1 : k1_pay161 (k1_pay159 k1_pay5 (k1_pay29 (k1_pay6 (F := F)) (k1_pay7 (F := F)) vd) (k1_pay150 (k1_pay28 (k1_pay6 (F := F)) (k1_pay7 (F := F)) kd) q) b0 s0 b1 s1) (k1_pay160 (k1_pay29 (k1_pay6 (F := F)) (k1_pay7 (F := F)) vd) (k1_pay150 (k1_pay28 (k1_pay6 (F := F)) (k1_pay7 (F := F)) kd) q) b0 s0 b1 s1) =
    pair kd vd q b0 s0 b1 s1 := rfl
theorem store_4_0 : k1_pay152 k1_pay5 (k1_pay29 (k1_pay6 (F := F)) (k1_pay7 (F := F)) vd) (k1_pay145 (k1_pay28 (k1_pay6 (F := F)) (k1_pay7 (F := F)) kd) q) (k1_pay151 (k1_pay145 (k1_pay28 (k1_pay6 (F := F)) (k1_pay7 (F := F)) kd) q)) b0 s0 b1 s1 =
    pair kd vd q b0 s0 b1 s1 := rfl
theorem store_3_3 : k1_pay149 k1_pay5 (k1_pay27 (k1_pay6 (F := F)) (k1_pay7 (F := F)) vd) (k1_pay138 (k1_pay26 (k1_pay6 (F := F)) (k1_pay7 (F := F)) kd) q) (k1_pay146 (k1_pay138 (k1_pay26 (k1_pay6 (F := F)) (k1_pay7 (F := F)) kd) q) b0) s0 (k1_pay147 (k1_pay138 (k1_pay26 (k1_pay6 (F := F)) (k1_pay7 (F := F)) kd) q) b0 s0) (k1_pay148 (k1_pay138 (k1_pay26 (k1_pay6 (F := F)) (k1_pay7 (F := F)) kd) q) b0 s0) b1 s1 =
    pair kd vd q b0 s0 b1 s1 := rfl
theorem store_3_2 : k1_pay144 k1_pay5 (k1_pay27 (k1_pay6 (F := F)) (k1_pay7 (F := F)) vd) (k1_pay141 (k1_pay129 (k1_pay26 (k1_pay6 (F := F)) (k1_pay7 (F := F)) kd) q) b0 s0) (k1_pay142 (k1_pay129 (k1_pay26 (k1_pay6 (F := F)) (k1_pay7 (F := F)) kd) q) b0 s0) (k1_pay143 (k1_pay129 (k1_pay26 (k1_pay6 (F := F)) (k1_pay7 (F := F)) kd) q)) b1 s1 =
    pair kd vd q b0 s0 b1 s1 := rfl
theorem store_3_1 : k1_pay137 k1_pay5 (k1_pay25 (k1_pay6 (F := F)) (k1_pay7 (F := F)) vd) (k1_pay132 (k1_pay119 (k1_pay24 (k1_pay6 (F := F)) (k1_pay7 (F := F)) kd) q) b0 s0) (k1_pay133 (k1_pay119 (k1_pay24 (k1_pay6 (F := F)) (k1_pay7 (F := F)) kd) q) b0 s0) s1 (k1_pay135 (k1_pay119 (k1_pay24 (k1_pay6 (F := F)) (k1_pay7 (F := F)) kd) q) b1 s1) (k1_pay136 (k1_pay119 (k1_pay24 (k1_pay6 (F := F)) (k1_pay7 (F := F)) kd) q) b1 s1) =
    pair kd vd q b0 s0 b1 s1 := rfl
theorem store_3_0 : k1_pay128 k1_pay5 (k1_pay124 (k1_pay117 (k1_pay24 (k1_pay6 (F := F)) (k1_pay7 (F := F)) kd) (k1_pay116 q) (constant S128x768 FTy.f32 0#32)) b1 s1) (k1_pay125 (k1_pay25 (k1_pay6 (F := F)) (k1_pay7 (F := F)) vd) (k1_pay117 (k1_pay24 (k1_pay6 (F := F)) (k1_pay7 (F := F)) kd) (k1_pay116 q) (constant S128x768 FTy.f32 0#32)) b0 s0 b1 s1) (k1_pay126 (k1_pay25 (k1_pay6 (F := F)) (k1_pay7 (F := F)) vd) (k1_pay117 (k1_pay24 (k1_pay6 (F := F)) (k1_pay7 (F := F)) kd) (k1_pay116 q) (constant S128x768 FTy.f32 0#32)) b0 s0 b1 s1) (k1_pay127 (k1_pay117 (k1_pay24 (k1_pay6 (F := F)) (k1_pay7 (F := F)) kd) (k1_pay116 q) (constant S128x768 FTy.f32 0#32)) b0 s0) =
    pair kd vd q b0 s0 b1 s1 := rfl
theorem store_2_3 : k1_pay118 k1_pay5 (k1_pay23 (k1_pay6 (F := F)) (k1_pay7 (F := F)) vd) (k1_pay113 (k1_pay22 (k1_pay6 (F := F)) (k1_pay7 (F := F)) kd) q) b0 s0 b1 s1 =
    pair kd vd q b0 s0 b1 s1 := rfl
theorem store_2_2 : k1_pay115 k1_pay5 (k1_pay23 (k1_pay6 (F := F)) (k1_pay7 (F := F)) vd) (k1_pay107 (k1_pay22 (k1_pay6 (F := F)) (k1_pay7 (F := F)) kd) q) (k1_pay114 (k1_pay107 (k1_pay22 (k1_pay6 (F := F)) (k1_pay7 (F := F)) kd) q) b0) s0 b1 s1 =
    pair kd vd q b0 s0 b1 s1 := rfl
theorem store_2_1 : k1_pay112 k1_pay5 (k1_pay21 (k1_pay6 (F := F)) (k1_pay7 (F := F)) vd) (k1_pay99 (k1_pay20 (k1_pay6 (F := F)) (k1_pay7 (F := F)) kd) q) (k1_pay110 (k1_pay99 (k1_pay20 (k1_pay6 (F := F)) (k1_pay7 (F := F)) kd) q) b0 s0) (k1_pay111 (k1_pay99 (k1_pay20 (k1_pay6 (F := F)) (k1_pay7 (F := F)) kd) q) b0 s0) b1 s1 =
    pair kd vd q b0 s0 b1 s1 := rfl
theorem store_2_0 : k1_pay106 k1_pay5 (k1_pay21 (k1_pay6 (F := F)) (k1_pay7 (F := F)) vd) (k1_pay102 (k1_pay90 (k1_pay20 (k1_pay6 (F := F)) (k1_pay7 (F := F)) kd) q) b0 s0) (k1_pay103 (k1_pay90 (k1_pay20 (k1_pay6 (F := F)) (k1_pay7 (F := F)) kd) q) b0 s0) (k1_pay104 (k1_pay90 (k1_pay20 (k1_pay6 (F := F)) (k1_pay7 (F := F)) kd) q) b1) s1 (k1_pay105 (k1_pay90 (k1_pay20 (k1_pay6 (F := F)) (k1_pay7 (F := F)) kd) q) b1) =
    pair kd vd q b0 s0 b1 s1 := rfl
theorem store_1_3 : k1_pay98 k1_pay5 (k1_pay19 (k1_pay6 (F := F)) (k1_pay7 (F := F)) vd) (k1_pay93 (k1_pay81 (k1_pay18 (k1_pay6 (F := F)) (k1_pay7 (F := F)) kd) q) b0 s0) (k1_pay96 (k1_pay81 (k1_pay18 (k1_pay6 (F := F)) (k1_pay7 (F := F)) kd) q) b1 s1) (k1_pay97 (k1_pay81 (k1_pay18 (k1_pay6 (F := F)) (k1_pay7 (F := F)) kd) q) b0 s0 b1 s1) =
    pair kd vd q b0 s0 b1 s1 := rfl
theorem store_1_2 : k1_pay89 (k1_pay87 k1_pay5 (k1_pay19 (k1_pay6 (F := F)) (k1_pay7 (F := F)) vd) (k1_pay78 (k1_pay18 (k1_pay6 (F := F)) (k1_pay7 (F := F)) kd) q) b0 s0 b1 s1) (k1_pay88 (k1_pay19 (k1_pay6 (F := F)) (k1_pay7 (F := F)) vd) (k1_pay78 (k1_pay18 (k1_pay6 (F := F)) (k1_pay7 (F := F)) kd) q) b0 s0 b1 s1) (FloatOps.ofBits FTy.f32 1065353216#32) =
    pair kd vd q b0 s0 b1 s1 := rfl
theorem store_1_1 : k1_pay80 k1_pay5 (k1_pay17 (k1_pay6 (F := F)) (k1_pay7 (F := F)) vd) (k1_pay73 (k1_pay16 (k1_pay6 (F := F)) (k1_pay7 (F := F)) kd) q) (k1_pay79 (k1_pay73 (k1_pay16 (k1_pay6 (F := F)) (k1_pay7 (F := F)) kd) q)) b0 s0 b1 s1 =
    pair kd vd q b0 s0 b1 s1 := rfl
theorem store_1_0 : k1_pay77 k1_pay5 (k1_pay17 (k1_pay6 (F := F)) (k1_pay7 (F := F)) vd) (k1_pay65 (k1_pay16 (k1_pay6 (F := F)) (k1_pay7 (F := F)) kd) q) s0 (k1_pay75 (k1_pay65 (k1_pay16 (k1_pay6 (F := F)) (k1_pay7 (F := F)) kd) q) b0 s0) (k1_pay76 (k1_pay65 (k1_pay16 (k1_pay6 (F := F)) (k1_pay7 (F := F)) kd) q) b0 s0) b1 s1 =
    pair kd vd q b0 s0 b1 s1 := rfl
theorem store_0_3 : k1_pay72 k1_pay5 (k1_pay15 (k1_pay6 (F := F)) (k1_pay7 (F := F)) vd) (k1_pay68 e (k1_pay55 (k1_pay14 (k1_pay6 (F := F)) (k1_pay7 (F := F)) kd) q) b0 s0) (k1_pay69 e (k1_pay55 (k1_pay14 (k1_pay6 (F := F)) (k1_pay7 (F := F)) kd) q) b0 s0) (k1_pay70 (k1_pay55 (k1_pay14 (k1_pay6 (F := F)) (k1_pay7 (F := F)) kd) q) b1) (k1_pay71 e) s1 =
    pairE e kd vd q b0 s0 b1 s1 := rfl
theorem store_0_2 : k1_pay64 k1_pay5 (k1_pay15 (k1_pay6 (F := F)) (k1_pay7 (F := F)) vd) (k1_pay58 e (k1_pay51 (k1_pay14 (k1_pay6 (F := F)) (k1_pay7 (F := F)) kd) q) b0 s0) (k1_pay59 e (k1_pay51 (k1_pay14 (k1_pay6 (F := F)) (k1_pay7 (F := F)) kd) q) b0 s0) (k1_pay62 e (k1_pay51 (k1_pay14 (k1_pay6 (F := F)) (k1_pay7 (F := F)) kd) q) b1 s1) (k1_pay63 e (k1_pay51 (k1_pay14 (k1_pay6 (F := F)) (k1_pay7 (F := F)) kd) q) b1 s1) =
    pairE e kd vd q b0 s0 b1 s1 := rfl
theorem store_0_1 : k1_pay54 (k1_pay53 k1_pay5 e (k1_pay13 (k1_pay6 (F := F)) (k1_pay7 (F := F)) vd) (k1_pay47 (k1_pay12 (k1_pay6 (F := F)) (k1_pay7 (F := F)) kd) q) (k1_pay52 (k1_pay47 (k1_pay12 (k1_pay6 (F := F)) (k1_pay7 (F := F)) kd) q)) b0 s0 b1 s1) =
    pairE e kd vd q b0 s0 b1 s1 := rfl
theorem store_0_0 : k1_pay50 k1_pay5 e (k1_pay13 (k1_pay6 (F := F)) (k1_pay7 (F := F)) vd) (k1_pay46 (k1_pay12 (k1_pay6 (F := F)) (k1_pay7 (F := F)) kd) q) (k1_pay48 e (k1_pay12 (k1_pay6 (F := F)) (k1_pay7 (F := F)) kd) q b0) s0 (k1_pay49 e (k1_pay12 (k1_pay6 (F := F)) (k1_pay7 (F := F)) kd) q b0 s0) b1 s1 =
    pairE e kd vd q b0 s0 b1 s1 := rfl

end Cert.Proof.Swa

end
-- ==== Proof.Swa.Attn.lean ====
/-
  The softmax with a sink over extended reals: dividing once at the end is dividing every weight.
-/
module

public import Idealize.ShloMosaic.PureOps.Ideal.Laws

@[expose] public section

noncomputable section

namespace Cert.Proof.Swa

open Idealize.ShloMosaic

variable {n : Nat}

/-- The greatest score and the sink. -/
def peak (S : Fin n → EReal) (s : EReal) : EReal := max ((Finset.univ : Finset (Fin n)).fold max ⊥ S) s

/-- Weighted values, divided at the end. -/
def attnLate (S : Fin n → EReal) (s : EReal) (v : Fin n → EReal) : EReal :=
  (∑ k, Ideal.exp (S k - peak S s) * v k) * Ideal.div 1 ((∑ k, Ideal.exp (S k - peak S s)) + Ideal.exp (s - peak S s))

/-- Values against divided weights. -/
def attnEarly (S : Fin n → EReal) (s : EReal) (v : Fin n → EReal) : EReal :=
  ∑ k, v k * Ideal.div (Ideal.exp (S k - peak S s)) ((∑ k, Ideal.exp (S k - peak S s)) + Ideal.exp (s - peak S s))

theorem fold_ne_top (S : Fin n → EReal) (h : ∀ k, S k ≠ ⊤) (A : Finset (Fin n)) : A.fold max ⊥ S ≠ ⊤ := by
  classical
  induction A using Finset.induction_on with
  | empty => simp
  | insert a A ha ih =>
    rw [Finset.fold_insert ha]
    rcases max_choice (S a) (A.fold max ⊥ S) with e | e <;> rw [e]
    · exact h a
    · exact ih

theorem peak_real (S : Fin n → EReal) (s : EReal) (h : ∀ k, S k ≠ ⊤) (hs : s ≠ ⊤) (hs' : s ≠ ⊥) : ∃ r : ℝ, peak S s = (r : EReal) := by
  have h1 : peak S s ≠ ⊤ := by
    unfold peak
    rcases max_choice ((Finset.univ : Finset (Fin n)).fold max ⊥ S) s with e | e <;> rw [e]
    · exact fold_ne_top S h _
    · exact hs
  have h2 : peak S s ≠ ⊥ := fun e => hs' (le_bot_iff.mp (e ▸ le_max_right _ _))
  exact ⟨(peak S s).toReal, (EReal.coe_toReal h1 h2).symm⟩

theorem exp_real (x : EReal) (M : ℝ) (h : x ≠ ⊤) : ∃ p : ℝ, 0 ≤ p ∧ Ideal.exp (x - (M : EReal)) = (p : EReal) := by
  induction x using EReal.rec with
  | bot => exact ⟨0, le_refl 0, by rw [EReal.bot_sub]; rfl⟩
  | coe r => exact ⟨Real.exp (r - M), (Real.exp_pos _).le, by rw [← EReal.coe_sub]; rfl⟩
  | top => exact absurd rfl h

theorem coe_sum' (p : Fin n → ℝ) (A : Finset (Fin n)) : (∑ k ∈ A, (p k : EReal)) = ((∑ k ∈ A, p k : ℝ) : EReal) := by
  classical
  induction A using Finset.induction_on with
  | empty => simp
  | insert a A ha ih => rw [Finset.sum_insert ha, Finset.sum_insert ha, ih, EReal.coe_add]

theorem sum_mul_real (f : Fin n → EReal) (c : EReal) (h0 : 0 ≤ c) (ht : c ≠ ⊤) (A : Finset (Fin n)) :
    (∑ k ∈ A, f k) * c = ∑ k ∈ A, f k * c := by
  classical
  induction A using Finset.induction_on with
  | empty => simp
  | insert a A ha ih =>
    rw [Finset.sum_insert ha, Finset.sum_insert ha, mul_comm, EReal.left_distrib_of_nonneg_of_ne_top h0 ht, mul_comm c, mul_comm c, ih]

/-- Scores that are never `⊤` and a real sink: one division at the end, and values that differ only where the score is `⊥`, change nothing. -/
theorem attn_eq (S : Fin n → EReal) (s : EReal) (v v' : Fin n → EReal) (h : ∀ k, S k ≠ ⊤) (hs : s ≠ ⊤) (hs' : s ≠ ⊥)
    (hv : ∀ k, S k ≠ ⊥ → v k = v' k) : attnLate S s v = attnEarly S s v' := by
  obtain ⟨M, hM⟩ := peak_real S s h hs hs'
  unfold attnLate attnEarly
  rw [hM]
  choose p hp0 hp using fun k => exp_real (S k) M (h k)
  obtain ⟨r, rfl⟩ : ∃ r : ℝ, s = (r : EReal) := ⟨s.toReal, (EReal.coe_toReal hs hs').symm⟩
  have he : Ideal.exp ((r : EReal) - (M : EReal)) = ((Real.exp (r - M) : ℝ) : EReal) := by rw [← EReal.coe_sub]; rfl
  rw [he]
  simp only [hp]
  rw [coe_sum', ← EReal.coe_add]
  have hD : (0 : ℝ) < (∑ k, p k) + Real.exp (r - M) := add_pos_of_nonneg_of_pos (Finset.sum_nonneg fun k _ => hp0 k) (Real.exp_pos _)
  generalize (∑ k, p k) + Real.exp (r - M) = D at hD
  have hne : (D : EReal) ≠ 0 := by exact_mod_cast hD.ne'
  simp only [Ideal.div, if_neg hne, one_mul, ← EReal.coe_inv]
  have hi : (0 : EReal) ≤ ((D⁻¹ : ℝ) : EReal) := by exact_mod_cast (inv_pos.mpr hD).le
  rw [sum_mul_real _ _ hi (EReal.coe_ne_top _)]
  refine Finset.sum_congr rfl fun k _ => ?_
  by_cases hk : S k = ⊥
  · have h0 : (p k : EReal) = 0 := by rw [← hp k, hk, EReal.bot_sub]; rfl
    rw [h0]; simp
  · rw [hv k hk, mul_comm ((p k : ℝ) : EReal), mul_assoc]

end Cert.Proof.Swa

end
-- ==== Proof.Swa.Soft.lean ====
/-
  A head pair's store, read at a row and a lane.
-/
module

public import proofs.«01_k».proof.Proof.Swa.Pair
public import proofs.«01_k».proof.Proof.Swa.Attn
public import Idealize.ShloMosaic.Lib.Pointwise
public import Idealize.ShloMosaic.Lib.IdealHost
public import Idealize.ShloMosaic.PureOps.Ideal.Laws

@[expose] public section

set_option maxRecDepth 16384

noncomputable section

namespace Cert.Proof.Swa

open Idealize.ShloMosaic Idealize.ShloMosaic.TcCoe
open Cert.KernelIdeal Cert.KernelIdeal.Gen Cert.KernelIdeal.Facts

theorem lane_word : ∀ c : Fin 128, IntOp.cmpi CmpIPredicate.slt (BitVec.ofNat 32 c.val) 64#32 = if c.val < 64 then 1#1 else 0#1 := by
  decide +kernel

theorem one_word : FloatOps.sitofp (F := Ideal) .f32 1#32 = (1 : EReal) := by
  show (((1#32 : BitVec 32).toInt : ℝ) : EReal) = 1
  simp

theorem zero_word : FloatOps.sitofp (F := Ideal) .f32 0#32 = (0 : EReal) := by
  show (((0#32 : BitVec 32).toInt : ℝ) : EReal) = 0
  simp

theorem low_at (k : Fin 384) (c : Fin 128) : k1_pay6 (F := Ideal) (ix2 k c) = if c.val < 64 then 1 else 0 := by
  pointwise [k1_pay6]
  rw [lane_word]
  by_cases h : c.val < 64
  · rw [if_pos h, if_pos h]; exact one_word
  · rw [if_neg h, if_neg h]; exact zero_word

theorem high_at (k : Fin 384) (c : Fin 128) : k1_pay7 (F := Ideal) (ix2 k c) = if c.val < 64 then 0 else 1 := by
  pointwise [k1_pay7]
  rw [low_at]
  by_cases h : c.val < 64
  · rw [if_pos h, if_pos h]; exact EReal.sub_self (EReal.coe_ne_top 1) (EReal.coe_ne_bot 1)
  · rw [if_neg h, if_neg h, sub_zero]

theorem side_at (r c : Fin 128) : k1_pay5 (ix2 r c) = if c.val < 64 then 1#1 else 0#1 := by
  pointwise [k1_pay5]
  rw [lane_word]

theorem eighth : Ideal.ofBits .bf16 15872#16 = ((1 / 8 : ℝ) : EReal) := by
  simp [Ideal.ofBits, Ideal.ieee]
  rw [← EReal.coe_mul]
  norm_num

theorem bot_word : Ideal.ofBits .f32 4286578688#32 = (⊥ : EReal) := by
  simp [Ideal.ofBits, Ideal.ieee]

theorem halves (f : Fin 128 → EReal) : ∑ x, f x = (∑ x : Fin 64, f ⟨x.val, by omega⟩) + ∑ x : Fin 64, f ⟨x.val + 64, by omega⟩ := by
  rw [show (∑ x, f x) = (∑ x : Fin 64, f (Fin.castAdd 64 x)) + ∑ x : Fin 64, f (Fin.natAdd 64 x) from Fin.sum_univ_add (a := 64) (b := 64) f]
  congr 1

theorem scaled (A B C : EReal) (h : C = 1) : A * ((1 / 8 : ℝ) : EReal) * (B * C) = B * A * ((1 / 8 : ℝ) : EReal) := by
  rw [h, mul_one, mul_comm, mul_assoc]

variable (kd vd : FVec Ideal S384x128 .bf16) (q : FVec Ideal S128x128 .bf16) (b : FVec Ideal S1x128x384 .f32)

theorem left_at (r : Fin 128) (k : Fin 384) :
    left (F := Ideal) (scores (F := Ideal) kd q) b (ix2 r k) = (∑ x : Fin 64, kd (ix2 k ⟨x.val, by omega⟩) * q (ix2 r ⟨x.val, by omega⟩)) * ((1 / 8 : ℝ) : EReal) + b (ix3 0 r k) := by
  pointwise [left, scores]
  congr 1
  rw [halves, eighth, sum_mul_real _ _ (by exact_mod_cast (by norm_num : (0 : ℝ) ≤ 1 / 8)) (EReal.coe_ne_top _)]
  have h2 : (∑ x : Fin 64, q (ix2 r ⟨x.val + 64, by omega⟩) * ((1 / 8 : ℝ) : EReal) * (kd (ix2 k ⟨x.val + 64, by omega⟩) * k1_pay6 (F := Ideal) (ix2 k ⟨x.val + 64, by omega⟩))) = 0 :=
    Finset.sum_eq_zero fun x _ => by rw [low_at, if_neg (by simp), mul_zero, mul_zero]
  refine (congrArg (_ + ·) h2).trans ?_
  rw [add_zero]
  exact Finset.sum_congr rfl fun x _ => scaled _ _ _ (by rw [low_at, if_pos x.isLt])

theorem right_at (r : Fin 128) (k : Fin 384) :
    right (F := Ideal) (scores (F := Ideal) kd q) b (ix2 r k) = (∑ x : Fin 64, kd (ix2 k ⟨x.val + 64, by omega⟩) * q (ix2 r ⟨x.val + 64, by omega⟩)) * ((1 / 8 : ℝ) : EReal) + b (ix3 0 r k) := by
  pointwise [right, scores]
  congr 1
  rw [halves, eighth, sum_mul_real _ _ (by exact_mod_cast (by norm_num : (0 : ℝ) ≤ 1 / 8)) (EReal.coe_ne_top _)]
  have h2 : (∑ x : Fin 64, q (ix2 r ⟨x.val, by omega⟩) * ((1 / 8 : ℝ) : EReal) * (kd (ix2 k ⟨x.val, by omega⟩) * k1_pay7 (F := Ideal) (ix2 k ⟨x.val, by omega⟩))) = 0 :=
    Finset.sum_eq_zero fun x _ => by rw [high_at, if_pos x.isLt, mul_zero, mul_zero]
  refine (congrArg (· + _) h2).trans ?_
  rw [zero_add]
  exact Finset.sum_congr rfl fun x _ => scaled _ _ _ (by rw [high_at, if_neg (by simp)])

variable (sc sc0 sc1 : FVec Ideal S128x384 .f32) (s s0 s1 : EReal)

theorem top_at (r : Fin 128) : top (F := Ideal) sc s (ix2 r 0) = peak (fun k => sc (ix2 r k)) s := by
  pointwise [top]
  rw [bot_word]
  rfl

theorem weights_at (r : Fin 128) (k : Fin 384) : weights (F := Ideal) sc s (ix2 r k) = Ideal.exp (sc (ix2 r k) - peak (fun k => sc (ix2 r k)) s) := by
  pointwise [weights]
  rw [top_at]

theorem soft_lo (r : Fin 128) (j : Fin 64) :
    soft (F := Ideal) vd sc0 sc1 s0 s1 (ix2 r ⟨j.val, by omega⟩) = attnLate (fun k => sc0 (ix2 r k)) s0 fun k => vd (ix2 k ⟨j.val, by omega⟩) := by
  have hj : j.val < 128 := by omega
  pointwise [soft, mixed, sinkw]
  simp only [dif_pos hj, low_at, high_at, side_at, if_pos j.isLt, weights_at, top_at, mul_zero, mul_one, Finset.sum_const_zero, add_zero]
  rfl

theorem soft_hi (r : Fin 128) (j : Fin 64) :
    soft (F := Ideal) vd sc0 sc1 s0 s1 (ix2 r ⟨j.val + 64, by omega⟩) = attnLate (fun k => sc1 (ix2 r k)) s1 fun k => vd (ix2 k ⟨j.val + 64, by omega⟩) := by
  have hj : j.val + 64 < 128 := by omega
  have hj' : ¬ j.val + 64 < 64 := by omega
  pointwise [soft, mixed, sinkw]
  simp only [dif_pos hj, low_at, high_at, side_at, if_neg hj', weights_at, top_at, mul_zero, mul_one, Finset.sum_const_zero, zero_add]
  rfl

end Cert.Proof.Swa

end
-- ==== Proof.Swa.Block.lean ====
/-
  The attention kernel's block: every row and lane of a block of 1024 queries is the softmax of its head over the block's own keys.
-/
module

public import proofs.«01_k».proof.Proof.Swa.Launch
public import proofs.«01_k».proof.Proof.Swa.Soft
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Swa

open Idealize.ShloMosaic Idealize.ShloMosaic.TcCoe
open Cert.KernelIdeal Cert.KernelIdeal.Gen Cert.KernelIdeal.Facts

/-- The keys and values that a point holds: the block before, its own, the block after. -/
def held3 (P : FVec Ideal S128x512 .bf16) (C : FVec Ideal S1024x512 .bf16) (N : FVec Ideal S128x512 .bf16) : FVec Ideal S1280x512 .bf16 := fun y =>
  if h : (y 0).val < 128 then P (ix2 ⟨(y 0).val, h⟩ (y 1))
  else if h' : (y 0).val < 1152 then C (ix2 ⟨(y 0).val - 128, by omega⟩ (y 1))
  else N (ix2 ⟨(y 0).val - 1152, by have : (y 0).val < 1280 := (y 0).isLt; omega⟩ (y 1))

/-- The summand of the scores at the ends of the sequence, in sub-block `s` of half `n`. -/
def edgeAt (n s : Nat) (k : Fin 384) : EReal :=
  if (s = 0 ∧ n = 0 ∧ k.val < 128) ∨ (s = 7 ∧ n = 1 ∧ 256 ≤ k.val) then ⊥ else 0

section
variable (sink : FVec Ideal S8 .f32) (Q : FVec Ideal S1024x512 .bf16) (KV : FVec Ideal S1280x512 .bf16) (B : FVec Ideal S8x128x384 .f32) (n : Nat)

/-- The score of row `z 0` of a block against key `k` of its window, in the head of lane `z 1`. -/
def blockScore (z : S1024x512.Idx) (k : Fin 384) : EReal :=
  (∑ x : Fin 64, KV (ix2 ⟨128 * ((z 0).val / 128) + k.val, by have : (z 0).val < 1024 := (z 0).isLt; omega⟩
        ⟨128 * ((z 1).val / 256) + 64 * ((z 1).val / 64 % 2) + x.val, by have : (z 1).val < 512 := (z 1).isLt; omega⟩)
      * Q (ix2 (z 0) ⟨64 * ((z 1).val / 64) + x.val, by have : (z 1).val < 512 := (z 1).isLt; omega⟩)) * ((1 / 8 : ℝ) : EReal)
    + B (ix3 ⟨(z 1).val / 64, by have : (z 1).val < 512 := (z 1).isLt; omega⟩ ⟨(z 0).val % 128, by omega⟩ k)
    + edgeAt n ((z 0).val / 128) k

/-- The value of key `k` of the window of row `z 0`, in lane `z 1`. -/
def blockValue (z : S1024x512.Idx) (k : Fin 384) : EReal :=
  KV (ix2 ⟨128 * ((z 0).val / 128) + k.val, by have : (z 0).val < 1024 := (z 0).isLt; omega⟩
    ⟨256 + 128 * ((z 1).val / 256) + (z 1).val % 128, by have : (z 1).val < 512 := (z 1).isLt; omega⟩)

/-- A block of the result. -/
def blockOut (z : S1024x512.Idx) : EReal :=
  attnLate (blockScore Q KV B n z) (sink (ix1 ⟨(z 1).val / 64, by have : (z 1).val < 512 := (z 1).isLt; omega⟩)) (blockValue KV z)

variable {sink Q KV B n}
variable {kd vd : FVec Ideal S384x128 .bf16} {q : FVec Ideal S128x128 .bf16} {b0 b1 : FVec Ideal S1x128x384 .f32} {s0 s1 : EReal}

/-- A head pair's scores and values that are a tile's: the store is the tile. -/
theorem tile (s : Fin 8) (p : Fin 4) (sc0 sc1 : FVec Ideal S128x384 .f32) (z : S1024x512.Idx) (x : S128x128.Idx)
    (h0 : (z 0).val = 128 * s.val + (x 0).val) (x0 : (x 0).val < 128) (h1 : (z 1).val = 128 * p.val + (x 1).val) (x1 : (x 1).val < 128)
    (hsc0 : ∀ r k, sc0 (ix2 r k) = left (F := Ideal) (scores (F := Ideal) kd q) b0 (ix2 r k) + edgeAt n s.val k)
    (hsc1 : ∀ r k, sc1 (ix2 r k) = right (F := Ideal) (scores (F := Ideal) kd q) b1 (ix2 r k) + edgeAt n s.val k)
    (hk : ∀ (k : Fin 384) (x : Fin 128) (y0 : Fin 1280) (y1 : Fin 512), y0.val = 128 * s.val + k.val → y1.val = 128 * (p.val / 2) + x.val → kd (ix2 k x) = KV (ix2 y0 y1))
    (hv : ∀ (k : Fin 384) (x : Fin 128) (y0 : Fin 1280) (y1 : Fin 512), y0.val = 128 * s.val + k.val → y1.val = 256 + 128 * (p.val / 2) + x.val → vd (ix2 k x) = KV (ix2 y0 y1))
    (hq : ∀ (r x : Fin 128) (y0 : Fin 1024) (y1 : Fin 512), y0.val = 128 * s.val + r.val → y1.val = 128 * p.val + x.val → q (ix2 r x) = Q (ix2 y0 y1))
    (hb0 : ∀ (r : Fin 128) (k : Fin 384) (h : Fin 8), h.val = 2 * p.val → b0 (ix3 0 r k) = B (ix3 h r k))
    (hb1 : ∀ (r : Fin 128) (k : Fin 384) (h : Fin 8), h.val = 2 * p.val + 1 → b1 (ix3 0 r k) = B (ix3 h r k))
    (hs0 : ∀ h : Fin 8, h.val = 2 * p.val → s0 = sink (ix1 h)) (hs1 : ∀ h : Fin 8, h.val = 2 * p.val + 1 → s1 = sink (ix1 h)) :
    soft (F := Ideal) vd sc0 sc1 s0 s1 x = blockOut sink Q KV B n z := by
  have hz0 : (z 0).val < 1024 := (z 0).isLt
  have hz1 : (z 1).val < 512 := (z 1).isLt
  obtain ⟨r, hr⟩ : ∃ r : Fin 128, r.val = (x 0).val := ⟨⟨(x 0).val, x0⟩, rfl⟩
  by_cases hl : (x 1).val < 64
  · obtain ⟨j, hj⟩ : ∃ j : Fin 64, j.val = (x 1).val := ⟨⟨(x 1).val, hl⟩, rfl⟩
    have hx : x = ix2 r ⟨j.val, by omega⟩ := funext fun a => Fin.ext (by match a with | ⟨0, _⟩ => exact hr.symm | ⟨1, _⟩ => exact hj.symm)
    rw [hx, soft_lo]
    unfold blockOut
    congr 1
    · funext k
      rw [hsc0, left_at]
      unfold blockScore
      refine congrArg₂ (· + ·) (congrArg₂ (· + ·) (congrArg (· * _) (Finset.sum_congr rfl fun y _ => congrArg₂ (· * ·) ?_ ?_)) ?_) ?_
      · exact hk _ _ _ _ (by show _ = _; simp only; omega) (by show _ = _; simp only; omega)
      · exact hq _ _ _ _ (by omega) (by simp only; omega)
      · rw [hb0 r k ⟨(z 1).val / 64, by omega⟩ (by simp only; omega)]
        exact congrArg B (congrArg (ix3 _ · k) (Fin.ext (by simp only; omega)))
      · exact congrArg (edgeAt n · k) (by omega)
    · exact hs0 _ (by simp only; omega)
    · funext k
      exact hv _ _ _ _ (by simp only; omega) (by simp only; omega)
  · obtain ⟨j, hj⟩ : ∃ j : Fin 64, j.val + 64 = (x 1).val := ⟨⟨(x 1).val - 64, by omega⟩, by simp only; omega⟩
    have hx : x = ix2 r ⟨j.val + 64, by omega⟩ := funext fun a => Fin.ext (by match a with | ⟨0, _⟩ => exact hr.symm | ⟨1, _⟩ => exact hj.symm)
    rw [hx, soft_hi]
    unfold blockOut
    congr 1
    · funext k
      rw [hsc1, right_at]
      unfold blockScore
      refine congrArg₂ (· + ·) (congrArg₂ (· + ·) (congrArg (· * _) (Finset.sum_congr rfl fun y _ => congrArg₂ (· * ·) ?_ ?_)) ?_) ?_
      · exact hk _ _ _ _ (by simp only; omega) (by simp only; omega)
      · exact hq _ _ _ _ (by omega) (by simp only; omega)
      · rw [hb1 r k ⟨(z 1).val / 64, by omega⟩ (by simp only; omega)]
        exact congrArg B (congrArg (ix3 _ · k) (Fin.ext (by simp only; omega)))
      · exact congrArg (edgeAt n · k) (by omega)
    · exact hs1 _ (by simp only; omega)
    · funext k
      exact hv _ _ _ _ (by simp only; omega) (by simp only; omega)

end

/-- Away from the ends nothing is added. -/
theorem plain (n : Nat) (s : Fin 8) (h0 : s.val ≠ 0) (h7 : s.val ≠ 7) (sc : FVec Ideal S128x384 .f32) (r : Fin 128) (k : Fin 384) :
    sc (ix2 r k) = sc (ix2 r k) + edgeAt n s.val k := by
  unfold edgeAt
  rw [if_neg (by omega), add_zero]

theorem edged_at (n : Nat) (s : Fin 8) (e : FVec Ideal S1x384 .f32) (he : ∀ k, e (ix2 0 k) = edgeAt n s.val k) (sc : FVec Ideal S128x384 .f32) (r : Fin 128) (k : Fin 384) :
    edged (F := Ideal) sc e (ix2 r k) = sc (ix2 r k) + edgeAt n s.val k := by
  pointwise [edged]
  rw [he]

/-- The key's block in its window, as the kernel counts it. -/
theorem block_word : ∀ k : Fin 384, Scalar.select
          (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi (Scalar.extui (Scalar.cmpi CmpIPredicate.sgt 128#32 0#32))
                (Scalar.extui (Scalar.cmpi CmpIPredicate.slt 128#32 0#32))))
            (IntOp.cmpi CmpIPredicate.ne (IntOp.remsi ArithUnit.vector (BitVec.ofNat 32 k.val) 128#32) 0#32))
          (IntOp.subi (IntOp.divsi ArithUnit.vector (BitVec.ofNat 32 k.val) 128#32) 1#32)
          (IntOp.divsi ArithUnit.vector (BitVec.ofNat 32 k.val) 128#32) = BitVec.ofNat 32 (k.val / 128) := by
  decide +kernel

theorem first_test : ∀ n : Fin 2, ∀ k : Fin 384, IntOp.andi (IntOp.cmpi CmpIPredicate.eq (BitVec.ofNat 32 (k.val / 128)) 0#32) (Scalar.cmpi CmpIPredicate.eq (BitVec.ofNat 32 n.val) 0#32)
    = if n.val = 0 ∧ k.val < 128 then 1#1 else 0#1 := by
  decide +kernel

theorem last_test : ∀ n : Fin 2, ∀ k : Fin 384, IntOp.andi (IntOp.cmpi CmpIPredicate.eq (BitVec.ofNat 32 (k.val / 128)) 2#32) (Scalar.cmpi CmpIPredicate.eq (BitVec.ofNat 32 n.val) 1#32)
    = if n.val = 1 ∧ 256 ≤ k.val then 1#1 else 0#1 := by
  decide +kernel

theorem first_word : ∀ n : Fin 2, ∀ k : Fin 384, andi (cmpi .eq (k1_pay10 (iota Kind.tc S1x384 32 [1] iota_S1x384_d1_w32) 128#32 k1_pay8 k1_pay9 0#32) (broadcast S1x384 0#32))
      (broadcast S1x384 (Scalar.cmpi .eq (BitVec.ofNat 32 n.val) 0#32)) (ix2 0 k)
    = if n.val = 0 ∧ k.val < 128 then 1#1 else 0#1 := by
  intro n k
  pointwise [k1_pay10, k1_pay8, k1_pay9]
  rw [block_word, first_test]

theorem last_word : ∀ n : Fin 2, ∀ k : Fin 384, andi (cmpi .eq (k1_pay10 (iota Kind.tc S1x384 32 [1] iota_S1x384_d1_w32) 128#32 k1_pay8 k1_pay9 0#32) (broadcast S1x384 2#32))
      (broadcast S1x384 (Scalar.cmpi .eq (BitVec.ofNat 32 n.val) 1#32)) (ix2 0 k)
    = if n.val = 1 ∧ 256 ≤ k.val then 1#1 else 0#1 := by
  intro n k
  pointwise [k1_pay10, k1_pay8, k1_pay9]
  rw [block_word, last_test]

theorem edge_first (n : Fin 2) (k : Fin 384) :
    k1_pay11 (F := Ideal) (BitVec.ofNat 32 n.val) (iota Kind.tc S1x384 32 [1] iota_S1x384_d1_w32) 128#32 k1_pay8 k1_pay9 0#32 (ix2 0 k) = edgeAt n.val 0 k := by
  refine (show _ = Scalar.select (andi (cmpi .eq (k1_pay10 (iota Kind.tc S1x384 32 [1] iota_S1x384_d1_w32) 128#32 k1_pay8 k1_pay9 0#32) (broadcast S1x384 0#32))
      (broadcast S1x384 (Scalar.cmpi .eq (BitVec.ofNat 32 n.val) 0#32)) (ix2 0 k)) (Ideal.ofBits .f32 4286578688#32) (Ideal.ofBits .f32 0#32) from rfl).trans ?_
  rw [first_word, bot_word]
  unfold edgeAt
  by_cases h : n.val = 0 ∧ k.val < 128
  · rw [if_pos h, if_pos (Or.inl ⟨rfl, h⟩)]; rfl
  · rw [if_neg h, if_neg (by omega)]
    show Ideal.ofBits .f32 0#32 = 0
    simp [Ideal.ofBits, Ideal.ieee]

theorem edge_last (n : Fin 2) (k : Fin 384) :
    k1_pay41 (F := Ideal) (BitVec.ofNat 32 n.val) (k1_pay10 (iota Kind.tc S1x384 32 [1] iota_S1x384_d1_w32) 128#32 k1_pay8 k1_pay9 0#32) (ix2 0 k) = edgeAt n.val 7 k := by
  refine (show _ = Scalar.select (andi (cmpi .eq (k1_pay10 (iota Kind.tc S1x384 32 [1] iota_S1x384_d1_w32) 128#32 k1_pay8 k1_pay9 0#32) (broadcast S1x384 2#32))
      (broadcast S1x384 (Scalar.cmpi .eq (BitVec.ofNat 32 n.val) 1#32)) (ix2 0 k)) (Ideal.ofBits .f32 4286578688#32) (Ideal.ofBits .f32 0#32) from rfl).trans ?_
  rw [last_word, bot_word]
  unfold edgeAt
  by_cases h : n.val = 1 ∧ 256 ≤ k.val
  · rw [if_pos h, if_pos (Or.inr ⟨rfl, h⟩)]; rfl
  · rw [if_neg h, if_neg (by omega)]
    show Ideal.ofBits .f32 0#32 = 0
    simp [Ideal.ofBits, Ideal.ieee]

variable (V : (c : Dev nD) → (b : Ref sig .tc) → Buf (Elt Ideal) ((c : Thread nD τ).loc b))

/-- The keys and values of a point. -/
abbrev keys (c : Dev nD) (t : Fin cfg1.N) : FVec Ideal S1280x512 .bf16 :=
  held3 (iblk1 V c 2 t) (iblk1 V c 3 t) (iblk1 V c 4 t)

/-! Each of the three stores into the buffer is its part of what is held. -/

theorem piece_next (P : FVec Ideal S128x512 .bf16) (C : FVec Ideal S1024x512 .bf16) (N : FVec Ideal S128x512 .bf16) (y0 : Fin 1280) (y1 : Fin 512)
    (w : S128x512.Idx) (h0 : y0.val = 1152 + (w 0).val) (hw : (w 0).val < 128) (h1 : y1.val = (w 1).val) :
    k1_pay4 (F := Ideal) N w = held3 P C N (ix2 y0 y1) := by
  have hw1 : (w 1).val < 512 := (w 1).isLt
  have e : w = ix2 ⟨y0.val - 1152, by omega⟩ y1 := funext fun a => Fin.ext (by
    match a with
    | ⟨0, _⟩ => show (w 0).val = y0.val - 1152; omega
    | ⟨1, _⟩ => exact h1.symm)
  rw [e]
  refine Eq.trans ?_ (show _ = held3 P C N (ix2 y0 y1) from Eq.symm ((dif_neg (show ¬ y0.val < 128 by omega)).trans ((dif_neg (show ¬ y0.val < 1152 by omega)).trans rfl)))
  pointwise [k1_pay4]

theorem piece_own (P : FVec Ideal S128x512 .bf16) (C : FVec Ideal S1024x512 .bf16) (N : FVec Ideal S128x512 .bf16) (y0 : Fin 1280) (y1 : Fin 512)
    (w : S1024x512.Idx) (h0 : y0.val = 128 + (w 0).val) (hw : (w 0).val < 1024) (h1 : y1.val = (w 1).val) :
    k1_pay3 (F := Ideal) C w = held3 P C N (ix2 y0 y1) := by
  have hw1 : (w 1).val < 512 := (w 1).isLt
  have e : w = ix2 ⟨y0.val - 128, by omega⟩ y1 := funext fun a => Fin.ext (by
    match a with
    | ⟨0, _⟩ => show (w 0).val = y0.val - 128; omega
    | ⟨1, _⟩ => exact h1.symm)
  rw [e]
  refine Eq.trans ?_ (show _ = held3 P C N (ix2 y0 y1) from Eq.symm ((dif_neg (show ¬ y0.val < 128 by omega)).trans ((dif_pos (show y0.val < 1152 by omega)).trans rfl)))
  pointwise [k1_pay3]

theorem piece_prev (P : FVec Ideal S128x512 .bf16) (C : FVec Ideal S1024x512 .bf16) (N : FVec Ideal S128x512 .bf16) (y0 : Fin 1280) (y1 : Fin 512)
    (w : S128x512.Idx) (h0 : y0.val = (w 0).val) (hw : (w 0).val < 128) (h1 : y1.val = (w 1).val) :
    k1_pay2 (F := Ideal) P w = held3 P C N (ix2 y0 y1) := by
  have hw1 : (w 1).val < 512 := (w 1).isLt
  have e : w = ix2 ⟨y0.val, by omega⟩ y1 := funext fun a => Fin.ext (by
    match a with
    | ⟨0, _⟩ => show (w 0).val = y0.val; omega
    | ⟨1, _⟩ => exact h1.symm)
  rw [e]
  refine Eq.trans ?_ (show _ = held3 P C N (ix2 y0 y1) from Eq.symm ((dif_pos (show y0.val < 128 by omega)).trans rfl))
  pointwise [k1_pay2]

/-- The three blocks fill the buffer. -/
theorem three_cover (P : FVec Ideal S128x512 .bf16) (C : FVec Ideal S1024x512 .bf16) (N : FVec Ideal S128x512 .bf16) (y : S1280x512.Idx) :
    ∃ p ∈ ([⟨Rect.unit ![1152, 0] ![128, 512] inb_S1280x512_S128x512_1152_0, N⟩,
        ⟨Rect.unit ![128, 0] ![1024, 512] inb_S1280x512_S1024x512_128_0, C⟩,
        ⟨Rect.unit ![0, 0] ![128, 512] inb_S1280x512_S128x512_0_0, P⟩] : List (View.Piece (Elt Ideal) S1280x512 .bf16)), y ∈ p.1.set := by
  have h0 : (y 0).val < 1280 := (y 0).isLt
  have h1 : (y 1).val < 512 := (y 1).isLt
  by_cases h : (y 0).val < 128
  · refine ⟨_, .tail _ (.tail _ (.head _)), (Rect.mem_set_unit (inb := inb_S1280x512_S128x512_0_0)).mpr fun a => ?_⟩
    match a with
    | ⟨0, _⟩ => exact ⟨Nat.zero_le _, by show (y 0).val < 0 + 128; omega⟩
    | ⟨1, _⟩ => exact ⟨Nat.zero_le _, by show (y 1).val < 0 + 512; omega⟩
  · by_cases h' : (y 0).val < 1152
    · refine ⟨_, .tail _ (.head _), (Rect.mem_set_unit (inb := inb_S1280x512_S1024x512_128_0)).mpr fun a => ?_⟩
      match a with
      | ⟨0, _⟩ => exact ⟨by show 128 ≤ (y 0).val; omega, by show (y 0).val < 128 + 1024; omega⟩
      | ⟨1, _⟩ => exact ⟨Nat.zero_le _, by show (y 1).val < 0 + 512; omega⟩
    · refine ⟨_, .head _, (Rect.mem_set_unit (inb := inb_S1280x512_S128x512_1152_0)).mpr fun a => ?_⟩
      match a with
      | ⟨0, _⟩ => exact ⟨by show 1152 ≤ (y 0).val; omega, by show (y 0).val < 1152 + 128; omega⟩
      | ⟨1, _⟩ => exact ⟨Nat.zero_le _, by show (y 1).val < 0 + 512; omega⟩

/-- A load from the keys and values held. -/
theorem keys_read (c : Dev nD) (t : Fin cfg1.N) (R O : Nat) (h : ∀ a, (![R, O] : Fin 2 → Nat) a + (![384, 128] : Fin 2 → Nat) a ≤ S1280x512.size a)
    (k : Fin 384) (x : Fin 128) (y0 : Fin 1280) (y1 : Fin 512) (h0 : y0.val = R + k.val) (h1 : y1.val = O + x.val) :
    (View.whole cc1_scratch0).readCov (Val := Elt Ideal)
        [⟨Rect.unit ![1152, 0] ![128, 512] inb_S1280x512_S128x512_1152_0, k1_pay4 (F := Ideal) (iblk1 V c 4 t)⟩,
          ⟨Rect.unit ![128, 0] ![1024, 512] inb_S1280x512_S1024x512_128_0, k1_pay3 (F := Ideal) (iblk1 V c 3 t)⟩,
          ⟨Rect.unit ![0, 0] ![128, 512] inb_S1280x512_S128x512_0_0, k1_pay2 (F := Ideal) (iblk1 V c 2 t)⟩]
        (Rect.unit (s := S1280x512) ![R, O] ![384, 128] h).toLoadRect (ix2 k x : S384x128.Idx) = keys V c t (ix2 y0 y1) := by
  rw [View.readCov_eq_canon']
  have e : (Rect.unit (s := S1280x512) ![R, O] ![384, 128] h).toLoadRect.idx (ix2 k x) = ix2 y0 y1 := funext fun a => Fin.ext (by
    match a with
    | ⟨0, _⟩ => show R + 1 * k.val = y0.val; omega
    | ⟨1, _⟩ => show O + 1 * x.val = y1.val; omega)
  refine (congrArg _ e).trans ?_
  have hy0 : y0.val < 1280 := y0.isLt
  have hy1 : y1.val < 512 := y1.isLt
  canon_tiles w hw using (three_cover _ _ _ (ix2 y0 y1))
  · exact piece_next _ _ _ y0 y1 w hw0 w0_lt hw1
  · exact piece_own _ _ _ y0 y1 w hw0 w0_lt hw1
  · exact piece_prev _ _ _ y0 y1 w hw0 w0_lt hw1

theorem query_read (Q : FVec Ideal S1024x512 .bf16) (R O : Nat) (h : ∀ a, (![R, O] : Fin 2 → Nat) a + (![128, 128] : Fin 2 → Nat) a ≤ S1024x512.size a)
    (r x : Fin 128) (y0 : Fin 1024) (y1 : Fin 512) (h0 : y0.val = R + r.val) (h1 : y1.val = O + x.val) :
    (View.ld (Val := Elt Ideal) (e' := .bf16) Q (Rect.unit (s := S1024x512) ![R, O] ![128, 128] h) : FVec Ideal S128x128 .bf16) (ix2 r x) = Q (ix2 y0 y1) := by
  refine congrArg Q (funext fun a => Fin.ext ?_)
  match a with
  | ⟨0, _⟩ => show R + 1 * r.val = y0.val; omega
  | ⟨1, _⟩ => show O + 1 * x.val = y1.val; omega

theorem bias_read (B : FVec Ideal S8x128x384 .f32) (O : Nat) (h : ∀ a, (![O, 0, 0] : Fin 3 → Nat) a + (![1, 128, 384] : Fin 3 → Nat) a ≤ S8x128x384.size a)
    (r : Fin 128) (k : Fin 384) (y : Fin 8) (h0 : y.val = O) :
    (View.ld (Val := Elt Ideal) (e' := .f32) B (Rect.unit (s := S8x128x384) ![O, 0, 0] ![1, 128, 384] h) : FVec Ideal S1x128x384 .f32) (ix3 0 r k) = B (ix3 y r k) := by
  refine congrArg B (funext fun a => Fin.ext ?_)
  match a with
  | ⟨0, _⟩ => exact h0.symm
  | ⟨1, _⟩ => show 0 + 1 * r.val = r.val; omega
  | ⟨2, _⟩ => show 0 + 1 * k.val = k.val; omega

theorem sink_read (T : FVec Ideal S8 .f32) (O : Nat) (h : ∀ a, (![O] : Fin 1 → Nat) a + (![1] : Fin 1 → Nat) a ≤ S8.size a)
    (y : Fin 8) (h0 : y.val = O) :
    View.ld (Val := Elt Ideal) (e' := .f32) T (Rect.unit (s := S8) ![O] ![1] h) (Shape.Idx.first (show 0 < (⟨1, ![1]⟩ : Shape).numel by decide +kernel)) = T (ix1 y) := by
  refine congrArg T (funext fun a => Fin.ext ?_)
  match a with
  | ⟨0, _⟩ => exact h0.symm

end Cert.Proof.Swa

end
-- ==== Proof.Swa.Tiles.lean ====
/-
  The attention kernel's block put together from its 32 stores.
-/
module

public import proofs.«01_k».proof.Proof.Swa.Block
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Swa

open Idealize.ShloMosaic Idealize.ShloMosaic.TcCoe
open Cert.KernelIdeal Cert.KernelIdeal.Gen Cert.KernelIdeal.Facts

variable (V : (c : Dev nD) → (b : Ref sig .tc) → Buf (Elt Ideal) ((c : Thread nD τ).loc b))

set_option maxHeartbeats 16000000 in
/-- The attention kernel's block is 32 stores, each a tile of it. -/
theorem attn_block (c : Dev nD) (t : Fin cfg1.N) (z : S1024x512.Idx) :
    (outsAt1 V c t : FVec Ideal S1024x512 .bf16) z
      = blockOut (iblk1 V c 0 t) (iblk1 V c 1 t) (keys V c t) (iblk1 V c 5 t) (grid1.coords t 1).val z := by
  unfold Gen.outsAt1
  frame_out
  canon_tiles x h
  · exact (congrFun (store_7_3 (F := Ideal) _ _ _ _ _ _ _ _) x).trans (tile 7 3 _ _ z x h0 x0_lt h1 x1_lt
      (edged_at _ 7 _ (edge_last (grid1.coords t 1)) _) (edged_at _ 7 _ (edge_last (grid1.coords t 1)) _)
      (fun k x y0 y1 e0 e1 => keys_read V c t 896 128 _ k x y0 y1 e0 e1) (fun k x y0 y1 e0 e1 => keys_read V c t 896 384 _ k x y0 y1 e0 e1)
      (query_read _ 896 384 _) (bias_read _ 6 _) (bias_read _ 7 _) (sink_read _ 6 _) (sink_read _ 7 _))
  · exact (congrFun (store_7_2 (F := Ideal) _ _ _ _ _ _ _ _) x).trans (tile 7 2 _ _ z x h0 x0_lt h1 x1_lt
      (edged_at _ 7 _ (edge_last (grid1.coords t 1)) _) (edged_at _ 7 _ (edge_last (grid1.coords t 1)) _)
      (fun k x y0 y1 e0 e1 => keys_read V c t 896 128 _ k x y0 y1 e0 e1) (fun k x y0 y1 e0 e1 => keys_read V c t 896 384 _ k x y0 y1 e0 e1)
      (query_read _ 896 256 _) (bias_read _ 4 _) (bias_read _ 5 _) (sink_read _ 4 _) (sink_read _ 5 _))
  · exact (congrFun (store_7_1 (F := Ideal) _ _ _ _ _ _ _ _) x).trans (tile 7 1 _ _ z x h0 x0_lt h1 x1_lt
      (edged_at _ 7 _ (edge_last (grid1.coords t 1)) _) (edged_at _ 7 _ (edge_last (grid1.coords t 1)) _)
      (fun k x y0 y1 e0 e1 => keys_read V c t 896 0 _ k x y0 y1 e0 e1) (fun k x y0 y1 e0 e1 => keys_read V c t 896 256 _ k x y0 y1 e0 e1)
      (query_read _ 896 128 _) (bias_read _ 2 _) (bias_read _ 3 _) (sink_read _ 2 _) (sink_read _ 3 _))
  · exact (congrFun (store_7_0 (F := Ideal) _ _ _ _ _ _ _ _) x).trans (tile 7 0 _ _ z x h0 x0_lt (h1.trans (Nat.zero_add _).symm) x1_lt
      (edged_at _ 7 _ (edge_last (grid1.coords t 1)) _) (edged_at _ 7 _ (edge_last (grid1.coords t 1)) _)
      (fun k x y0 y1 e0 e1 => keys_read V c t 896 0 _ k x y0 y1 e0 e1) (fun k x y0 y1 e0 e1 => keys_read V c t 896 256 _ k x y0 y1 e0 e1)
      (query_read _ 896 0 _) (bias_read _ 0 _) (bias_read _ 1 _) (sink_read _ 0 _) (sink_read _ 1 _))
  · exact (congrFun (store_6_3 (F := Ideal) _ _ _ _ _ _ _) x).trans (tile 6 3 _ _ z x h0 x0_lt h1 x1_lt
      (plain _ 6 (by decide) (by decide) _) (plain _ 6 (by decide) (by decide) _)
      (fun k x y0 y1 e0 e1 => keys_read V c t 768 128 _ k x y0 y1 e0 e1) (fun k x y0 y1 e0 e1 => keys_read V c t 768 384 _ k x y0 y1 e0 e1)
      (query_read _ 768 384 _) (bias_read _ 6 _) (bias_read _ 7 _) (sink_read _ 6 _) (sink_read _ 7 _))
  · exact (congrFun (store_6_2 (F := Ideal) _ _ _ _ _ _ _) x).trans (tile 6 2 _ _ z x h0 x0_lt h1 x1_lt
      (plain _ 6 (by decide) (by decide) _) (plain _ 6 (by decide) (by decide) _)
      (fun k x y0 y1 e0 e1 => keys_read V c t 768 128 _ k x y0 y1 e0 e1) (fun k x y0 y1 e0 e1 => keys_read V c t 768 384 _ k x y0 y1 e0 e1)
      (query_read _ 768 256 _) (bias_read _ 4 _) (bias_read _ 5 _) (sink_read _ 4 _) (sink_read _ 5 _))
  · exact (congrFun (store_6_1 (F := Ideal) _ _ _ _ _ _ _) x).trans (tile 6 1 _ _ z x h0 x0_lt h1 x1_lt
      (plain _ 6 (by decide) (by decide) _) (plain _ 6 (by decide) (by decide) _)
      (fun k x y0 y1 e0 e1 => keys_read V c t 768 0 _ k x y0 y1 e0 e1) (fun k x y0 y1 e0 e1 => keys_read V c t 768 256 _ k x y0 y1 e0 e1)
      (query_read _ 768 128 _) (bias_read _ 2 _) (bias_read _ 3 _) (sink_read _ 2 _) (sink_read _ 3 _))
  · exact (congrFun (store_6_0 (F := Ideal) _ _ _ _ _ _ _) x).trans (tile 6 0 _ _ z x h0 x0_lt (h1.trans (Nat.zero_add _).symm) x1_lt
      (plain _ 6 (by decide) (by decide) _) (plain _ 6 (by decide) (by decide) _)
      (fun k x y0 y1 e0 e1 => keys_read V c t 768 0 _ k x y0 y1 e0 e1) (fun k x y0 y1 e0 e1 => keys_read V c t 768 256 _ k x y0 y1 e0 e1)
      (query_read _ 768 0 _) (bias_read _ 0 _) (bias_read _ 1 _) (sink_read _ 0 _) (sink_read _ 1 _))
  · exact (congrFun (store_5_3 (F := Ideal) _ _ _ _ _ _ _) x).trans (tile 5 3 _ _ z x h0 x0_lt h1 x1_lt
      (plain _ 5 (by decide) (by decide) _) (plain _ 5 (by decide) (by decide) _)
      (fun k x y0 y1 e0 e1 => keys_read V c t 640 128 _ k x y0 y1 e0 e1) (fun k x y0 y1 e0 e1 => keys_read V c t 640 384 _ k x y0 y1 e0 e1)
      (query_read _ 640 384 _) (bias_read _ 6 _) (bias_read _ 7 _) (sink_read _ 6 _) (sink_read _ 7 _))
  · exact (congrFun (store_5_2 (F := Ideal) _ _ _ _ _ _ _) x).trans (tile 5 2 _ _ z x h0 x0_lt h1 x1_lt
      (plain _ 5 (by decide) (by decide) _) (plain _ 5 (by decide) (by decide) _)
      (fun k x y0 y1 e0 e1 => keys_read V c t 640 128 _ k x y0 y1 e0 e1) (fun k x y0 y1 e0 e1 => keys_read V c t 640 384 _ k x y0 y1 e0 e1)
      (query_read _ 640 256 _) (bias_read _ 4 _) (bias_read _ 5 _) (sink_read _ 4 _) (sink_read _ 5 _))
  · exact (congrFun (store_5_1 (F := Ideal) _ _ _ _ _ _ _) x).trans (tile 5 1 _ _ z x h0 x0_lt h1 x1_lt
      (plain _ 5 (by decide) (by decide) _) (plain _ 5 (by decide) (by decide) _)
      (fun k x y0 y1 e0 e1 => keys_read V c t 640 0 _ k x y0 y1 e0 e1) (fun k x y0 y1 e0 e1 => keys_read V c t 640 256 _ k x y0 y1 e0 e1)
      (query_read _ 640 128 _) (bias_read _ 2 _) (bias_read _ 3 _) (sink_read _ 2 _) (sink_read _ 3 _))
  · exact (congrFun (store_5_0 (F := Ideal) _ _ _ _ _ _ _) x).trans (tile 5 0 _ _ z x h0 x0_lt (h1.trans (Nat.zero_add _).symm) x1_lt
      (plain _ 5 (by decide) (by decide) _) (plain _ 5 (by decide) (by decide) _)
      (fun k x y0 y1 e0 e1 => keys_read V c t 640 0 _ k x y0 y1 e0 e1) (fun k x y0 y1 e0 e1 => keys_read V c t 640 256 _ k x y0 y1 e0 e1)
      (query_read _ 640 0 _) (bias_read _ 0 _) (bias_read _ 1 _) (sink_read _ 0 _) (sink_read _ 1 _))
  · exact (congrFun (store_4_3 (F := Ideal) _ _ _ _ _ _ _) x).trans (tile 4 3 _ _ z x h0 x0_lt h1 x1_lt
      (plain _ 4 (by decide) (by decide) _) (plain _ 4 (by decide) (by decide) _)
      (fun k x y0 y1 e0 e1 => keys_read V c t 512 128 _ k x y0 y1 e0 e1) (fun k x y0 y1 e0 e1 => keys_read V c t 512 384 _ k x y0 y1 e0 e1)
      (query_read _ 512 384 _) (bias_read _ 6 _) (bias_read _ 7 _) (sink_read _ 6 _) (sink_read _ 7 _))
  · exact (congrFun (store_4_2 (F := Ideal) _ _ _ _ _ _ _) x).trans (tile 4 2 _ _ z x h0 x0_lt h1 x1_lt
      (plain _ 4 (by decide) (by decide) _) (plain _ 4 (by decide) (by decide) _)
      (fun k x y0 y1 e0 e1 => keys_read V c t 512 128 _ k x y0 y1 e0 e1) (fun k x y0 y1 e0 e1 => keys_read V c t 512 384 _ k x y0 y1 e0 e1)
      (query_read _ 512 256 _) (bias_read _ 4 _) (bias_read _ 5 _) (sink_read _ 4 _) (sink_read _ 5 _))
  · exact (congrFun (store_4_1 (F := Ideal) _ _ _ _ _ _ _) x).trans (tile 4 1 _ _ z x h0 x0_lt h1 x1_lt
      (plain _ 4 (by decide) (by decide) _) (plain _ 4 (by decide) (by decide) _)
      (fun k x y0 y1 e0 e1 => keys_read V c t 512 0 _ k x y0 y1 e0 e1) (fun k x y0 y1 e0 e1 => keys_read V c t 512 256 _ k x y0 y1 e0 e1)
      (query_read _ 512 128 _) (bias_read _ 2 _) (bias_read _ 3 _) (sink_read _ 2 _) (sink_read _ 3 _))
  · exact (congrFun (store_4_0 (F := Ideal) _ _ _ _ _ _ _) x).trans (tile 4 0 _ _ z x h0 x0_lt (h1.trans (Nat.zero_add _).symm) x1_lt
      (plain _ 4 (by decide) (by decide) _) (plain _ 4 (by decide) (by decide) _)
      (fun k x y0 y1 e0 e1 => keys_read V c t 512 0 _ k x y0 y1 e0 e1) (fun k x y0 y1 e0 e1 => keys_read V c t 512 256 _ k x y0 y1 e0 e1)
      (query_read _ 512 0 _) (bias_read _ 0 _) (bias_read _ 1 _) (sink_read _ 0 _) (sink_read _ 1 _))
  · exact (congrFun (store_3_3 (F := Ideal) _ _ _ _ _ _ _) x).trans (tile 3 3 _ _ z x h0 x0_lt h1 x1_lt
      (plain _ 3 (by decide) (by decide) _) (plain _ 3 (by decide) (by decide) _)
      (fun k x y0 y1 e0 e1 => keys_read V c t 384 128 _ k x y0 y1 e0 e1) (fun k x y0 y1 e0 e1 => keys_read V c t 384 384 _ k x y0 y1 e0 e1)
      (query_read _ 384 384 _) (bias_read _ 6 _) (bias_read _ 7 _) (sink_read _ 6 _) (sink_read _ 7 _))
  · exact (congrFun (store_3_2 (F := Ideal) _ _ _ _ _ _ _) x).trans (tile 3 2 _ _ z x h0 x0_lt h1 x1_lt
      (plain _ 3 (by decide) (by decide) _) (plain _ 3 (by decide) (by decide) _)
      (fun k x y0 y1 e0 e1 => keys_read V c t 384 128 _ k x y0 y1 e0 e1) (fun k x y0 y1 e0 e1 => keys_read V c t 384 384 _ k x y0 y1 e0 e1)
      (query_read _ 384 256 _) (bias_read _ 4 _) (bias_read _ 5 _) (sink_read _ 4 _) (sink_read _ 5 _))
  · exact (congrFun (store_3_1 (F := Ideal) _ _ _ _ _ _ _) x).trans (tile 3 1 _ _ z x h0 x0_lt h1 x1_lt
      (plain _ 3 (by decide) (by decide) _) (plain _ 3 (by decide) (by decide) _)
      (fun k x y0 y1 e0 e1 => keys_read V c t 384 0 _ k x y0 y1 e0 e1) (fun k x y0 y1 e0 e1 => keys_read V c t 384 256 _ k x y0 y1 e0 e1)
      (query_read _ 384 128 _) (bias_read _ 2 _) (bias_read _ 3 _) (sink_read _ 2 _) (sink_read _ 3 _))
  · exact (congrFun (store_3_0 (F := Ideal) _ _ _ _ _ _ _) x).trans (tile 3 0 _ _ z x h0 x0_lt (h1.trans (Nat.zero_add _).symm) x1_lt
      (plain _ 3 (by decide) (by decide) _) (plain _ 3 (by decide) (by decide) _)
      (fun k x y0 y1 e0 e1 => keys_read V c t 384 0 _ k x y0 y1 e0 e1) (fun k x y0 y1 e0 e1 => keys_read V c t 384 256 _ k x y0 y1 e0 e1)
      (query_read _ 384 0 _) (bias_read _ 0 _) (bias_read _ 1 _) (sink_read _ 0 _) (sink_read _ 1 _))
  · exact (congrFun (store_2_3 (F := Ideal) _ _ _ _ _ _ _) x).trans (tile 2 3 _ _ z x h0 x0_lt h1 x1_lt
      (plain _ 2 (by decide) (by decide) _) (plain _ 2 (by decide) (by decide) _)
      (fun k x y0 y1 e0 e1 => keys_read V c t 256 128 _ k x y0 y1 e0 e1) (fun k x y0 y1 e0 e1 => keys_read V c t 256 384 _ k x y0 y1 e0 e1)
      (query_read _ 256 384 _) (bias_read _ 6 _) (bias_read _ 7 _) (sink_read _ 6 _) (sink_read _ 7 _))
  · exact (congrFun (store_2_2 (F := Ideal) _ _ _ _ _ _ _) x).trans (tile 2 2 _ _ z x h0 x0_lt h1 x1_lt
      (plain _ 2 (by decide) (by decide) _) (plain _ 2 (by decide) (by decide) _)
      (fun k x y0 y1 e0 e1 => keys_read V c t 256 128 _ k x y0 y1 e0 e1) (fun k x y0 y1 e0 e1 => keys_read V c t 256 384 _ k x y0 y1 e0 e1)
      (query_read _ 256 256 _) (bias_read _ 4 _) (bias_read _ 5 _) (sink_read _ 4 _) (sink_read _ 5 _))
  · exact (congrFun (store_2_1 (F := Ideal) _ _ _ _ _ _ _) x).trans (tile 2 1 _ _ z x h0 x0_lt h1 x1_lt
      (plain _ 2 (by decide) (by decide) _) (plain _ 2 (by decide) (by decide) _)
      (fun k x y0 y1 e0 e1 => keys_read V c t 256 0 _ k x y0 y1 e0 e1) (fun k x y0 y1 e0 e1 => keys_read V c t 256 256 _ k x y0 y1 e0 e1)
      (query_read _ 256 128 _) (bias_read _ 2 _) (bias_read _ 3 _) (sink_read _ 2 _) (sink_read _ 3 _))
  · exact (congrFun (store_2_0 (F := Ideal) _ _ _ _ _ _ _) x).trans (tile 2 0 _ _ z x h0 x0_lt (h1.trans (Nat.zero_add _).symm) x1_lt
      (plain _ 2 (by decide) (by decide) _) (plain _ 2 (by decide) (by decide) _)
      (fun k x y0 y1 e0 e1 => keys_read V c t 256 0 _ k x y0 y1 e0 e1) (fun k x y0 y1 e0 e1 => keys_read V c t 256 256 _ k x y0 y1 e0 e1)
      (query_read _ 256 0 _) (bias_read _ 0 _) (bias_read _ 1 _) (sink_read _ 0 _) (sink_read _ 1 _))
  · exact (congrFun (store_1_3 (F := Ideal) _ _ _ _ _ _ _) x).trans (tile 1 3 _ _ z x h0 x0_lt h1 x1_lt
      (plain _ 1 (by decide) (by decide) _) (plain _ 1 (by decide) (by decide) _)
      (fun k x y0 y1 e0 e1 => keys_read V c t 128 128 _ k x y0 y1 e0 e1) (fun k x y0 y1 e0 e1 => keys_read V c t 128 384 _ k x y0 y1 e0 e1)
      (query_read _ 128 384 _) (bias_read _ 6 _) (bias_read _ 7 _) (sink_read _ 6 _) (sink_read _ 7 _))
  · exact (congrFun (store_1_2 (F := Ideal) _ _ _ _ _ _ _) x).trans (tile 1 2 _ _ z x h0 x0_lt h1 x1_lt
      (plain _ 1 (by decide) (by decide) _) (plain _ 1 (by decide) (by decide) _)
      (fun k x y0 y1 e0 e1 => keys_read V c t 128 128 _ k x y0 y1 e0 e1) (fun k x y0 y1 e0 e1 => keys_read V c t 128 384 _ k x y0 y1 e0 e1)
      (query_read _ 128 256 _) (bias_read _ 4 _) (bias_read _ 5 _) (sink_read _ 4 _) (sink_read _ 5 _))
  · exact (congrFun (store_1_1 (F := Ideal) _ _ _ _ _ _ _) x).trans (tile 1 1 _ _ z x h0 x0_lt h1 x1_lt
      (plain _ 1 (by decide) (by decide) _) (plain _ 1 (by decide) (by decide) _)
      (fun k x y0 y1 e0 e1 => keys_read V c t 128 0 _ k x y0 y1 e0 e1) (fun k x y0 y1 e0 e1 => keys_read V c t 128 256 _ k x y0 y1 e0 e1)
      (query_read _ 128 128 _) (bias_read _ 2 _) (bias_read _ 3 _) (sink_read _ 2 _) (sink_read _ 3 _))
  · exact (congrFun (store_1_0 (F := Ideal) _ _ _ _ _ _ _) x).trans (tile 1 0 _ _ z x h0 x0_lt (h1.trans (Nat.zero_add _).symm) x1_lt
      (plain _ 1 (by decide) (by decide) _) (plain _ 1 (by decide) (by decide) _)
      (fun k x y0 y1 e0 e1 => keys_read V c t 128 0 _ k x y0 y1 e0 e1) (fun k x y0 y1 e0 e1 => keys_read V c t 128 256 _ k x y0 y1 e0 e1)
      (query_read _ 128 0 _) (bias_read _ 0 _) (bias_read _ 1 _) (sink_read _ 0 _) (sink_read _ 1 _))
  · exact (congrFun (store_0_3 (F := Ideal) _ _ _ _ _ _ _ _) x).trans (tile 0 3 _ _ z x (h0.trans (Nat.zero_add _).symm) x0_lt h1 x1_lt
      (edged_at _ 0 _ (edge_first (grid1.coords t 1)) _) (edged_at _ 0 _ (edge_first (grid1.coords t 1)) _)
      (fun k x y0 y1 e0 e1 => keys_read V c t 0 128 _ k x y0 y1 e0 e1) (fun k x y0 y1 e0 e1 => keys_read V c t 0 384 _ k x y0 y1 e0 e1)
      (query_read _ 0 384 _) (bias_read _ 6 _) (bias_read _ 7 _) (sink_read _ 6 _) (sink_read _ 7 _))
  · exact (congrFun (store_0_2 (F := Ideal) _ _ _ _ _ _ _ _) x).trans (tile 0 2 _ _ z x (h0.trans (Nat.zero_add _).symm) x0_lt h1 x1_lt
      (edged_at _ 0 _ (edge_first (grid1.coords t 1)) _) (edged_at _ 0 _ (edge_first (grid1.coords t 1)) _)
      (fun k x y0 y1 e0 e1 => keys_read V c t 0 128 _ k x y0 y1 e0 e1) (fun k x y0 y1 e0 e1 => keys_read V c t 0 384 _ k x y0 y1 e0 e1)
      (query_read _ 0 256 _) (bias_read _ 4 _) (bias_read _ 5 _) (sink_read _ 4 _) (sink_read _ 5 _))
  · exact (congrFun (store_0_1 (F := Ideal) _ _ _ _ _ _ _ _) x).trans (tile 0 1 _ _ z x (h0.trans (Nat.zero_add _).symm) x0_lt h1 x1_lt
      (edged_at _ 0 _ (edge_first (grid1.coords t 1)) _) (edged_at _ 0 _ (edge_first (grid1.coords t 1)) _)
      (fun k x y0 y1 e0 e1 => keys_read V c t 0 0 _ k x y0 y1 e0 e1) (fun k x y0 y1 e0 e1 => keys_read V c t 0 256 _ k x y0 y1 e0 e1)
      (query_read _ 0 128 _) (bias_read _ 2 _) (bias_read _ 3 _) (sink_read _ 2 _) (sink_read _ 3 _))
  · exact (congrFun (store_0_0 (F := Ideal) _ _ _ _ _ _ _ _) x).trans (tile 0 0 _ _ z x (h0.trans (Nat.zero_add _).symm) x0_lt (h1.trans (Nat.zero_add _).symm) x1_lt
      (edged_at _ 0 _ (edge_first (grid1.coords t 1)) _) (edged_at _ 0 _ (edge_first (grid1.coords t 1)) _)
      (fun k x y0 y1 e0 e1 => keys_read V c t 0 0 _ k x y0 y1 e0 e1) (fun k x y0 y1 e0 e1 => keys_read V c t 0 256 _ k x y0 y1 e0 e1)
      (query_read _ 0 0 _) (bias_read _ 0 _) (bias_read _ 1 _) (sink_read _ 0 _) (sink_read _ 1 _))

end Cert.Proof.Swa

end
-- ==== Proof.Swa.Bias.lean ====
/-
  The bias kernel: its one block, and what the launch leaves in the bias array.
-/
module

public import proofs.«01_k».proof.Proof.Swa.Launch
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Swa

open Idealize.ShloMosaic Idealize.ShloMosaic.TcCoe
open Cert.KernelIdeal Cert.KernelIdeal.Gen Cert.KernelIdeal.Facts

section
variable {F : FTy → Type} [FloatOps F]

/-- The entry of the table that a word names among its first `n`, an entry at a time. -/
def chain (idx : IVec S128x384 32) (w : Nat → Elt F .f32) : Nat → FVec F S128x384 .f32
  | 0 => broadcast S128x384 (Scalar.ofBits .f32 0x00000000#32)
  | n + 1 => select (cmpi .eq idx (broadcast S128x384 (BitVec.ofNat 32 n))) (broadcast S128x384 (w n)) (chain idx w n)

/-- One head's biases. -/
def biasHead (x : Vec F S128x384 .i32) (w : Nat → Elt F .f32) : FVec F S1x128x384 .f32 :=
  shapeCast S1x128x384 (select k0_pay3 (chain (k0_pay2 (F := F) x) w 32) (broadcast S128x384 (Scalar.ofBits .f32 0xFF800000#32))) shapeCasts_S128x384_S1x128x384

variable (x : Vec F S128x384 .i32) (w : Nat → Elt F .f32)

theorem head_7 : k0_pay1 (k0_pay2 (F := F) x) k0_pay3 (k0_pay62 (k0_pay2 (F := F) x) (select (cmpi CmpIPredicate.eq (k0_pay2 (F := F) x) (broadcast S128x384 25#32)) (broadcast S128x384 (w 25)) (select (cmpi CmpIPredicate.eq (k0_pay2 (F := F) x) (broadcast S128x384 24#32)) (broadcast S128x384 (w 24)) (select (cmpi CmpIPredicate.eq (k0_pay2 (F := F) x) (broadcast S128x384 23#32)) (broadcast S128x384 (w 23)) (select (cmpi CmpIPredicate.eq (k0_pay2 (F := F) x) (broadcast S128x384 22#32)) (broadcast S128x384 (w 22)) (select (cmpi CmpIPredicate.eq (k0_pay2 (F := F) x) (broadcast S128x384 21#32)) (broadcast S128x384 (w 21)) (select (cmpi CmpIPredicate.eq (k0_pay2 (F := F) x) (broadcast S128x384 20#32)) (broadcast S128x384 (w 20)) (select (cmpi CmpIPredicate.eq (k0_pay2 (F := F) x) (broadcast S128x384 19#32)) (broadcast S128x384 (w 19)) (select (cmpi CmpIPredicate.eq (k0_pay2 (F := F) x) (broadcast S128x384 18#32)) (broadcast S128x384 (w 18)) (select (cmpi CmpIPredicate.eq (k0_pay2 (F := F) x) (broadcast S128x384 17#32)) (broadcast S128x384 (w 17)) (select (cmpi CmpIPredicate.eq (k0_pay2 (F := F) x) (broadcast S128x384 16#32)) (broadcast S128x384 (w 16)) (select (cmpi CmpIPredicate.eq (k0_pay2 (F := F) x) (broadcast S128x384 15#32)) (broadcast S128x384 (w 15)) (select (cmpi CmpIPredicate.eq (k0_pay2 (F := F) x) (broadcast S128x384 14#32)) (broadcast S128x384 (w 14)) (select (cmpi CmpIPredicate.eq (k0_pay2 (F := F) x) (broadcast S128x384 13#32)) (broadcast S128x384 (w 13)) (select (cmpi CmpIPredicate.eq (k0_pay2 (F := F) x) (broadcast S128x384 12#32)) (broadcast S128x384 (w 12)) (select (cmpi CmpIPredicate.eq (k0_pay2 (F := F) x) (broadcast S128x384 11#32)) (broadcast S128x384 (w 11)) (select (cmpi CmpIPredicate.eq (k0_pay2 (F := F) x) (broadcast S128x384 10#32)) (broadcast S128x384 (w 10)) (select (cmpi CmpIPredicate.eq (k0_pay2 (F := F) x) (broadcast S128x384 9#32)) (broadcast S128x384 (w 9)) (select (cmpi CmpIPredicate.eq (k0_pay2 (F := F) x) (broadcast S128x384 8#32)) (broadcast S128x384 (w 8)) (select (cmpi CmpIPredicate.eq (k0_pay2 (F := F) x) (broadcast S128x384 7#32)) (broadcast S128x384 (w 7)) (select (cmpi CmpIPredicate.eq (k0_pay2 (F := F) x) (broadcast S128x384 6#32)) (broadcast S128x384 (w 6)) (select (cmpi CmpIPredicate.eq (k0_pay2 (F := F) x) (broadcast S128x384 5#32)) (broadcast S128x384 (w 5)) (select (cmpi CmpIPredicate.eq (k0_pay2 (F := F) x) (broadcast S128x384 4#32)) (broadcast S128x384 (w 4)) (select (k0_pay57 (k0_pay2 (F := F) x)) (broadcast S128x384 (w 3)) (k0_pay56 (k0_pay2 (F := F) x) (w 0) (w 1) (w 2))))))))))))))))))))))))) (w 26) (w 27) (w 28)) (29#32) (w 29) (w 30) (w 31) =
    biasHead x w := rfl
theorem head_6 : k0_pay55 (k0_pay2 (F := F) x) k0_pay3 (select (cmpi CmpIPredicate.eq (k0_pay2 (F := F) x) (broadcast S128x384 28#32)) (broadcast S128x384 (w 28)) (select (cmpi CmpIPredicate.eq (k0_pay2 (F := F) x) (broadcast S128x384 27#32)) (broadcast S128x384 (w 27)) (select (cmpi CmpIPredicate.eq (k0_pay2 (F := F) x) (broadcast S128x384 26#32)) (broadcast S128x384 (w 26)) (select (cmpi CmpIPredicate.eq (k0_pay2 (F := F) x) (broadcast S128x384 25#32)) (broadcast S128x384 (w 25)) (select (cmpi CmpIPredicate.eq (k0_pay2 (F := F) x) (broadcast S128x384 24#32)) (broadcast S128x384 (w 24)) (select (cmpi CmpIPredicate.eq (k0_pay2 (F := F) x) (broadcast S128x384 23#32)) (broadcast S128x384 (w 23)) (select (cmpi CmpIPredicate.eq (k0_pay2 (F := F) x) (broadcast S128x384 22#32)) (broadcast S128x384 (w 22)) (select (cmpi CmpIPredicate.eq (k0_pay2 (F := F) x) (broadcast S128x384 21#32)) (broadcast S128x384 (w 21)) (select (cmpi CmpIPredicate.eq (k0_pay2 (F := F) x) (broadcast S128x384 20#32)) (broadcast S128x384 (w 20)) (select (cmpi CmpIPredicate.eq (k0_pay2 (F := F) x) (broadcast S128x384 19#32)) (broadcast S128x384 (w 19)) (select (cmpi CmpIPredicate.eq (k0_pay2 (F := F) x) (broadcast S128x384 18#32)) (broadcast S128x384 (w 18)) (select (cmpi CmpIPredicate.eq (k0_pay2 (F := F) x) (broadcast S128x384 17#32)) (broadcast S128x384 (w 17)) (select (cmpi CmpIPredicate.eq (k0_pay2 (F := F) x) (broadcast S128x384 16#32)) (broadcast S128x384 (w 16)) (select (cmpi CmpIPredicate.eq (k0_pay2 (F := F) x) (broadcast S128x384 15#32)) (broadcast S128x384 (w 15)) (select (cmpi CmpIPredicate.eq (k0_pay2 (F := F) x) (broadcast S128x384 14#32)) (broadcast S128x384 (w 14)) (select (cmpi CmpIPredicate.eq (k0_pay2 (F := F) x) (broadcast S128x384 13#32)) (broadcast S128x384 (w 13)) (select (cmpi CmpIPredicate.eq (k0_pay2 (F := F) x) (broadcast S128x384 12#32)) (broadcast S128x384 (w 12)) (select (cmpi CmpIPredicate.eq (k0_pay2 (F := F) x) (broadcast S128x384 11#32)) (broadcast S128x384 (w 11)) (select (cmpi CmpIPredicate.eq (k0_pay2 (F := F) x) (broadcast S128x384 10#32)) (broadcast S128x384 (w 10)) (select (cmpi CmpIPredicate.eq (k0_pay2 (F := F) x) (broadcast S128x384 9#32)) (broadcast S128x384 (w 9)) (select (cmpi CmpIPredicate.eq (k0_pay2 (F := F) x) (broadcast S128x384 8#32)) (broadcast S128x384 (w 8)) (select (cmpi CmpIPredicate.eq (k0_pay2 (F := F) x) (broadcast S128x384 7#32)) (broadcast S128x384 (w 7)) (k0_pay49 (k0_pay2 (F := F) x) (w 0) (w 1) (w 2) (w 3) (w 4) (w 5) (w 6)))))))))))))))))))))))) (cmpi CmpIPredicate.eq (k0_pay2 (F := F) x) (broadcast S128x384 29#32)) (w 29) (w 30) (w 31) =
    biasHead x w := rfl
theorem head_5 : k0_pay48 (k0_pay47 (k0_pay2 (F := F) x) k0_pay3 (select (cmpi CmpIPredicate.eq (k0_pay2 (F := F) x) (broadcast S128x384 24#32)) (broadcast S128x384 (w 24)) (select (cmpi CmpIPredicate.eq (k0_pay2 (F := F) x) (broadcast S128x384 23#32)) (broadcast S128x384 (w 23)) (select (cmpi CmpIPredicate.eq (k0_pay2 (F := F) x) (broadcast S128x384 22#32)) (broadcast S128x384 (w 22)) (select (cmpi CmpIPredicate.eq (k0_pay2 (F := F) x) (broadcast S128x384 21#32)) (broadcast S128x384 (w 21)) (select (cmpi CmpIPredicate.eq (k0_pay2 (F := F) x) (broadcast S128x384 20#32)) (broadcast S128x384 (w 20)) (select (cmpi CmpIPredicate.eq (k0_pay2 (F := F) x) (broadcast S128x384 19#32)) (broadcast S128x384 (w 19)) (select (cmpi CmpIPredicate.eq (k0_pay2 (F := F) x) (broadcast S128x384 18#32)) (broadcast S128x384 (w 18)) (select (cmpi CmpIPredicate.eq (k0_pay2 (F := F) x) (broadcast S128x384 17#32)) (broadcast S128x384 (w 17)) (select (cmpi CmpIPredicate.eq (k0_pay2 (F := F) x) (broadcast S128x384 16#32)) (broadcast S128x384 (w 16)) (select (cmpi CmpIPredicate.eq (k0_pay2 (F := F) x) (broadcast S128x384 15#32)) (broadcast S128x384 (w 15)) (select (cmpi CmpIPredicate.eq (k0_pay2 (F := F) x) (broadcast S128x384 14#32)) (broadcast S128x384 (w 14)) (select (cmpi CmpIPredicate.eq (k0_pay2 (F := F) x) (broadcast S128x384 13#32)) (broadcast S128x384 (w 13)) (select (cmpi CmpIPredicate.eq (k0_pay2 (F := F) x) (broadcast S128x384 12#32)) (broadcast S128x384 (w 12)) (select (cmpi CmpIPredicate.eq (k0_pay2 (F := F) x) (broadcast S128x384 11#32)) (broadcast S128x384 (w 11)) (select (cmpi CmpIPredicate.eq (k0_pay2 (F := F) x) (broadcast S128x384 10#32)) (broadcast S128x384 (w 10)) (select (cmpi CmpIPredicate.eq (k0_pay2 (F := F) x) (broadcast S128x384 9#32)) (broadcast S128x384 (w 9)) (select (cmpi CmpIPredicate.eq (k0_pay2 (F := F) x) (broadcast S128x384 8#32)) (broadcast S128x384 (w 8)) (select (cmpi CmpIPredicate.eq (k0_pay2 (F := F) x) (broadcast S128x384 7#32)) (broadcast S128x384 (w 7)) (select (cmpi CmpIPredicate.eq (k0_pay2 (F := F) x) (broadcast S128x384 6#32)) (broadcast S128x384 (w 6)) (select (cmpi CmpIPredicate.eq (k0_pay2 (F := F) x) (broadcast S128x384 5#32)) (broadcast S128x384 (w 5)) (select (cmpi CmpIPredicate.eq (k0_pay2 (F := F) x) (broadcast S128x384 4#32)) (broadcast S128x384 (w 4)) (select (cmpi CmpIPredicate.eq (k0_pay2 (F := F) x) (broadcast S128x384 3#32)) (broadcast S128x384 (w 3)) (k0_pay41 (k0_pay2 (F := F) x) (w 0) (w 1) (w 2)))))))))))))))))))))))) (cmpi CmpIPredicate.eq (k0_pay2 (F := F) x) (broadcast S128x384 25#32)) (w 25) (w 26) (w 27) (w 28) (w 29) (w 30) (w 31)) =
    biasHead x w := rfl
theorem head_4 : k0_pay40 (k0_pay2 (F := F) x) k0_pay3 (select (cmpi CmpIPredicate.eq (k0_pay2 (F := F) x) (broadcast S128x384 28#32)) (broadcast S128x384 (w 28)) (select (cmpi CmpIPredicate.eq (k0_pay2 (F := F) x) (broadcast S128x384 27#32)) (broadcast S128x384 (w 27)) (select (cmpi CmpIPredicate.eq (k0_pay2 (F := F) x) (broadcast S128x384 26#32)) (broadcast S128x384 (w 26)) (select (cmpi CmpIPredicate.eq (k0_pay2 (F := F) x) (broadcast S128x384 25#32)) (broadcast S128x384 (w 25)) (select (cmpi CmpIPredicate.eq (k0_pay2 (F := F) x) (broadcast S128x384 24#32)) (broadcast S128x384 (w 24)) (select (cmpi CmpIPredicate.eq (k0_pay2 (F := F) x) (broadcast S128x384 23#32)) (broadcast S128x384 (w 23)) (select (cmpi CmpIPredicate.eq (k0_pay2 (F := F) x) (broadcast S128x384 22#32)) (broadcast S128x384 (w 22)) (select (cmpi CmpIPredicate.eq (k0_pay2 (F := F) x) (broadcast S128x384 21#32)) (broadcast S128x384 (w 21)) (select (cmpi CmpIPredicate.eq (k0_pay2 (F := F) x) (broadcast S128x384 20#32)) (broadcast S128x384 (w 20)) (select (cmpi CmpIPredicate.eq (k0_pay2 (F := F) x) (broadcast S128x384 19#32)) (broadcast S128x384 (w 19)) (select (cmpi CmpIPredicate.eq (k0_pay2 (F := F) x) (broadcast S128x384 18#32)) (broadcast S128x384 (w 18)) (select (cmpi CmpIPredicate.eq (k0_pay2 (F := F) x) (broadcast S128x384 17#32)) (broadcast S128x384 (w 17)) (select (cmpi CmpIPredicate.eq (k0_pay2 (F := F) x) (broadcast S128x384 16#32)) (broadcast S128x384 (w 16)) (select (cmpi CmpIPredicate.eq (k0_pay2 (F := F) x) (broadcast S128x384 15#32)) (broadcast S128x384 (w 15)) (select (cmpi CmpIPredicate.eq (k0_pay2 (F := F) x) (broadcast S128x384 14#32)) (broadcast S128x384 (w 14)) (select (cmpi CmpIPredicate.eq (k0_pay2 (F := F) x) (broadcast S128x384 13#32)) (broadcast S128x384 (w 13)) (select (cmpi CmpIPredicate.eq (k0_pay2 (F := F) x) (broadcast S128x384 12#32)) (broadcast S128x384 (w 12)) (select (cmpi CmpIPredicate.eq (k0_pay2 (F := F) x) (broadcast S128x384 11#32)) (broadcast S128x384 (w 11)) (select (cmpi CmpIPredicate.eq (k0_pay2 (F := F) x) (broadcast S128x384 10#32)) (broadcast S128x384 (w 10)) (select (cmpi CmpIPredicate.eq (k0_pay2 (F := F) x) (broadcast S128x384 9#32)) (broadcast S128x384 (w 9)) (select (cmpi CmpIPredicate.eq (k0_pay2 (F := F) x) (broadcast S128x384 8#32)) (broadcast S128x384 (w 8)) (select (cmpi CmpIPredicate.eq (k0_pay2 (F := F) x) (broadcast S128x384 7#32)) (broadcast S128x384 (w 7)) (select (k0_pay35 (k0_pay2 (F := F) x)) (broadcast S128x384 (w 6)) (k0_pay34 (k0_pay2 (F := F) x) (w 0) (w 1) (w 2) (w 3) (w 4) (w 5))))))))))))))))))))))))) (w 29) (w 30) (w 31) =
    biasHead x w := rfl
theorem head_3 : k0_pay33 (k0_pay32 (k0_pay2 (F := F) x) k0_pay3 (select (cmpi CmpIPredicate.eq (k0_pay2 (F := F) x) (broadcast S128x384 24#32)) (broadcast S128x384 (w 24)) (select (cmpi CmpIPredicate.eq (k0_pay2 (F := F) x) (broadcast S128x384 23#32)) (broadcast S128x384 (w 23)) (select (cmpi CmpIPredicate.eq (k0_pay2 (F := F) x) (broadcast S128x384 22#32)) (broadcast S128x384 (w 22)) (select (cmpi CmpIPredicate.eq (k0_pay2 (F := F) x) (broadcast S128x384 21#32)) (broadcast S128x384 (w 21)) (select (cmpi CmpIPredicate.eq (k0_pay2 (F := F) x) (broadcast S128x384 20#32)) (broadcast S128x384 (w 20)) (select (cmpi CmpIPredicate.eq (k0_pay2 (F := F) x) (broadcast S128x384 19#32)) (broadcast S128x384 (w 19)) (select (cmpi CmpIPredicate.eq (k0_pay2 (F := F) x) (broadcast S128x384 18#32)) (broadcast S128x384 (w 18)) (select (cmpi CmpIPredicate.eq (k0_pay2 (F := F) x) (broadcast S128x384 17#32)) (broadcast S128x384 (w 17)) (select (cmpi CmpIPredicate.eq (k0_pay2 (F := F) x) (broadcast S128x384 16#32)) (broadcast S128x384 (w 16)) (select (cmpi CmpIPredicate.eq (k0_pay2 (F := F) x) (broadcast S128x384 15#32)) (broadcast S128x384 (w 15)) (select (cmpi CmpIPredicate.eq (k0_pay2 (F := F) x) (broadcast S128x384 14#32)) (broadcast S128x384 (w 14)) (select (cmpi CmpIPredicate.eq (k0_pay2 (F := F) x) (broadcast S128x384 13#32)) (broadcast S128x384 (w 13)) (select (cmpi CmpIPredicate.eq (k0_pay2 (F := F) x) (broadcast S128x384 12#32)) (broadcast S128x384 (w 12)) (select (cmpi CmpIPredicate.eq (k0_pay2 (F := F) x) (broadcast S128x384 11#32)) (broadcast S128x384 (w 11)) (select (cmpi CmpIPredicate.eq (k0_pay2 (F := F) x) (broadcast S128x384 10#32)) (broadcast S128x384 (w 10)) (select (cmpi CmpIPredicate.eq (k0_pay2 (F := F) x) (broadcast S128x384 9#32)) (broadcast S128x384 (w 9)) (select (cmpi CmpIPredicate.eq (k0_pay2 (F := F) x) (broadcast S128x384 8#32)) (broadcast S128x384 (w 8)) (select (cmpi CmpIPredicate.eq (k0_pay2 (F := F) x) (broadcast S128x384 7#32)) (broadcast S128x384 (w 7)) (select (cmpi CmpIPredicate.eq (k0_pay2 (F := F) x) (broadcast S128x384 6#32)) (broadcast S128x384 (w 6)) (select (cmpi CmpIPredicate.eq (k0_pay2 (F := F) x) (broadcast S128x384 5#32)) (broadcast S128x384 (w 5)) (select (cmpi CmpIPredicate.eq (k0_pay2 (F := F) x) (broadcast S128x384 4#32)) (broadcast S128x384 (w 4)) (select (cmpi CmpIPredicate.eq (k0_pay2 (F := F) x) (broadcast S128x384 3#32)) (broadcast S128x384 (w 3)) (select (k0_pay27 (k0_pay2 (F := F) x)) (broadcast S128x384 (w 2)) (k0_pay26 (k0_pay2 (F := F) x) (w 0) (w 1))))))))))))))))))))))))) (w 25) (w 26) (w 27) (w 28) (w 29) (w 30) (w 31)) =
    biasHead x w := rfl
theorem head_2 : k0_pay25 (k0_pay2 (F := F) x) k0_pay3 (select (cmpi CmpIPredicate.eq (k0_pay2 (F := F) x) (broadcast S128x384 27#32)) (broadcast S128x384 (w 27)) (select (cmpi CmpIPredicate.eq (k0_pay2 (F := F) x) (broadcast S128x384 26#32)) (broadcast S128x384 (w 26)) (select (cmpi CmpIPredicate.eq (k0_pay2 (F := F) x) (broadcast S128x384 25#32)) (broadcast S128x384 (w 25)) (select (cmpi CmpIPredicate.eq (k0_pay2 (F := F) x) (broadcast S128x384 24#32)) (broadcast S128x384 (w 24)) (select (cmpi CmpIPredicate.eq (k0_pay2 (F := F) x) (broadcast S128x384 23#32)) (broadcast S128x384 (w 23)) (select (cmpi CmpIPredicate.eq (k0_pay2 (F := F) x) (broadcast S128x384 22#32)) (broadcast S128x384 (w 22)) (select (cmpi CmpIPredicate.eq (k0_pay2 (F := F) x) (broadcast S128x384 21#32)) (broadcast S128x384 (w 21)) (select (cmpi CmpIPredicate.eq (k0_pay2 (F := F) x) (broadcast S128x384 20#32)) (broadcast S128x384 (w 20)) (select (cmpi CmpIPredicate.eq (k0_pay2 (F := F) x) (broadcast S128x384 19#32)) (broadcast S128x384 (w 19)) (select (cmpi CmpIPredicate.eq (k0_pay2 (F := F) x) (broadcast S128x384 18#32)) (broadcast S128x384 (w 18)) (select (cmpi CmpIPredicate.eq (k0_pay2 (F := F) x) (broadcast S128x384 17#32)) (broadcast S128x384 (w 17)) (select (cmpi CmpIPredicate.eq (k0_pay2 (F := F) x) (broadcast S128x384 16#32)) (broadcast S128x384 (w 16)) (select (cmpi CmpIPredicate.eq (k0_pay2 (F := F) x) (broadcast S128x384 15#32)) (broadcast S128x384 (w 15)) (select (cmpi CmpIPredicate.eq (k0_pay2 (F := F) x) (broadcast S128x384 14#32)) (broadcast S128x384 (w 14)) (select (cmpi CmpIPredicate.eq (k0_pay2 (F := F) x) (broadcast S128x384 13#32)) (broadcast S128x384 (w 13)) (select (cmpi CmpIPredicate.eq (k0_pay2 (F := F) x) (broadcast S128x384 12#32)) (broadcast S128x384 (w 12)) (select (cmpi CmpIPredicate.eq (k0_pay2 (F := F) x) (broadcast S128x384 11#32)) (broadcast S128x384 (w 11)) (select (cmpi CmpIPredicate.eq (k0_pay2 (F := F) x) (broadcast S128x384 10#32)) (broadcast S128x384 (w 10)) (select (cmpi CmpIPredicate.eq (k0_pay2 (F := F) x) (broadcast S128x384 9#32)) (broadcast S128x384 (w 9)) (select (cmpi CmpIPredicate.eq (k0_pay2 (F := F) x) (broadcast S128x384 8#32)) (broadcast S128x384 (w 8)) (select (cmpi CmpIPredicate.eq (k0_pay2 (F := F) x) (broadcast S128x384 7#32)) (broadcast S128x384 (w 7)) (select (cmpi CmpIPredicate.eq (k0_pay2 (F := F) x) (broadcast S128x384 6#32)) (broadcast S128x384 (w 6)) (k0_pay19 (k0_pay2 (F := F) x) (w 0) (w 1) (w 2) (w 3) (w 4) (w 5)))))))))))))))))))))))) (cmpi CmpIPredicate.eq (k0_pay2 (F := F) x) (broadcast S128x384 28#32)) (w 28) (w 29) (w 30) (w 31) =
    biasHead x w := rfl
theorem head_1 : k0_pay18 k0_pay3 (select (cmpi CmpIPredicate.eq (k0_pay2 (F := F) x) (broadcast S128x384 31#32)) (broadcast S128x384 (w 31)) (select (cmpi CmpIPredicate.eq (k0_pay2 (F := F) x) (broadcast S128x384 30#32)) (broadcast S128x384 (w 30)) (select (cmpi CmpIPredicate.eq (k0_pay2 (F := F) x) (broadcast S128x384 29#32)) (broadcast S128x384 (w 29)) (select (cmpi CmpIPredicate.eq (k0_pay2 (F := F) x) (broadcast S128x384 28#32)) (broadcast S128x384 (w 28)) (select (cmpi CmpIPredicate.eq (k0_pay2 (F := F) x) (broadcast S128x384 27#32)) (broadcast S128x384 (w 27)) (select (cmpi CmpIPredicate.eq (k0_pay2 (F := F) x) (broadcast S128x384 26#32)) (broadcast S128x384 (w 26)) (select (cmpi CmpIPredicate.eq (k0_pay2 (F := F) x) (broadcast S128x384 25#32)) (broadcast S128x384 (w 25)) (select (cmpi CmpIPredicate.eq (k0_pay2 (F := F) x) (broadcast S128x384 24#32)) (broadcast S128x384 (w 24)) (select (cmpi CmpIPredicate.eq (k0_pay2 (F := F) x) (broadcast S128x384 23#32)) (broadcast S128x384 (w 23)) (select (cmpi CmpIPredicate.eq (k0_pay2 (F := F) x) (broadcast S128x384 22#32)) (broadcast S128x384 (w 22)) (select (cmpi CmpIPredicate.eq (k0_pay2 (F := F) x) (broadcast S128x384 21#32)) (broadcast S128x384 (w 21)) (select (cmpi CmpIPredicate.eq (k0_pay2 (F := F) x) (broadcast S128x384 20#32)) (broadcast S128x384 (w 20)) (select (cmpi CmpIPredicate.eq (k0_pay2 (F := F) x) (broadcast S128x384 19#32)) (broadcast S128x384 (w 19)) (select (cmpi CmpIPredicate.eq (k0_pay2 (F := F) x) (broadcast S128x384 18#32)) (broadcast S128x384 (w 18)) (select (cmpi CmpIPredicate.eq (k0_pay2 (F := F) x) (broadcast S128x384 17#32)) (broadcast S128x384 (w 17)) (select (cmpi CmpIPredicate.eq (k0_pay2 (F := F) x) (broadcast S128x384 16#32)) (broadcast S128x384 (w 16)) (select (cmpi CmpIPredicate.eq (k0_pay2 (F := F) x) (broadcast S128x384 15#32)) (broadcast S128x384 (w 15)) (select (cmpi CmpIPredicate.eq (k0_pay2 (F := F) x) (broadcast S128x384 14#32)) (broadcast S128x384 (w 14)) (select (cmpi CmpIPredicate.eq (k0_pay2 (F := F) x) (broadcast S128x384 13#32)) (broadcast S128x384 (w 13)) (select (cmpi CmpIPredicate.eq (k0_pay2 (F := F) x) (broadcast S128x384 12#32)) (broadcast S128x384 (w 12)) (select (cmpi CmpIPredicate.eq (k0_pay2 (F := F) x) (broadcast S128x384 11#32)) (broadcast S128x384 (w 11)) (select (cmpi CmpIPredicate.eq (k0_pay2 (F := F) x) (broadcast S128x384 10#32)) (broadcast S128x384 (w 10)) (select (cmpi CmpIPredicate.eq (k0_pay2 (F := F) x) (broadcast S128x384 9#32)) (broadcast S128x384 (w 9)) (select (cmpi CmpIPredicate.eq (k0_pay2 (F := F) x) (broadcast S128x384 8#32)) (broadcast S128x384 (w 8)) (select (cmpi CmpIPredicate.eq (k0_pay2 (F := F) x) (broadcast S128x384 7#32)) (broadcast S128x384 (w 7)) (select (cmpi CmpIPredicate.eq (k0_pay2 (F := F) x) (broadcast S128x384 6#32)) (broadcast S128x384 (w 6)) (select (cmpi CmpIPredicate.eq (k0_pay2 (F := F) x) (broadcast S128x384 5#32)) (broadcast S128x384 (w 5)) (select (cmpi CmpIPredicate.eq (k0_pay2 (F := F) x) (broadcast S128x384 4#32)) (broadcast S128x384 (w 4)) (select (cmpi CmpIPredicate.eq (k0_pay2 (F := F) x) (broadcast S128x384 3#32)) (broadcast S128x384 (w 3)) (select (cmpi CmpIPredicate.eq (k0_pay2 (F := F) x) (broadcast S128x384 2#32)) (broadcast S128x384 (w 2)) (k0_pay11 (k0_pay2 (F := F) x) (w 0) (w 1)))))))))))))))))))))))))))))))) =
    biasHead x w := rfl
theorem head_0 : k0_pay10 (k0_pay2 (F := F) x) k0_pay3 (select (cmpi CmpIPredicate.eq (k0_pay2 (F := F) x) (broadcast S128x384 27#32)) (broadcast S128x384 (w 27)) (select (cmpi CmpIPredicate.eq (k0_pay2 (F := F) x) (broadcast S128x384 26#32)) (broadcast S128x384 (w 26)) (select (cmpi CmpIPredicate.eq (k0_pay2 (F := F) x) (broadcast S128x384 25#32)) (broadcast S128x384 (w 25)) (select (cmpi CmpIPredicate.eq (k0_pay2 (F := F) x) (broadcast S128x384 24#32)) (broadcast S128x384 (w 24)) (select (cmpi CmpIPredicate.eq (k0_pay2 (F := F) x) (broadcast S128x384 23#32)) (broadcast S128x384 (w 23)) (select (cmpi CmpIPredicate.eq (k0_pay2 (F := F) x) (broadcast S128x384 22#32)) (broadcast S128x384 (w 22)) (select (cmpi CmpIPredicate.eq (k0_pay2 (F := F) x) (broadcast S128x384 21#32)) (broadcast S128x384 (w 21)) (select (cmpi CmpIPredicate.eq (k0_pay2 (F := F) x) (broadcast S128x384 20#32)) (broadcast S128x384 (w 20)) (select (cmpi CmpIPredicate.eq (k0_pay2 (F := F) x) (broadcast S128x384 19#32)) (broadcast S128x384 (w 19)) (select (cmpi CmpIPredicate.eq (k0_pay2 (F := F) x) (broadcast S128x384 18#32)) (broadcast S128x384 (w 18)) (select (cmpi CmpIPredicate.eq (k0_pay2 (F := F) x) (broadcast S128x384 17#32)) (broadcast S128x384 (w 17)) (select (cmpi CmpIPredicate.eq (k0_pay2 (F := F) x) (broadcast S128x384 16#32)) (broadcast S128x384 (w 16)) (select (cmpi CmpIPredicate.eq (k0_pay2 (F := F) x) (broadcast S128x384 15#32)) (broadcast S128x384 (w 15)) (select (cmpi CmpIPredicate.eq (k0_pay2 (F := F) x) (broadcast S128x384 14#32)) (broadcast S128x384 (w 14)) (select (cmpi CmpIPredicate.eq (k0_pay2 (F := F) x) (broadcast S128x384 13#32)) (broadcast S128x384 (w 13)) (select (cmpi CmpIPredicate.eq (k0_pay2 (F := F) x) (broadcast S128x384 12#32)) (broadcast S128x384 (w 12)) (select (cmpi CmpIPredicate.eq (k0_pay2 (F := F) x) (broadcast S128x384 11#32)) (broadcast S128x384 (w 11)) (select (cmpi CmpIPredicate.eq (k0_pay2 (F := F) x) (broadcast S128x384 10#32)) (broadcast S128x384 (w 10)) (select (cmpi CmpIPredicate.eq (k0_pay2 (F := F) x) (broadcast S128x384 9#32)) (broadcast S128x384 (w 9)) (select (cmpi CmpIPredicate.eq (k0_pay2 (F := F) x) (broadcast S128x384 8#32)) (broadcast S128x384 (w 8)) (select (cmpi CmpIPredicate.eq (k0_pay2 (F := F) x) (broadcast S128x384 7#32)) (broadcast S128x384 (w 7)) (select (cmpi CmpIPredicate.eq (k0_pay2 (F := F) x) (broadcast S128x384 6#32)) (broadcast S128x384 (w 6)) (select (k0_pay5 x) (broadcast S128x384 (w 5)) (k0_pay4 x (w 0) (w 1) (w 2) (w 3) (w 4))))))))))))))))))))))))) (w 28) (w 29) (w 30) (w 31) =
    biasHead x w := rfl

end

variable (V : (c : Dev nD) → (b : Ref sig .tc) → Buf (Elt Ideal) ((c : Thread nD τ).loc b))

theorem entry_inb (h : Fin 8) (b : Nat) : ∀ a, (![b % 32, h.val] : Fin 2 → Nat) a + (![1, 1] : Fin 2 → Nat) a ≤ S32x8.size a := by
  have := Nat.mod_lt b (show 0 < 32 by decide)
  intro a
  match a with
  | ⟨0, _⟩ => show b % 32 + 1 ≤ 32; omega
  | ⟨1, _⟩ => show h.val + 1 ≤ 8; omega

/-- An entry of the table as the kernel reads it, by its head and its bucket. -/
def entry (T : FVec Ideal S32x8 .f32) (h : Fin 8) (b : Nat) : EReal :=
  View.ld (Val := Elt Ideal) (e' := .f32) T (Rect.unit (s := S32x8) ![b % 32, h.val] ![1, 1] (entry_inb h b)) (Shape.Idx.first (show 0 < (⟨2, ![1, 1]⟩ : Shape).numel by decide +kernel))

theorem entry_eq (T : FVec Ideal S32x8 .f32) (h : Fin 8) (b : Fin 32) : entry T h b.val = T (ix2 b h) := by
  refine congrArg T (funext fun a => Fin.ext ?_)
  match a with
  | ⟨0, _⟩ => exact Nat.mod_eq_of_lt b.isLt
  | ⟨1, _⟩ => rfl

theorem head_at {A B : FVec Ideal S1x128x384 .f32} (e : A = B) (W : Fin 8 → FVec Ideal S1x128x384 .f32) (k : Fin 8) (hB : B = W k)
    (z : S8x128x384.Idx) (x : S1x128x384.Idx) (h0 : (z 0).val = k.val + (x 0).val) (hx : (x 0).val < 1) (h1 : (z 1).val = (x 1).val) (h2 : (z 2).val = (x 2).val) :
    A x = W (z 0) (ix3 0 (z 1) (z 2)) := by
  subst e hB
  have e0 : z 0 = k := Fin.ext (by omega)
  rw [e0]
  refine congrArg (W k) (funext fun a => Fin.ext ?_)
  match a with
  | ⟨0, _⟩ => show (x 0).val = 0; omega
  | ⟨1, _⟩ => exact h1.symm
  | ⟨2, _⟩ => exact h2.symm

set_option maxHeartbeats 4000000 in
/-- The bias kernel's block is one store to a head. -/
theorem bias_block (c : Dev nD) (t : Fin cfg0.N) (z : S8x128x384.Idx) :
    (outsAt0 V c t : FVec Ideal S8x128x384 .f32) z = biasHead (F := Ideal) (iblk0 V c 1 t) (entry (iblk0 V c 0 t) (z 0)) (ix3 0 (z 1) (z 2)) := by
  unfold Gen.outsAt0
  frame_out
  simp only [read_unread_whole]
  canon_tiles x h
  · exact head_at (head_7 (F := Ideal) (iblk0 V c 1 t) (entry (iblk0 V c 0 t) 7)) (fun k => biasHead (F := Ideal) (iblk0 V c 1 t) (entry (iblk0 V c 0 t) k)) 7 rfl z x (by simpa using h0) x0_lt h1 h2
  · exact head_at (head_6 (F := Ideal) (iblk0 V c 1 t) (entry (iblk0 V c 0 t) 6)) (fun k => biasHead (F := Ideal) (iblk0 V c 1 t) (entry (iblk0 V c 0 t) k)) 6 rfl z x (by simpa using h0) x0_lt h1 h2
  · exact head_at (head_5 (F := Ideal) (iblk0 V c 1 t) (entry (iblk0 V c 0 t) 5)) (fun k => biasHead (F := Ideal) (iblk0 V c 1 t) (entry (iblk0 V c 0 t) k)) 5 rfl z x (by simpa using h0) x0_lt h1 h2
  · exact head_at (head_4 (F := Ideal) (iblk0 V c 1 t) (entry (iblk0 V c 0 t) 4)) (fun k => biasHead (F := Ideal) (iblk0 V c 1 t) (entry (iblk0 V c 0 t) k)) 4 rfl z x (by simpa using h0) x0_lt h1 h2
  · exact head_at (head_3 (F := Ideal) (iblk0 V c 1 t) (entry (iblk0 V c 0 t) 3)) (fun k => biasHead (F := Ideal) (iblk0 V c 1 t) (entry (iblk0 V c 0 t) k)) 3 rfl z x (by simpa using h0) x0_lt h1 h2
  · exact head_at (head_2 (F := Ideal) (iblk0 V c 1 t) (entry (iblk0 V c 0 t) 2)) (fun k => biasHead (F := Ideal) (iblk0 V c 1 t) (entry (iblk0 V c 0 t) k)) 2 rfl z x (by simpa using h0) x0_lt h1 h2
  · exact head_at (head_1 (F := Ideal) (iblk0 V c 1 t) (entry (iblk0 V c 0 t) 1)) (fun k => biasHead (F := Ideal) (iblk0 V c 1 t) (entry (iblk0 V c 0 t) k)) 1 rfl z x (by simpa using h0) x0_lt h1 h2
  · exact head_at (head_0 (F := Ideal) (iblk0 V c 1 t) (entry (iblk0 V c 0 t) 0)) (fun k => biasHead (F := Ideal) (iblk0 V c 1 t) (entry (iblk0 V c 0 t) k)) 0 rfl z x (by simpa using h0) x0_lt h1 h2

/-- The printed band test. -/
theorem band_word : ∀ i : Fin 128, ∀ k : Fin 384,
    IntOp.cmpi CmpIPredicate.sle (IntOp.absi (IntOp.subi (IntOp.subi (BitVec.ofNat 32 k.val) 128#32) (BitVec.ofNat 32 i.val))) 128#32
      = if i.val ≤ k.val ∧ k.val ≤ i.val + 256 then 1#1 else 0#1 := by
  decide +kernel

theorem chain_at (idx : IVec S128x384 32) (w : Nat → EReal) (i : Fin 128) (k : Fin 384) : ∀ n : Nat, n ≤ 32 →
    chain (F := Ideal) idx w n (ix2 i k) = if (idx (ix2 i k)).toNat < n then w (idx (ix2 i k)).toNat else 0 := by
  intro n
  induction n with
  | zero => intro _; pointwise [chain]; simp
  | succ n ih =>
    intro hn
    pointwise [chain]
    rw [ih (by omega)]
    generalize idx (ix2 i k) = v
    by_cases hv : v = BitVec.ofNat 32 n
    · have e : v.toNat = n := by rw [hv, BitVec.toNat_ofNat]; exact Nat.mod_eq_of_lt (by omega)
      have e1 : IntOp.cmpi CmpIPredicate.eq v (BitVec.ofNat 32 n) = 1#1 := by rw [hv]; simp [IntOp.cmpi]
      rw [e1, e, if_pos (Nat.lt_succ_self n)]
      exact if_pos rfl
    · have e : v.toNat ≠ n := fun he => hv (by rw [← he]; simp)
      have e1 : IntOp.cmpi CmpIPredicate.eq v (BitVec.ofNat 32 n) = 0#1 := by
        simp only [IntOp.cmpi, beq_eq_false_iff_ne.mpr hv]; rfl
      rw [e1]
      refine (if_neg (by decide)).trans ?_
      by_cases h : v.toNat < n
      · rw [if_pos h, if_pos (by omega)]
      · rw [if_neg h, if_neg (by omega)]

theorem biasHead_at (x : IVec S128x384 32) (w : Nat → EReal) (i : Fin 128) (k : Fin 384) :
    biasHead (F := Ideal) x w (ix3 0 i k)
      = if i.val ≤ k.val ∧ k.val ≤ i.val + 256 then chain (F := Ideal) x w 32 (ix2 i k) else ⊥ := by
  pointwise [biasHead, k0_pay3, k0_pay2, band_word]
  have e : Ideal.ofBits FTy.f32 4286578688#32 = ⊥ := by simp [Ideal.ofBits, Ideal.ieee]
  rw [e]
  split <;> rfl
end Cert.Proof.Swa

end
-- ==== Proof.Swa.Bucket.lean ====
/-
  The bucket of a distance is one of the table's 32 rows.
-/
module

public import proofs.«01_k».proof.Proof.Gen.ReferenceIdeal.Read
public import Idealize.ShloMosaic.Lib.Pointwise
public import Idealize.ShloMosaic.Lib.IdealHost
public import Idealize.ShloMosaic.PureOps.Ideal.Laws

@[expose] public section

set_option maxRecDepth 16384

noncomputable section

namespace Cert.Proof.Swa

open Idealize.ShloMosaic Idealize.ShloMosaic.TcCoe
open Cert.ReferenceIdeal Cert.ReferenceIdeal.Facts Cert.ReferenceIdeal.Read

variable (i : Fin 128) (k : Fin 384)

/-- The distance of key `k` from row `i`. -/
def gap (i : Fin 128) (k : Fin 384) : BitVec 32 := IntOp.subi (IntOp.subi (BitVec.ofNat 32 k.val) 128#32) (BitVec.ofNat 32 i.val)

/-- The bucket of a far distance, before it is rounded. -/
def farPlace (q : BitVec 32) : EReal :=
  Ideal.div (Ideal.log (Ideal.div (((IntOp.maxsi q 1#32).toInt : ℝ) : EReal) (Ideal.ofBits FTy.f32 1090519040#32))) (Ideal.ofBits FTy.f32 1076982296#32) * Ideal.ofBits FTy.f32 1090519040#32

theorem side_word : val_main_v11 (F := Ideal) (ix2 i k) = Scalar.select (IntOp.cmpi CmpIPredicate.sgt (gap i k) 0#32) 16#32 0#32 := by
  unfold gap
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_c, val_main_cst, val_main_c_0, val_main_c_1, val_main_c_2, val_main_c_3, val_main_cst_4, val_main_cst_5, val_main_c_6, val_main_c_7, val_main_c_8, val_main_call0_v0, val_main_call0_v1]

theorem far_word : val_main_v30 (F := Ideal) (ix2 i k)
    = Scalar.select (IntOp.cmpi CmpIPredicate.slt (IntOp.absi (gap i k)) 8#32) (IntOp.absi (gap i k))
        (IntOp.minsi (IntOp.addi 8#32 (Ideal.fptosi 32 (farPlace (IntOp.absi (gap i k))))) 15#32) := by
  unfold farPlace gap
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_c, val_main_cst, val_main_c_0, val_main_c_1, val_main_c_2, val_main_c_3, val_main_cst_4, val_main_cst_5, val_main_c_6, val_main_c_7, val_main_c_8, val_main_call0_v0, val_main_call0_v1]
  rfl

theorem eight_host : Ideal.ofBits .f32 1090519040#32 = ((8 : ℝ) : EReal) := by
  simp [Ideal.ofBits, Ideal.ieee]
  rw [← EReal.coe_mul]
  norm_num

theorem base_host : ∃ r : ℝ, 1 ≤ r ∧ Ideal.ofBits .f32 1076982296#32 = (r : EReal) := by
  refine ⟨11629080 / 4194304, by norm_num, ?_⟩
  simp [Ideal.ofBits, Ideal.ieee]
  rw [← EReal.coe_mul]
  norm_num

theorem div_real (x y : ℝ) (h : y ≠ 0) : Ideal.div (x : EReal) (y : EReal) = ((x / y : ℝ) : EReal) := by
  unfold Ideal.div
  rw [if_neg (by exact_mod_cast h)]
  rw [← EReal.coe_inv, ← EReal.coe_mul, div_eq_mul_inv]

/-- A far distance lands at a place between 0 and 599. -/
theorem far_place (q : BitVec 32) (h8 : 8 ≤ (IntOp.maxsi q 1#32).toInt) (h512 : (IntOp.maxsi q 1#32).toInt ≤ 512) :
    ∃ n : Fin 600, Ideal.fptosi 32 (farPlace q) = BitVec.ofInt 32 n.val := by
  obtain ⟨r, hr, hb⟩ := base_host
  unfold farPlace
  generalize (IntOp.maxsi q 1#32).toInt = z at h8 h512
  have z8 : (8 : ℝ) ≤ z := by exact_mod_cast h8
  have z512 : (z : ℝ) ≤ 512 := by exact_mod_cast h512
  rw [eight_host, hb, div_real _ _ (by norm_num), Ideal.log_coe, if_neg (by linarith), div_real _ _ (by linarith), ← EReal.coe_mul]
  have l0 : 0 ≤ Real.log ((z : ℝ) / 8) := Real.log_nonneg (by linarith)
  have l1 : Real.log ((z : ℝ) / 8) ≤ 63 := (Real.log_le_sub_one_of_pos (by linarith)).trans (by linarith)
  have y0 : 0 ≤ Real.log ((z : ℝ) / 8) / r * 8 := by positivity
  have y1 : Real.log ((z : ℝ) / 8) / r * 8 < 600 := by
    have := (div_le_self l0 hr).trans l1
    linarith
  generalize Real.log ((z : ℝ) / 8) / r * 8 = y at y0 y1
  have f0 : 0 ≤ ⌊y⌋ := Int.floor_nonneg.mpr y0
  have f1 : ⌊y⌋ < 600 := Int.floor_lt.mpr (by exact_mod_cast y1)
  refine ⟨⟨⌊y⌋.toNat, by omega⟩, ?_⟩
  unfold Ideal.fptosi
  rw [Ideal.toIntClamped_coe, if_pos y0]
  refine congrArg (BitVec.ofInt 32) ?_
  show _ = ((⌊y⌋.toNat : ℕ) : ℤ)
  rw [Int.toNat_of_nonneg f0]
  norm_num
  omega

theorem near_bound : ∀ i : Fin 128, ∀ k : Fin 384,
    (IntOp.cmpi CmpIPredicate.slt (IntOp.absi (gap i k)) 8#32 = 1#1 → (IntOp.absi (gap i k)).toNat < 16) ∧
    (IntOp.cmpi CmpIPredicate.slt (IntOp.absi (gap i k)) 8#32 ≠ 1#1 → (8 ≤ (IntOp.maxsi (IntOp.absi (gap i k)) 1#32).toInt ∧ (IntOp.maxsi (IntOp.absi (gap i k)) 1#32).toInt ≤ 512)) := by
  decide +kernel

theorem far_bound : ∀ n : Fin 600, (IntOp.minsi (IntOp.addi 8#32 (BitVec.ofInt 32 n.val)) 15#32).toNat < 16 := by
  decide +kernel

theorem far_lt : (val_main_v30 (F := Ideal) (ix2 i k)).toNat < 16 := by
  rw [far_word]
  have h := near_bound i k
  by_cases hq : IntOp.cmpi CmpIPredicate.slt (IntOp.absi (gap i k)) 8#32 = 1#1
  · unfold Scalar.select
    rw [if_pos (show _ = (1 : BitVec 1) from hq)]
    exact h.1 hq
  · unfold Scalar.select
    rw [if_neg (show ¬ _ = (1 : BitVec 1) from hq)]
    obtain ⟨n, hn⟩ := far_place (IntOp.absi (gap i k)) (h.2 hq).1 (h.2 hq).2
    rw [hn]
    exact far_bound n

theorem side_le (w : BitVec 1) : (Scalar.select w 16#32 0#32).toNat ≤ 16 := by
  unfold Scalar.select
  split
  · exact le_refl _
  · exact Nat.zero_le _

/-- The bucket is below 32. -/
theorem bucket_lt : (val_main_v32 (F := Ideal) (ix2 i k)).toNat < 32 := by
  rw [show val_main_v32 (F := Ideal) = addi (val_main_v11 (F := Ideal)) (val_main_v30 (F := Ideal)) from rfl]
  show (val_main_v11 (F := Ideal) (ix2 i k) + val_main_v30 (F := Ideal) (ix2 i k)).toNat < 32
  have h1 := far_lt i k
  have h2 := side_le (IntOp.cmpi CmpIPredicate.sgt (gap i k) 0#32)
  rw [← side_word] at h2
  rw [BitVec.toNat_add]
  omega

/-- A word below 32 is not negative. -/
theorem small_word (w : BitVec 32) (h : w.toNat < 32) : Scalar.select (IntOp.cmpi CmpIPredicate.slt w 0#32) (IntOp.addi w 32#32) w = w := by
  have hw : w = BitVec.ofNat 32 w.toNat := by simp
  rw [hw]
  exact (by decide +kernel : ∀ n : Fin 32, Scalar.select (IntOp.cmpi CmpIPredicate.slt (BitVec.ofNat 32 n.val) 0#32) (IntOp.addi (BitVec.ofNat 32 n.val) 32#32) (BitVec.ofNat 32 n.val) = BitVec.ofNat 32 n.val) ⟨w.toNat, h⟩

end Cert.Proof.Swa

end
-- ==== Proof.Swa.Ref.lean ====
/-
  The reference read at a row and a lane.
-/
module

public import proofs.«01_k».proof.Proof.Gen.ReferenceIdeal.Read
public import proofs.«01_k».proof.Proof.Swa.Attn
public import proofs.«01_k».proof.Proof.Swa.Bucket
public import Idealize.ShloMosaic.Lib.Pointwise
public import Idealize.ShloMosaic.Lib.IdealHost
public import Idealize.ShloMosaic.PureOps.Ideal.Laws

@[expose] public section

set_option maxRecDepth 16384

noncomputable section

namespace Cert.Proof.Swa

open Idealize.ShloMosaic Idealize.ShloMosaic.TcCoe
open Cert.ReferenceIdeal Cert.ReferenceIdeal.Facts Cert.ReferenceIdeal.Read

variable (x0 : FVec Ideal S8x2048x512 .f32) (x1 x2 : FVec Ideal S8x2048x128 .f32) (x3 : FVec Ideal S8 .f32) (x4 : FVec Ideal S32x8 .f32)
 variable (a : Fin 8) (b : Fin 16) (c : Fin 2) (d : Fin 4) (i : Fin 128) (k : Fin 384) (j : Fin 64)

/-- Key `k` of the window of row `i` of block `b` is one of the sequence and within the band. -/
def inBand (b i k : Nat) : Prop := (i ≤ k ∧ k ≤ i + 256) ∧ 128 ≤ b * 128 + k ∧ b * 128 + k < 2176

instance (b i k : Nat) : Decidable (inBand b i k) := by unfold inBand; infer_instance

/-- The key's place in the sequence. -/
def keyRow (b : Fin 16) (k : Fin 384) : Fin 2048 := ⟨min (b.val * 128 + k.val - 128) 2047, by omega⟩

/-- The bucket of a row and a key. -/
def bucketOf (i : Fin 128) (k : Fin 384) : Fin 32 := ⟨min (val_main_v32 (F := Ideal) (ix2 i k)).toNat 31, by omega⟩

/-- The masked score of head `c * 4 + d`. -/
def score (k : Fin 384) : EReal :=
  if inBand b.val i.val k.val then
    (∑ x : Fin 64, x1 (ix3 a (keyRow b k) ⟨c.val * 64 + x.val, by omega⟩) * x0 (ix3 a ⟨b.val * 128 + i.val, by omega⟩ ⟨c.val * 256 + d.val * 64 + x.val, by omega⟩)) * ((1 / 8 : ℝ) : EReal)
      + x4 (ix2 (bucketOf i k) ⟨c.val * 4 + d.val, by omega⟩)
  else ⊥

theorem bot_host : Ideal.ofBits .f32 4286578688#32 = (⊥ : EReal) := by
  simp [Ideal.ofBits, Ideal.ieee]

theorem eighth_host : Ideal.ofBits .f32 0x3E000000#32 = ((1 / 8 : ℝ) : EReal) := by
  simp [Ideal.ofBits, Ideal.ieee]
  rw [← EReal.coe_mul]
  norm_num

theorem ref_out (R : Fin 16384) (C : Fin 512) : val_main_v115 (F := Ideal) x0 x1 x2 x3 x4 (ix2 R C)
    = val_main_v113 (F := Ideal) x0 x1 x2 x3 x4 (ix6 ⟨R.val / 2048, by omega⟩ ⟨R.val / 128 % 16, by omega⟩ ⟨C.val / 256, by omega⟩ ⟨C.val % 64, by omega⟩ ⟨C.val / 64 % 4, by omega⟩ ⟨R.val % 128, by omega⟩) := by
  pointwise [val_main_v115, val_main_v114]

theorem ref_mixed : val_main_v113 (F := Ideal) x0 x1 x2 x3 x4 (ix6 a b c j d i)
    = ∑ k : Fin 384, val_main_v86 (F := Ideal) x2 (ix5 a b k c j) * Ideal.div (val_main_v104 (F := Ideal) x0 x1 x3 x4 (ix6 a b c d i k))
        (val_main_v106 (F := Ideal) x0 x1 x3 x4 (ix6 a b c d i 0) + Ideal.exp (val_main_v108 (F := Ideal) x0 x1 x3 x4 (ix6 a b c d i 0))) := by
  pointwise [val_main_v113, val_main_v112, val_main_v111, val_main_v110, val_main_v109]

theorem ref_max : val_main_v98 (F := Ideal) x0 x1 x4 (ix5 a b c d i) = (Finset.univ : Finset (Fin 384)).fold max ⊥ fun k => val_main_v95 (F := Ideal) x0 x1 x4 (ix6 a b c d i k) := by
  rw [← bot_host]
  unfold val_main_v98
  rw [Host.reduce_eq_fold_single (a := 5) _ _ _ Gen.reducesTo_S8x16x2x4x128x384_S8x16x2x4x128_d5 (by decide)]
  refine Finset.fold_congr fun k _ => ?_
  exact congrArg (val_main_v95 (F := Ideal) x0 x1 x4) (funext fun a => Fin.ext (by match a with | ⟨0, _⟩ => rfl | ⟨1, _⟩ => rfl | ⟨2, _⟩ => rfl | ⟨3, _⟩ => rfl | ⟨4, _⟩ => rfl | ⟨5, _⟩ => rfl))

theorem ref_sum : val_main_v105 (F := Ideal) x0 x1 x3 x4 (ix5 a b c d i) = ∑ k : Fin 384, val_main_v104 (F := Ideal) x0 x1 x3 x4 (ix6 a b c d i k) := by
  rw [val_main_v105_apply]
  have h0 : val_main_cst_22 (F := Ideal) (Shape.Idx.first Gen.h_S_) = 0 := by
    pointwise [val_main_cst_22]
  rw [h0, zero_add]
  refine Finset.sum_congr rfl fun k _ => ?_
  exact congrArg (val_main_v104 (F := Ideal) x0 x1 x3 x4) (funext fun a => Fin.ext (by match a with | ⟨0, _⟩ => rfl | ⟨1, _⟩ => rfl | ⟨2, _⟩ => rfl | ⟨3, _⟩ => rfl | ⟨4, _⟩ => rfl | ⟨5, _⟩ => rfl))

theorem ref_sink : val_main_v97 (F := Ideal) x3 (ix6 0 0 c d 0 0) = x3 (ix1 ⟨c.val * 4 + d.val, by omega⟩) := by
  pointwise [val_main_v97, val_main_v96]

theorem ref_top : val_main_v101 (F := Ideal) x0 x1 x3 x4 (ix6 a b c d i 0)
    = max (val_main_v98 (F := Ideal) x0 x1 x4 (ix5 a b c d i)) (x3 (ix1 ⟨c.val * 4 + d.val, by omega⟩)) := by
  rw [val_main_v101_apply]
  have h1 : val_main_v99 (F := Ideal) x0 x1 x4 (ix6 a b c d i 0) = val_main_v98 (F := Ideal) x0 x1 x4 (ix5 a b c d i) := by
    unfold val_main_v99
    generalize val_main_v98 (F := Ideal) x0 x1 x4 = y
    pointwise []
  have h2 : val_main_v100 (F := Ideal) x3 (ix6 a b c d i 0) = x3 (ix1 ⟨c.val * 4 + d.val, by omega⟩) := by
    rw [← ref_sink x3 c d]
    unfold val_main_v100
    generalize val_main_v97 (F := Ideal) x3 = y
    pointwise []
  rw [h1, h2]
  rfl

theorem ref_weight : val_main_v104 (F := Ideal) x0 x1 x3 x4 (ix6 a b c d i k)
    = Ideal.exp (val_main_v95 (F := Ideal) x0 x1 x4 (ix6 a b c d i k) - val_main_v101 (F := Ideal) x0 x1 x3 x4 (ix6 a b c d i 0)) := by
  pointwise [val_main_v104, val_main_v103, val_main_v102]

theorem ref_sinkexp : val_main_v108 (F := Ideal) x0 x1 x3 x4 (ix6 a b c d i 0)
    = x3 (ix1 ⟨c.val * 4 + d.val, by omega⟩) - val_main_v101 (F := Ideal) x0 x1 x3 x4 (ix6 a b c d i 0) := by
  have h2 : val_main_v107 (F := Ideal) x3 (ix6 a b c d i 0) = x3 (ix1 ⟨c.val * 4 + d.val, by omega⟩) := by
    rw [← ref_sink x3 c d]
    unfold val_main_v107
    generalize val_main_v97 (F := Ideal) x3 = y
    pointwise []
  rw [val_main_v108_apply, h2]
  rfl

theorem ref_total : val_main_v106 (F := Ideal) x0 x1 x3 x4 (ix6 a b c d i 0) = val_main_v105 (F := Ideal) x0 x1 x3 x4 (ix5 a b c d i) := by
  pointwise [val_main_v106]

/-- The reference's row and lane as the attention over its own scores. -/
theorem ref_attn : val_main_v113 (F := Ideal) x0 x1 x2 x3 x4 (ix6 a b c j d i)
    = attnEarly (fun k => val_main_v95 (F := Ideal) x0 x1 x4 (ix6 a b c d i k)) (x3 (ix1 ⟨c.val * 4 + d.val, by omega⟩)) fun k => val_main_v86 (F := Ideal) x2 (ix5 a b k c j) := by
  rw [ref_mixed, ref_total, ref_sum, ref_sinkexp]
  simp only [ref_weight, ref_top, ref_max]
  rfl

theorem gather_at (x : FVec Ideal S32x8 .f32) (idx : IVec S128x384x1 32) (h : Fin 8) :
    Host.gather Cert.ReferenceIdeal.gather_S32x8_S128x384x1_S128x384x8_2_0_n_n_0_2_18 x idx (ix3 i k h) = x (ix2 ⟨min (idx (ix3 i k 0)).toInt.toNat 31, by omega⟩ h) := by
  unfold Host.gather
  refine congrArg x ?_
  funext a
  refine Fin.ext ?_
  show GatherDims.start _ _ idx a + GatherDims.batchCoord _ _ a + GatherDims.offCoord _ _ a = _
  match a with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine congrArg (fun w : BitVec 32 => min w.toInt.toNat 31) (congrArg idx ?_)
    funext e
    refine Fin.ext ?_
    match e with
    | ⟨0, _⟩ => rfl
    | ⟨1, _⟩ => rfl
    | ⟨2, _⟩ => rfl
  | ⟨1, _⟩ =>
    rw [GatherDims.batchCoord_eq_zero _ _ _ List.not_mem_nil]
    unfold GatherDims.start
    refine (congrArg (fun n => n + 0 + GatherDims.offCoord _ _ _) (dif_neg (fun h => Nat.one_ne_zero (congrArg Fin.val (List.mem_singleton.mp h))))).trans ?_
    rw [Nat.add_zero, Nat.zero_add]
    rfl

theorem band_test : ∀ i : Fin 128, ∀ k : Fin 384,
    IntOp.cmpi CmpIPredicate.sle (IntOp.absi (IntOp.subi (IntOp.subi (BitVec.ofNat 32 k.val) 128#32) (BitVec.ofNat 32 i.val))) 128#32
      = if i.val ≤ k.val ∧ k.val ≤ i.val + 256 then 1#1 else 0#1 := by
  decide +kernel

theorem after_start : ∀ b : Fin 16, ∀ k : Fin 384,
    IntOp.cmpi CmpIPredicate.sge (IntOp.subi (IntOp.addi (IntOp.muli (BitVec.ofNat 32 b.val) 128#32) (BitVec.ofNat 32 k.val)) 128#32) 0#32
      = if 128 ≤ b.val * 128 + k.val then 1#1 else 0#1 := by
  decide +kernel

theorem before_end : ∀ b : Fin 16, ∀ k : Fin 384,
    IntOp.cmpi CmpIPredicate.slt (IntOp.subi (IntOp.addi (IntOp.muli (BitVec.ofNat 32 b.val) 128#32) (BitVec.ofNat 32 k.val)) 128#32) 2048#32
      = if b.val * 128 + k.val < 2176 then 1#1 else 0#1 := by
  decide +kernel

theorem ref_mask : val_main_call4_v1 (F := Ideal) (ix6 a b c d i k) = if inBand b.val i.val k.val then 1#1 else 0#1 := by
  pointwise [val_main_call4_v1, val_main_v94, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_c_11, val_main_c_12, val_main_c_13, val_main_c_14, val_main_c_15, val_main_c_16]
  rw [band_test, after_start, before_end]
  unfold inBand
  by_cases h1 : i.val ≤ k.val ∧ k.val ≤ i.val + 256 <;> by_cases h2 : 128 ≤ b.val * 128 + k.val <;> by_cases h3 : b.val * 128 + k.val < 2176 <;>
    simp only [h1, h2, h3, and_true, true_and, and_false, false_and, if_true, if_false, and_self] <;> rfl

theorem ref_bot : val_main_call4_v2 (F := Ideal) (ix6 a b c d i k) = ⊥ := by
  rw [show val_main_call4_v2 (F := Ideal) = broadcastInDim S8x16x2x4x128x384 ![] Gen.bcast_S_S8x16x2x4x128x384 (val_main_cst_20 (F := Ideal)) from rfl]
  pointwise [val_main_cst_20]
  exact bot_host

theorem ref_raw : val_main_v95 (F := Ideal) x0 x1 x4 (ix6 a b c d i k)
    = Scalar.select (val_main_call4_v1 (F := Ideal) (ix6 a b c d i k))
        ((∑ x : Fin 64, val_main_v79 (F := Ideal) x1 (ix5 a b k c x) * x0 (ix3 a ⟨b.val * 128 + i.val, by omega⟩ ⟨c.val * 256 + d.val * 64 + x.val, by omega⟩)) * Ideal.ofBits .f32 0x3E000000#32
          + val_main_v41 (F := Ideal) x4 (ix4 c d i k))
        (val_main_call4_v2 (F := Ideal) (ix6 a b c d i k)) := by
  pointwise [val_main_v95, val_main_v94, val_main_v93, val_main_v92, val_main_v91, val_main_v90, val_main_v89, val_main_v88, val_main_v87, val_main_cst_19, val_main_v72]

theorem ref_key (h : inBand b.val i.val k.val) : val_main_v79 (F := Ideal) x1 (ix5 a b k c j) = x1 (ix3 a (keyRow b k) ⟨c.val * 64 + j.val, by omega⟩) := by
  pointwise [val_main_v79, val_main_v78, val_main_v77, val_main_v76, val_main_v75, val_main_v74, val_main_v73, val_main_call2_v0, val_main_c_17]
  obtain ⟨⟨h1, h2⟩, h3, h4⟩ := h
  have e : ∀ (n : Nat) (hn : n < 2048), n = b.val * 128 + k.val - 128 → x1 (ix3 a ⟨n, hn⟩ ⟨c.val * 64 + j.val, by omega⟩) = x1 (ix3 a (keyRow b k) ⟨c.val * 64 + j.val, by omega⟩) := by
    intro n hn hv
    refine congrArg (fun r => x1 (ix3 a r _)) (Fin.ext ?_)
    show n = min (b.val * 128 + k.val - 128) 2047
    omega
  refine dite_eq_iff'.mpr ⟨fun g => ?_, fun g => dite_eq_iff'.mpr ⟨fun g' => ?_, fun g' => ?_⟩⟩
  · exact dite_eq_iff'.mpr ⟨fun _ => e _ _ rfl, fun w => absurd (by omega) w⟩
  · exact dite_eq_iff'.mpr ⟨fun _ => e _ _ (by omega), fun w => absurd (by omega) w⟩
  · exact dite_eq_iff'.mpr ⟨fun _ => e _ _ (by omega), fun w => absurd (by omega) w⟩

theorem ref_value (h : inBand b.val i.val k.val) : val_main_v86 (F := Ideal) x2 (ix5 a b k c j) = x2 (ix3 a (keyRow b k) ⟨c.val * 64 + j.val, by omega⟩) := by
  pointwise [val_main_v86, val_main_v85, val_main_v84, val_main_v83, val_main_v82, val_main_v81, val_main_v80, val_main_call3_v0, val_main_c_18]
  obtain ⟨⟨h1, h2⟩, h3, h4⟩ := h
  have e : ∀ (n : Nat) (hn : n < 2048), n = b.val * 128 + k.val - 128 → x2 (ix3 a ⟨n, hn⟩ ⟨c.val * 64 + j.val, by omega⟩) = x2 (ix3 a (keyRow b k) ⟨c.val * 64 + j.val, by omega⟩) := by
    intro n hn hv
    refine congrArg (fun r => x2 (ix3 a r _)) (Fin.ext ?_)
    show n = min (b.val * 128 + k.val - 128) 2047
    omega
  refine dite_eq_iff'.mpr ⟨fun g => ?_, fun g => dite_eq_iff'.mpr ⟨fun g' => ?_, fun g' => ?_⟩⟩
  · exact dite_eq_iff'.mpr ⟨fun _ => e _ _ rfl, fun w => absurd (by omega) w⟩
  · exact dite_eq_iff'.mpr ⟨fun _ => e _ _ (by omega), fun w => absurd (by omega) w⟩
  · exact dite_eq_iff'.mpr ⟨fun _ => e _ _ (by omega), fun w => absurd (by omega) w⟩

theorem ref_bias (h : Fin 8) : val_main_v39 (F := Ideal) x4 (ix3 i k h) = x4 (ix2 (bucketOf i k) h) := by
  have hb := bucket_lt i k
  have hw : val_main_v38 (F := Ideal) (ix3 i k 0) = val_main_v32 (F := Ideal) (ix2 i k) := by
    pointwise [val_main_v38, val_main_v37, val_main_v36, val_main_v35, val_main_v34, val_main_v33, val_main_c_9, val_main_c_10]
    exact small_word _ hb
  unfold val_main_v39
  refine (gather_at i k x4 _ h).trans ?_
  refine congrArg x4 (congrArg (fun r => ix2 r h) (Fin.ext ?_))
  show min (val_main_v38 (F := Ideal) (ix3 i k 0)).toInt.toNat 31 = min (val_main_v32 (F := Ideal) (ix2 i k)).toNat 31
  rw [hw, BitVec.toInt_eq_toNat_of_lt (by omega), Int.toNat_natCast]

theorem ref_score : val_main_v95 (F := Ideal) x0 x1 x4 (ix6 a b c d i k) = score x0 x1 x4 a b c d i k := by
  rw [ref_raw, ref_mask, ref_bot, eighth_host]
  have hbias : val_main_v41 (F := Ideal) x4 (ix4 c d i k) = x4 (ix2 (bucketOf i k) ⟨c.val * 4 + d.val, by omega⟩) := by
    rw [← ref_bias x4 i k]
    pointwise [val_main_v41, val_main_v40]
  rw [hbias]
  unfold score
  by_cases h : inBand b.val i.val k.val
  · simp only [if_pos h, ref_key x1 a b c i k _ h]
    rfl
  · simp only [if_neg h]
    rfl

end Cert.Proof.Swa

end
-- ==== Proof.Swa.Reads.lean ====
/-
  What the two launches' blocks hold: the arguments' rows, the buckets and the biases.
-/
module

public import proofs.«01_k».proof.Proof.Swa.Tiles
public import proofs.«01_k».proof.Proof.Swa.Bias
public import proofs.«01_k».proof.Proof.Swa.Ref
public import Idealize.ShloMosaic.Lib.Pointwise
public import Idealize.ShloMosaic.Lib.IdealHost
public import Idealize.ShloMosaic.Lib.Pipeline.ValueKit
public import Idealize.ShloMosaic.Lib.Claim

@[expose] public section

set_option maxRecDepth 16384

noncomputable section

namespace Cert.Proof.Swa

open Idealize.ShloMosaic Idealize.ShloMosaic.TcCoe
open Idealize.ShloMosaic.Pipeline (Dat)
open Cert.KernelIdeal Cert.KernelIdeal.Gen Cert.KernelIdeal.Facts

/-- Where the attention's blocks lie. -/
theorem idx_attn : ∀ t : Fin cfg1.N, win1_0.index t = ![0] ∧ win1_1.index t = ![t.val, 0] ∧ win1_2.index t = ![t.val / 2 * 16 + (t.val % 2 * 8 - 1), 0]
    ∧ win1_3.index t = ![t.val, 0] ∧ win1_4.index t = ![t.val / 2 * 16 + min ((t.val % 2 + 1) * 8) 15, 0]
    ∧ win1_5.index t = ![0, 0, 0] ∧ win1_6.index t = ![t.val, 0] :=
  (by decide +kernel : ∀ t : Fin grid1.N, _)

/-- The half of the sequence that a point takes. -/
theorem half_of : ∀ t : Fin cfg1.N, (grid1.coords t 1).val = t.val % 2 :=
  (by decide +kernel : ∀ t : Fin grid1.N, _)

/-- There are 16 grid points. -/
theorem point_lt (t : Fin cfg1.N) : t.val < 16 := t.isLt

section
variable (V : (c : Dev nD) → (b : Ref sig .tc) → Buf (Elt Ideal) ((c : Thread nD τ).loc b)) (c : Dev nD)

theorem query_row (t : Fin cfg1.N) (r : Fin 1024) (x : Fin 512) : (show FVec Ideal S1024x512 .bf16 from iblk1 V c 1 t) (ix2 r x)
    = (show FVec Ideal S16384x512 .bf16 from V c main_v13) (ix2 ⟨t.val * 1024 + r.val, by have := point_lt t; omega⟩ x) := by
  have := point_lt t
  blk_point [iblk1, idx_attn t]

theorem prev_row (t : Fin cfg1.N) (r : Fin 128) (x : Fin 512) : (show FVec Ideal S128x512 .bf16 from iblk1 V c 2 t) (ix2 r x)
    = (show FVec Ideal S16384x512 .bf16 from V c main_v11) (ix2 ⟨(t.val / 2 * 16 + (t.val % 2 * 8 - 1)) * 128 + r.val, by have := point_lt t; omega⟩ x) := by
  have := point_lt t
  blk_point [iblk1, idx_attn t]

theorem own_row (t : Fin cfg1.N) (r : Fin 1024) (x : Fin 512) : (show FVec Ideal S1024x512 .bf16 from iblk1 V c 3 t) (ix2 r x)
    = (show FVec Ideal S16384x512 .bf16 from V c main_v11) (ix2 ⟨t.val * 1024 + r.val, by have := point_lt t; omega⟩ x) := by
  have := point_lt t
  blk_point [iblk1, idx_attn t]

theorem next_row (t : Fin cfg1.N) (r : Fin 128) (x : Fin 512) : (show FVec Ideal S128x512 .bf16 from iblk1 V c 4 t) (ix2 r x)
    = (show FVec Ideal S16384x512 .bf16 from V c main_v11) (ix2 ⟨(t.val / 2 * 16 + min ((t.val % 2 + 1) * 8) 15) * 128 + r.val, by have := point_lt t; omega⟩ x) := by
  have := point_lt t
  blk_point [iblk1, idx_attn t]

theorem bias_whole (t : Fin cfg1.N) (h : Fin 8) (i : Fin 128) (k : Fin 384) : (show FVec Ideal S8x128x384 .f32 from iblk1 V c 5 t) (ix3 h i k)
    = (show FVec Ideal S8x128x384 .f32 from V c main_v47) (ix3 h i k) := by
  have := point_lt t
  blk_point [iblk1, idx_attn t]

theorem sink_whole (t : Fin cfg1.N) (h : Fin 8) : (show FVec Ideal S8 .f32 from iblk1 V c 0 t) (ix1 h)
    = (show FVec Ideal S8 .f32 from V c main_arg3) (ix1 h) := by
  have := point_lt t
  blk_point [iblk1, idx_attn t]

theorem idx_bias : ∀ t : Fin cfg0.N, win0_0.index t = ![0, 0] ∧ win0_1.index t = ![0, 0] ∧ win0_2.index t = ![0, 0, 0] :=
  (by decide +kernel : ∀ t : Fin grid0.N, _)

theorem table_whole (t : Fin cfg0.N) (b : Fin 32) (h : Fin 8) : (show FVec Ideal S32x8 .f32 from iblk0 V c 0 t) (ix2 b h)
    = (show FVec Ideal S32x8 .f32 from V c main_arg4) (ix2 b h) := by
  blk_point [iblk0, idx_bias t]

theorem bucket_whole (t : Fin cfg0.N) (i : Fin 128) (k : Fin 384) : (show IVec S128x384 32 from iblk0 V c 1 t) (ix2 i k)
    = (show IVec S128x384 32 from V c main_v46) (ix2 i k) := by
  blk_point [iblk0, idx_bias t]

end

variable (m : (ℓ : Loc nD τ sig) → Buf (Elt Ideal) ℓ) (ρ : Dev nD → PrngReg) (c : Dev nD)

theorem queries_host (n : Fin 16384) (x : Fin 512) : (show FVec Ideal S16384x512 .bf16 from V6 m ρ c main_v13) (ix2 n x)
    = (show FVec Ideal S8x2048x512 .f32 from m ((c : Thread nD τ).loc main_arg0)) (ix3 ⟨n.val / 2048, by omega⟩ ⟨n.val % 2048, by omega⟩ x) := by
  refine (congrFun (W6_of m ρ c main_v13 (by decide)) (ix2 n x)).trans ?_
  unfold W5 W4 W3 W2 W1 W0
  entry_read
  pointwise []

/-- The keys and the values side by side, each head's twice. -/
def kvFlat (k v : FVec Ideal S16384x128 .f32) : FVec Ideal S16384x512 .bf16 :=
  truncf .bf16 (concatenate S16384x512 1
    [⟨S16384x64, extractStridedSlice S16384x64 ![0, 0] k slices_S16384x128_S16384x64_0_0⟩, ⟨S16384x64, extractStridedSlice S16384x64 ![0, 0] k slices_S16384x128_S16384x64_0_0⟩,
     ⟨S16384x64, extractStridedSlice S16384x64 ![0, 64] k slices_S16384x128_S16384x64_0_64⟩, ⟨S16384x64, extractStridedSlice S16384x64 ![0, 64] k slices_S16384x128_S16384x64_0_64⟩,
     ⟨S16384x64, extractStridedSlice S16384x64 ![0, 0] v slices_S16384x128_S16384x64_0_0⟩, ⟨S16384x64, extractStridedSlice S16384x64 ![0, 0] v slices_S16384x128_S16384x64_0_0⟩,
     ⟨S16384x64, extractStridedSlice S16384x64 ![0, 64] v slices_S16384x128_S16384x64_0_64⟩, ⟨S16384x64, extractStridedSlice S16384x64 ![0, 64] v slices_S16384x128_S16384x64_0_64⟩]
    concatenates_S16384x64_S16384x64_S16384x64_S16384x64_S16384x64_S16384x64_S16384x64_S16384x64_S16384x512_d1) bitsLt_bf16_f32

set_option maxHeartbeats 4000000 in
theorem kv_flat : (show FVec Ideal S16384x512 .bf16 from W5 m ρ c (Proc.devRef .tc main_v11))
    = kvFlat (shapeCast S16384x128 (show FVec Ideal S8x2048x128 .f32 from m ((c : Thread nD τ).loc main_arg1)) shapeCasts_S8x2048x128_S16384x128)
      (shapeCast S16384x128 (show FVec Ideal S8x2048x128 .f32 from m ((c : Thread nD τ).loc main_arg2)) shapeCasts_S8x2048x128_S16384x128) := by
  show (W5 m ρ c (Proc.devRef .tc main_v11)) = _
  rw [W5_of _ _ _ _ (by decide), W4_of _ _ _ _ (by decide), W3_of _ _ _ _ (by decide), W2_of _ _ _ _ (by decide)]
  rfl
set_option maxHeartbeats 4000000 in
theorem kv_flat_at (k v : FVec Ideal S16384x128 .f32) (n : Fin 16384) (x : Fin 512) : kvFlat k v (ix2 n x)
    = if x.val < 256 then k (ix2 n ⟨x.val / 128 % 2 * 64 + x.val % 64, by omega⟩) else v (ix2 n ⟨x.val / 128 % 2 * 64 + x.val % 64, by omega⟩) := by
  pointwise [kvFlat]
  have hk : ∀ (y : Nat) (h : y < 128), y = x.val / 128 % 2 * 64 + x.val % 64 → k (ix2 n ⟨y, h⟩) = k (ix2 n ⟨x.val / 128 % 2 * 64 + x.val % 64, by omega⟩) :=
    fun y h e => congrArg k (congrArg (ix2 n) (Fin.ext e))
  have hv : ∀ (y : Nat) (h : y < 128), y = x.val / 128 % 2 * 64 + x.val % 64 → v (ix2 n ⟨y, h⟩) = v (ix2 n ⟨x.val / 128 % 2 * 64 + x.val % 64, by omega⟩) :=
    fun y h e => congrArg v (congrArg (ix2 n) (Fin.ext e))
  by_cases hx : x.val < 256
  · rw [if_pos hx]
    refine dite_eq_iff'.mpr ⟨fun h => hk _ _ (by omega), fun h => ?_⟩
    refine dite_eq_iff'.mpr ⟨fun h => hk _ _ (by omega), fun h => ?_⟩
    refine dite_eq_iff'.mpr ⟨fun h => hk _ _ (by omega), fun h => ?_⟩
    refine dite_eq_iff'.mpr ⟨fun h => hk _ _ (by omega), fun h => ?_⟩
    exact absurd hx (by omega)
  · rw [if_neg hx, dif_neg (by omega), dif_neg (by omega), dif_neg (by omega), dif_neg (by omega)]
    repeat' (refine dite_eq_iff'.mpr ⟨fun h => hv _ _ (by omega), fun h => ?_⟩)
    exact hv _ _ (by omega)

theorem kv_host (n : Fin 16384) (x : Fin 512) : (show FVec Ideal S16384x512 .bf16 from V6 m ρ c main_v11) (ix2 n x)
    = if x.val < 256 then (show FVec Ideal S8x2048x128 .f32 from m ((c : Thread nD τ).loc main_arg1)) (ix3 ⟨n.val / 2048, by omega⟩ ⟨n.val % 2048, by omega⟩ ⟨x.val / 128 % 2 * 64 + x.val % 64, by omega⟩)
      else (show FVec Ideal S8x2048x128 .f32 from m ((c : Thread nD τ).loc main_arg2)) (ix3 ⟨n.val / 2048, by omega⟩ ⟨n.val % 2048, by omega⟩ ⟨x.val / 128 % 2 * 64 + x.val % 64, by omega⟩) := by
  refine (congrFun ((W6_of m ρ c main_v11 (by decide)).trans (kv_flat m ρ c)) (ix2 n x)).trans ((kv_flat_at _ _ n x).trans ?_)
  pointwise []

theorem sink_host (h : Fin 8) : (show FVec Ideal S8 .f32 from V6 m ρ c main_arg3) (ix1 h) = (show FVec Ideal S8 .f32 from m ((c : Thread nD τ).loc main_arg3)) (ix1 h) := by
  exact congrFun ((W6_of m ρ c main_arg3 (by decide)).trans (W5_args m ρ c main_arg3 (by decide))) (ix1 h)

theorem table_host : V5 m ρ c main_arg4 = m ((c : Thread nD τ).loc main_arg4) :=
  W5_args m ρ c main_arg4 (by decide)

theorem bucket_host : (show IVec S128x384 32 from V5 m ρ c main_v46) = Cert.ReferenceIdeal.Read.val_main_v32 (F := Ideal) := by
  show (W5 m ρ c (Proc.devRef .tc main_v46) : IVec S128x384 32) = _
  unfold W5 W4 W3 W2 W1 W0
  entry_read
  rfl

end Cert.Proof.Swa

end
-- ==== Proof.Swa.Finite.lean ====
/-
  What the precondition gives: queries, keys, sinks and the table of biases are finite.
-/
module

public import proofs.«01_k».proof.Defs
public import Idealize.ShloMosaic.Lib.ReduceAll
public import Idealize.ShloMosaic.Lib.Pointwise
public import Idealize.ShloMosaic.PureOps.Ideal.Laws

@[expose] public section

set_option maxRecDepth 16384

noncomputable section

namespace Cert.Proof.Swa

open Idealize.ShloMosaic Idealize.ShloMosaic.TcCoe

/-- The predicate's side conditions. -/
theorem pre_facts : Cert.Pre_finite_scores.Facts where
  bcast_S_S8x2048x512 := by decide
  reducesTo_S8x2048x512_S_d0_1_2 := by decide
  h_S_ := by decide
  bcast_S_S8x2048x128 := by decide
  reducesTo_S8x2048x128_S_d0_1_2 := by decide
  bcast_S_S8 := by decide
  reducesTo_S8_S_d0 := by decide
  bcast_S_S32x8 := by decide
  reducesTo_S32x8_S_d0_1 := by decide

theorem inf_word : Ideal.ofBits .f32 0x7F800000#32 = (⊤ : EReal) := by
  simp [Ideal.ofBits, Ideal.ieee]

/-- An element whose magnitude is below infinity is a real number. -/
theorem real_of_test (x : EReal) (h : FloatOps.cmpf (F := Ideal) (φ := .f32) CmpFPredicate.olt (FloatOps.absf (F := Ideal) (φ := .f32) x) (Ideal.ofBits .f32 0x7F800000#32) = 1#1) : ∃ r : ℝ, x = (r : EReal) := by
  rw [inf_word] at h
  induction x using EReal.rec with
  | bot =>
    exfalso
    revert h
    show Ideal.cmp CmpFPredicate.olt (max (⊥ : EReal) (-⊥)) ⊤ = 1#1 → False
    simp [Ideal.cmp]
  | coe r => exact ⟨r, rfl⟩
  | top =>
    exfalso
    revert h
    show Ideal.cmp CmpFPredicate.olt (max (⊤ : EReal) (-⊤)) ⊤ = 1#1 → False
    simp [Ideal.cmp]

instance : Subsingleton (Cert.Pre_finite_scores.S_.Idx) := ⟨fun a b => funext fun i => i.elim0⟩

theorem finite_of_pre (m : (ℓ : Loc Cert.KernelIdeal.nD Cert.KernelIdeal.τ Cert.KernelIdeal.sig) → Buf (Elt Ideal) ℓ)
    (h : Cert.Pre_KernelIdeal_finite_scores (hPre_finite_scores := pre_facts) m) (c : Dev Cert.KernelIdeal.nD) :
    (∀ i, ∃ r : ℝ, (show FVec Ideal Cert.KernelIdeal.S8x2048x512 .f32 from m ((c.tc : Thread _ _).loc Cert.KernelIdeal.main_arg0)) i = (r : EReal))
    ∧ (∀ i, ∃ r : ℝ, (show FVec Ideal Cert.KernelIdeal.S8x2048x128 .f32 from m ((c.tc : Thread _ _).loc Cert.KernelIdeal.main_arg1)) i = (r : EReal))
    ∧ (∀ i, ∃ r : ℝ, (show FVec Ideal Cert.KernelIdeal.S8 .f32 from m ((c.tc : Thread _ _).loc Cert.KernelIdeal.main_arg3)) i = (r : EReal))
    ∧ (∀ i, ∃ r : ℝ, (show FVec Ideal Cert.KernelIdeal.S32x8 .f32 from m ((c.tc : Thread _ _).loc Cert.KernelIdeal.main_arg4)) i = (r : EReal)) := by
  have h := congrFun (h c) (fun i => i.elim0)
  dsimp only [Cert.Pre_finite_scores.fn, Cert.Pre_finite_scores.fn_part1] at h
  obtain ⟨h, h4⟩ := IntOp.andi_eq_one.1 h
  obtain ⟨h, h3⟩ := IntOp.andi_eq_one.1 h
  obtain ⟨h0, h1⟩ := IntOp.andi_eq_one.1 h
  refine ⟨fun i => real_of_test _ ?_, fun i => real_of_test _ ?_, fun i => real_of_test _ ?_, fun i => real_of_test _ ?_⟩
  · exact Host.reduce_andi_all _ _ _ _ _ h0 i
  · exact Host.reduce_andi_all _ _ _ _ _ h1 i
  · exact Host.reduce_andi_all _ _ _ _ _ h3 i
  · exact Host.reduce_andi_all _ _ _ _ _ h4 i

end Cert.Proof.Swa

end
-- ==== Proof.Swa.Value.lean ====
/-
  The attention's result array after the run is the reference's.
-/
module

public import proofs.«01_k».proof.Proof.Swa.Reads
public import proofs.«01_k».proof.Proof.Swa.Finite

@[expose] public section

set_option maxRecDepth 16384

noncomputable section

namespace Cert.Proof.Swa

open Idealize.ShloMosaic Idealize.ShloMosaic.TcCoe
open Idealize.ShloMosaic.Pipeline (Dat)
open Cert.KernelIdeal Cert.KernelIdeal.Gen Cert.KernelIdeal.Facts

variable (m : (ℓ : Loc nD τ sig) → Buf (Elt Ideal) ℓ) (ρ : Dev nD → PrngReg) (c : Dev nD)

/-- The queries. -/
abbrev argQ : FVec Ideal S8x2048x512 .f32 := m ((c : Thread nD τ).loc main_arg0)
/-- The keys. -/
abbrev argK : FVec Ideal S8x2048x128 .f32 := m ((c : Thread nD τ).loc main_arg1)
/-- The values. -/
abbrev argV : FVec Ideal S8x2048x128 .f32 := m ((c : Thread nD τ).loc main_arg2)
/-- The sinks. -/
abbrev argS : FVec Ideal S8 .f32 := m ((c : Thread nD τ).loc main_arg3)
/-- The table of biases. -/
abbrev argT : FVec Ideal S32x8 .f32 := m ((c : Thread nD τ).loc main_arg4)

/-- The array of biases after the first launch. -/
theorem bias_host (h : Fin 8) (i : Fin 128) (k : Fin 384) : (show FVec Ideal S8x128x384 .f32 from V6 m ρ c main_v47) (ix3 h i k)
    = if i.val ≤ k.val ∧ k.val ≤ i.val + 256 then argT m c (ix2 (bucketOf i k) h) else ⊥ := by
  have e : (show FVec Ideal S8x128x384 .f32 from V6 m ρ c main_v47)
      = fun z => biasHead (F := Ideal) (iblk0 (V5 m ρ) c 1 t0_0) (entry (iblk0 (V5 m ρ) c 0 t0_0) (z 0)) (ix3 0 (z 1) (z 2)) := by
    refine (show _ = (dat0 (V5 m ρ) c).arrAt 2 cfg0.N from W6_arr m ρ c 2).trans ?_
    refine (dat0 (V5 m ρ) c).arrAt_eq_of_after_last 2 t0_0 (by decide +kernel) _ fun j => ?_
    blk_simp
    rw [after0_2]
    idx_vars j
    exact bias_block (V5 m ρ) c t0_0 (ix3 j0 j1 j2)
  rw [e]
  show biasHead (F := Ideal) (iblk0 (V5 m ρ) c 1 t0_0) (entry (iblk0 (V5 m ρ) c 0 t0_0) h) (ix3 0 i k) = _
  rw [biasHead_at]
  refine if_congr Iff.rfl ?_ rfl
  rw [chain_at _ _ _ _ 32 (le_refl _)]
  have hw : (show IVec S128x384 32 from iblk0 (V5 m ρ) c 1 t0_0) (ix2 i k) = Cert.ReferenceIdeal.Read.val_main_v32 (F := Ideal) (ix2 i k) :=
    (bucket_whole (V5 m ρ) c t0_0 i k).trans (congrFun (bucket_host m ρ c) (ix2 i k))
  have hb := bucket_lt i k
  have e2 : ((show IVec S128x384 32 from iblk0 (V5 m ρ) c 1 t0_0) (ix2 i k)).toNat = (bucketOf i k).val := by
    rw [hw]
    show _ = min _ 31
    omega
  show (if ((show IVec S128x384 32 from iblk0 (V5 m ρ) c 1 t0_0) (ix2 i k)).toNat < 32 then entry (iblk0 (V5 m ρ) c 0 t0_0) h ((show IVec S128x384 32 from iblk0 (V5 m ρ) c 1 t0_0) (ix2 i k)).toNat else 0) = _
  rw [e2, if_pos (bucketOf i k).isLt, entry_eq]
  exact (table_whole (V5 m ρ) c t0_0 (bucketOf i k) h).trans (congrFun (table_host m ρ c) (ix2 (bucketOf i k) h))

/-- A key's or value's row, where the sequence has it. -/
theorem held_at (t : Fin cfg1.N) (g : Fin 1280) (y : Fin 512) (h0 : ¬(t.val % 2 = 0 ∧ g.val < 128)) (h1 : ¬(t.val % 2 = 1 ∧ 1152 ≤ g.val)) (n : Fin 16384)
    (hn : n.val + 128 = t.val * 1024 + g.val) :
    keys (V6 m ρ) c t (ix2 g y) = (show FVec Ideal S16384x512 .bf16 from V6 m ρ c main_v11) (ix2 n y) := by
  have ht := point_lt t
  show held3 (iblk1 (V6 m ρ) c 2 t) (iblk1 (V6 m ρ) c 3 t) (iblk1 (V6 m ρ) c 4 t) (ix2 g y) = _
  unfold held3
  refine dite_eq_iff'.mpr ⟨fun w => ?_, fun w => dite_eq_iff'.mpr ⟨fun w' => ?_, fun w' => ?_⟩⟩
  · refine (prev_row (V6 m ρ) c t _ y).trans (congrArg (fun r => (show FVec Ideal S16384x512 .bf16 from V6 m ρ c main_v11) (ix2 r y)) (Fin.ext ?_))
    replace w : g.val < 128 := w
    show _ = n.val
    simp only [ix2]
    omega
  · refine (own_row (V6 m ρ) c t _ y).trans (congrArg (fun r => (show FVec Ideal S16384x512 .bf16 from V6 m ρ c main_v11) (ix2 r y)) (Fin.ext ?_))
    replace w : ¬ g.val < 128 := w
    show t.val * 1024 + (g.val - 128) = n.val
    omega
  · refine (next_row (V6 m ρ) c t _ y).trans (congrArg (fun r => (show FVec Ideal S16384x512 .bf16 from V6 m ρ c main_v11) (ix2 r y)) (Fin.ext ?_))
    replace w : ¬ g.val < 1152 := w'
    have := g.isLt
    show _ = n.val
    simp only [ix2]
    omega

section
variable (t : Fin cfg1.N) (z0 : Fin 1024) (z1 : Fin 512)

/-- The row's batch. -/
def batchOf (t : Fin cfg1.N) : Fin 8 := ⟨t.val / 2, by have := point_lt t; omega⟩
/-- The row's block within its batch. -/
def blockOf (t : Fin cfg1.N) (z0 : Fin 1024) : Fin 16 := ⟨t.val % 2 * 8 + z0.val / 128, by omega⟩
/-- The row within its block. -/
def rowOf (z0 : Fin 1024) : Fin 128 := ⟨z0.val % 128, by omega⟩
/-- The lane's group of heads. -/
def groupOf (z1 : Fin 512) : Fin 2 := ⟨z1.val / 256, by omega⟩
/-- The lane's head within its group. -/
def headOf (z1 : Fin 512) : Fin 4 := ⟨z1.val / 64 % 4, by omega⟩

theorem score_at (k : Fin 384) : blockScore (iblk1 (V6 m ρ) c 1 t) (keys (V6 m ρ) c t) (iblk1 (V6 m ρ) c 5 t) (grid1.coords t 1).val (ix2 z0 z1) k
    = score (argQ m c) (argK m c) (argT m c) (batchOf t) (blockOf t z0) (groupOf z1) (headOf z1) (rowOf z0) k := by
  have ht := point_lt t
  unfold blockScore
  have hB : (show FVec Ideal S8x128x384 .f32 from iblk1 (V6 m ρ) c 5 t) (ix3 ⟨z1.val / 64, by omega⟩ ⟨z0.val % 128, by omega⟩ k)
      = if (rowOf z0).val ≤ k.val ∧ k.val ≤ (rowOf z0).val + 256 then argT m c (ix2 (bucketOf (rowOf z0) k) ⟨z1.val / 64, by omega⟩) else ⊥ :=
    (bias_whole (V6 m ρ) c t _ _ _).trans (bias_host m ρ c _ _ _)
  refine (congrArg₂ (· + ·) (congrArg (_ + ·) hB) (congrArg (edgeAt · (z0.val / 128) k) (half_of t))).trans ?_
  unfold score
  by_cases hk : inBand (blockOf t z0).val (rowOf z0).val k.val
  · have hk' := hk
    unfold inBand at hk'
    obtain ⟨hb, h3, h4⟩ := hk'
    replace h3 : 128 ≤ (t.val % 2 * 8 + z0.val / 128) * 128 + k.val := h3
    replace h4 : (t.val % 2 * 8 + z0.val / 128) * 128 + k.val < 2176 := h4
    rw [if_pos hk, if_pos hb]
    unfold edgeAt
    rw [if_neg (by omega), add_zero]
    refine congrArg₂ (· + ·) (congrArg (· * _) (Finset.sum_congr rfl fun x _ => congrArg₂ (· * ·) ?_ ?_)) ?_
    · refine (held_at m ρ c t _ _ (by show ¬ (_ ∧ 128 * (z0.val / 128) + k.val < 128); omega) (by show ¬ (_ ∧ 1152 ≤ 128 * (z0.val / 128) + k.val); omega)
        ⟨t.val * 1024 + (128 * (z0.val / 128) + k.val) - 128, by omega⟩ (by show _ - 128 + 128 = t.val * 1024 + (128 * (z0.val / 128) + k.val); omega)).trans ?_
      refine (kv_host m ρ c _ _).trans ?_
      rw [if_pos (by show 128 * (z1.val / 256) + 64 * (z1.val / 64 % 2) + x.val < 256; omega)]
      refine congrArg (argK m c) ?_
      refine congr (congrArg₂ ix3 (Fin.ext ?_) (Fin.ext ?_)) (Fin.ext ?_)
      · show (t.val * 1024 + (128 * (z0.val / 128) + k.val) - 128) / 2048 = t.val / 2
        omega
      · show (t.val * 1024 + (128 * (z0.val / 128) + k.val) - 128) % 2048 = min ((t.val % 2 * 8 + z0.val / 128) * 128 + k.val - 128) 2047
        omega
      · show (128 * (z1.val / 256) + 64 * (z1.val / 64 % 2) + x.val) / 128 % 2 * 64 + (128 * (z1.val / 256) + 64 * (z1.val / 64 % 2) + x.val) % 64 = z1.val / 256 * 64 + x.val
        omega
    · refine (query_row (V6 m ρ) c t _ _).trans ((queries_host m ρ c _ _).trans ?_)
      refine congrArg (argQ m c) ?_
      refine congr (congrArg₂ ix3 (Fin.ext ?_) (Fin.ext ?_)) (Fin.ext ?_)
      · show (t.val * 1024 + z0.val) / 2048 = t.val / 2
        omega
      · show (t.val * 1024 + z0.val) % 2048 = (t.val % 2 * 8 + z0.val / 128) * 128 + z0.val % 128
        omega
      · show 64 * (z1.val / 64) + x.val = z1.val / 256 * 256 + z1.val / 64 % 4 * 64 + x.val
        omega
    · refine congrArg (fun h => argT m c (ix2 _ h)) (Fin.ext ?_)
      show z1.val / 64 = z1.val / 256 * 4 + z1.val / 64 % 4
      omega
  · rw [if_neg hk]
    by_cases hb : (rowOf z0).val ≤ k.val ∧ k.val ≤ (rowOf z0).val + 256
    · have hs : ¬ (128 ≤ (t.val % 2 * 8 + z0.val / 128) * 128 + k.val ∧ (t.val % 2 * 8 + z0.val / 128) * 128 + k.val < 2176) := fun h => hk ⟨hb, h⟩
      unfold edgeAt
      rw [if_pos hb, if_pos (by omega)]
      exact EReal.add_bot _
    · rw [if_neg hb]
      refine (congrArg (· + _) (EReal.add_bot _)).trans (EReal.bot_add _)

theorem value_at (k : Fin 384) (hk : inBand (blockOf t z0).val (rowOf z0).val k.val) :
    blockValue (keys (V6 m ρ) c t) (ix2 z0 z1) k
      = Cert.ReferenceIdeal.Read.val_main_v86 (F := Ideal) (argV m c) (ix5 (batchOf t) (blockOf t z0) k (groupOf z1) ⟨z1.val % 64, by omega⟩) := by
  have ht := point_lt t
  rw [ref_value (argV m c) (batchOf t) (blockOf t z0) (groupOf z1) (rowOf z0) k _ hk]
  unfold inBand at hk
  obtain ⟨hb, h3, h4⟩ := hk
  replace h3 : 128 ≤ (t.val % 2 * 8 + z0.val / 128) * 128 + k.val := h3
  replace h4 : (t.val % 2 * 8 + z0.val / 128) * 128 + k.val < 2176 := h4
  unfold blockValue
  refine (held_at m ρ c t _ _ (by show ¬ (_ ∧ 128 * (z0.val / 128) + k.val < 128); omega) (by show ¬ (_ ∧ 1152 ≤ 128 * (z0.val / 128) + k.val); omega)
    ⟨t.val * 1024 + (128 * (z0.val / 128) + k.val) - 128, by omega⟩ (by show _ - 128 + 128 = t.val * 1024 + (128 * (z0.val / 128) + k.val); omega)).trans ?_
  refine (kv_host m ρ c _ _).trans ?_
  rw [if_neg (by show ¬ (256 + 128 * (z1.val / 256) + z1.val % 128 < 256); omega)]
  refine congrArg (argV m c) ?_
  refine congr (congrArg₂ ix3 (Fin.ext ?_) (Fin.ext ?_)) (Fin.ext ?_)
  · show (t.val * 1024 + (128 * (z0.val / 128) + k.val) - 128) / 2048 = t.val / 2
    omega
  · show (t.val * 1024 + (128 * (z0.val / 128) + k.val) - 128) % 2048 = min ((t.val % 2 * 8 + z0.val / 128) * 128 + k.val - 128) 2047
    omega
  · show (256 + 128 * (z1.val / 256) + z1.val % 128) / 128 % 2 * 64 + (256 + 128 * (z1.val / 256) + z1.val % 128) % 64 = z1.val / 256 * 64 + z1.val % 64
    omega

end

/-- Finite queries, keys and biases: no score is infinite upwards. -/
theorem score_ne_top (x0 : FVec Ideal S8x2048x512 .f32) (x1 : FVec Ideal S8x2048x128 .f32) (x4 : FVec Ideal S32x8 .f32)
    (h0 : ∀ i, ∃ r : ℝ, x0 i = (r : EReal)) (h1 : ∀ i, ∃ r : ℝ, x1 i = (r : EReal)) (h4 : ∀ i, ∃ r : ℝ, x4 i = (r : EReal))
    (a : Fin 8) (b : Fin 16) (cc : Fin 2) (d : Fin 4) (i : Fin 128) (k : Fin 384) : score x0 x1 x4 a b cc d i k ≠ ⊤ := by
  unfold score
  choose f0 e0 using h0
  choose f1 e1 using h1
  choose f4 e4 using h4
  by_cases h : inBand b.val i.val k.val
  · rw [if_pos h]
    simp only [e0, e1, e4, ← EReal.coe_mul]
    rw [coe_sum', ← EReal.coe_mul, ← EReal.coe_add]
    exact EReal.coe_ne_top _
  · rw [if_neg h]
    exact bot_ne_top

/-- The reference's result. -/
def result (c : Dev nD) : FVec Ideal S16384x512 .bf16 :=
  Cert.ReferenceIdeal.Read.val_main_v116 (F := Ideal) (argQ m c) (argK m c) (argV m c) (argS m c) (argT m c)

theorem point (h : Cert.Pre_KernelIdeal_finite_scores (hPre_finite_scores := pre_facts) m) (t : Fin cfg1.N) (z0 : Fin 1024) (z1 : Fin 512) :
    (outsAt1 (V6 m ρ) c t : FVec Ideal S1024x512 .bf16) (ix2 z0 z1) = result m c (ix2 ⟨t.val * 1024 + z0.val, by have := point_lt t; omega⟩ z1) := by
  have ht := point_lt t
  obtain ⟨h0, h1, h3, h4⟩ := finite_of_pre m h c
  refine (attn_block (V6 m ρ) c t _).trans ?_
  have hr : result m c (ix2 ⟨t.val * 1024 + z0.val, by omega⟩ z1)
      = Cert.ReferenceIdeal.Read.val_main_v113 (F := Ideal) (argQ m c) (argK m c) (argV m c) (argS m c) (argT m c)
          (ix6 (batchOf t) (blockOf t z0) (groupOf z1) ⟨z1.val % 64, by omega⟩ (headOf z1) (rowOf z0)) := by
    refine (ref_out (argQ m c) (argK m c) (argV m c) (argS m c) (argT m c) ⟨t.val * 1024 + z0.val, by omega⟩ z1).trans ?_
    have q0 : (⟨(t.val * 1024 + z0.val) / 2048, by omega⟩ : Fin 8) = batchOf t := Fin.ext (by show _ = t.val / 2; simp only; omega)
    have q1 : (⟨(t.val * 1024 + z0.val) / 128 % 16, by omega⟩ : Fin 16) = blockOf t z0 := Fin.ext (by show _ = t.val % 2 * 8 + z0.val / 128; simp only; omega)
    have q2 : (⟨(t.val * 1024 + z0.val) % 128, by omega⟩ : Fin 128) = rowOf z0 := Fin.ext (by show _ = z0.val % 128; simp only; omega)
    show Cert.ReferenceIdeal.Read.val_main_v113 (F := Ideal) (argQ m c) (argK m c) (argV m c) (argS m c) (argT m c)
          (ix6 ⟨(t.val * 1024 + z0.val) / 2048, by omega⟩ ⟨(t.val * 1024 + z0.val) / 128 % 16, by omega⟩ (groupOf z1) ⟨z1.val % 64, by omega⟩ (headOf z1) ⟨(t.val * 1024 + z0.val) % 128, by omega⟩) = _
    rw [q0, q1, q2]
  rw [hr, ref_attn]
  simp only [ref_score]
  unfold blockOut
  have hS : (blockScore (iblk1 (V6 m ρ) c 1 t) (keys (V6 m ρ) c t) (iblk1 (V6 m ρ) c 5 t) (grid1.coords t 1).val (ix2 z0 z1))
      = fun k => score (argQ m c) (argK m c) (argT m c) (batchOf t) (blockOf t z0) (groupOf z1) (headOf z1) (rowOf z0) k := funext fun k => score_at m ρ c t z0 z1 k
  have hs : (show FVec Ideal S8 .f32 from iblk1 (V6 m ρ) c 0 t) (ix1 ⟨z1.val / 64, by omega⟩) = argS m c (ix1 ⟨(groupOf z1).val * 4 + (headOf z1).val, by have := (groupOf z1).isLt; have := (headOf z1).isLt; omega⟩) := by
    refine (sink_whole (V6 m ρ) c t _).trans ((sink_host m ρ c _).trans (congrArg (fun q => argS m c (ix1 q)) (Fin.ext ?_)))
    show z1.val / 64 = z1.val / 256 * 4 + z1.val / 64 % 4
    omega
  rw [hS]
  refine (congrArg (attnLate _ · _) hs).trans ?_
  obtain ⟨r, hr⟩ := h3 (ix1 ⟨(groupOf z1).val * 4 + (headOf z1).val, by have := (groupOf z1).isLt; have := (headOf z1).isLt; omega⟩)
  refine attn_eq _ _ _ _ (fun k => score_ne_top _ _ _ h0 h1 h4 _ _ _ _ _ _) (fun e => EReal.coe_ne_top r (hr.symm.trans e)) (fun e => EReal.coe_ne_bot r (hr.symm.trans e)) fun k hk => ?_
  refine value_at m ρ c t z0 z1 k ?_
  by_contra hn
  exact hk (if_neg hn)

/-- The result array after the run. -/
theorem final (h : Cert.Pre_KernelIdeal_finite_scores (hPre_finite_scores := pre_facts) m) : (dat1 (V6 m ρ) c).arrAt 6 cfg1.N = result m c := by
  refine (dat1 (V6 m ρ) c).arrAt_eq_of_covers 6 _ (by decide +kernel) fun t _ y => ?_
  blk_simp
  rw [after1_6]
  idx_vars y
  refine (point m ρ c h t y0 y1).trans (congrArg (result m c) ?_)
  blk_ext [idx_attn t]

end Cert.Proof.Swa

end
-- ==== Proof.Swa.Claims.lean ====
/-
  The claims about the attention: the two frames, the reference's, and the value.
-/
module

public import proofs.«01_k».proof.Defs
public import proofs.«01_k».proof.Proof.Swa.Value
public import proofs.«01_k».proof.Proof.Swa.Launch
public import proofs.«01_k».proof.Proof.Gen.Kernel.Frame
public import proofs.«01_k».proof.Proof.Gen.ReferenceIdeal.Run
public import Idealize.ShloMosaic.Lib.Quiescent

@[expose] public section

set_option maxRecDepth 16384

noncomputable section

namespace Cert.Proof.Swa

open Idealize.ShloMosaic Idealize.ShloMosaic.TcCoe Idealize.SL.Sem

/-- The kernel runs, at machine words. -/
theorem frame : Cert.quiescent_Kernel (hKernel := Cert.Kernel.Gen.facts) := fun m ρ _ =>
  Cert.Kernel.Gen.frame (F := Bits) m ρ

/-- The kernel runs, at the extended reals. -/
theorem frame_ideal : Cert.quiescent_KernelIdeal (hKernelIdeal := Cert.KernelIdeal.Gen.facts) := fun m ρ _ =>
  Cert.KernelIdeal.Gen.frame (F := Ideal) m ρ

/-- The same under the precondition. -/
theorem frame_ideal_pre : Cert.quiescent_KernelIdeal_pre_finite_scores (hKernelIdeal := Cert.KernelIdeal.Gen.facts) (hPre_finite_scores := pre_facts) :=
  fun m ρ _ => Cert.KernelIdeal.Gen.frame (F := Ideal) m ρ

/-- The reference runs, at the extended reals. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_ref_pre : Cert.quiescent_ReferenceIdeal_pre_finite_scores (hReferenceIdeal := Cert.ReferenceIdeal.Gen.facts) (hPre_finite_scores := pre_facts) :=
  fun m ρ _ => frame_ref m ρ trivial

/-- The idealization rewrites nothing. -/
theorem preserves : Cert.preserves_Kernel_KernelIdeal := trivial

/-- Kernel and reference end with equal results from equal arguments. -/
theorem algebraic : Cert.algebraic_KernelIdeal_ReferenceIdeal_pre_finite_scores (hKernelIdeal := Cert.KernelIdeal.Gen.facts)
    (hReferenceIdeal := Cert.ReferenceIdeal.Gen.facts) (hPre_finite_scores := pre_facts) := by
  intro m ρ m' ρ' hp hag
  refine ⟨fun c => result m c, ?_, ?_⟩
  · exact (θ_run Cert.KernelIdeal.defs _ _).mono (fun _ h c => ⟨(h c).1.trans (final m ρ c hp), (h c).2⟩) (run m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4⟩ := hag c
    refine (Cert.ReferenceIdeal.Read.val_main_v116_eq (F := Ideal) m' c).trans ?_
    show Cert.ReferenceIdeal.Read.val_main_v116 (F := Ideal) (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3)) (m' ((c.tc : Thread _ _).loc Cert.ReferenceIdeal.main_arg4)) = _
    rw [h0, h1, h2, h3, h4]
    rfl

end Cert.Proof.Swa

end
-- ==== Proof.InProj.Launch.lean ====
/-
  A run of the input projection: its results are what the second kernel's write-backs leave, and its arguments end as launched.
-/
module

public import proofs.«01_k».proof.Proof.Gen.InProjIdeal.Frame

@[expose] public section

set_option maxRecDepth 16384

noncomputable section

namespace Cert.Proof.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result arrays at what the projection kernel writes back, and the arguments unchanged. -/
theorem run : θ_run defs (onTc (τ := τ) (main (F := F))) ⟨m, fun _ => 0, ρ⟩ (fun r => ∀ c : Dev nD,
      r.2.mem ((c.tc : Thread nD τ).loc main_v17_0) = (dat1 (V3 m ρ) c).arrAt 8 cfg1.N
      ∧ r.2.mem ((c.tc : Thread nD τ).loc main_v17_1) = (dat1 (V3 m ρ) c).arrAt 9 cfg1.N
      ∧ r.2.mem ((c.tc : Thread nD τ).loc main_v17_2) = (dat1 (V3 m ρ) c).arrAt 10 cfg1.N
      ∧ r.2.mem ((c.tc : Thread nD τ).loc main_v17_3) = (dat1 (V3 m ρ) c).arrAt 11 cfg1.N
      ∧ r.2.mem ((c.tc : Thread nD τ).loc main_v17_4) = (dat1 (V3 m ρ) c).arrAt 12 cfg1.N
      ∧ r.2.mem ((c.tc : Thread nD τ).loc main_v17_5) = (dat1 (V3 m ρ) c).arrAt 13 cfg1.N
      ∧ r.2.mem ((c.tc : Thread nD τ).loc main_v17_6) = (dat1 (V3 m ρ) c).arrAt 14 cfg1.N
      ∧ r.2.mem ((c.tc : Thread nD τ).loc main_v17_7) = (dat1 (V3 m ρ) c).arrAt 15 cfg1.N
      ∧ r.2.mem ((c.tc : Thread nD τ).loc main_v17_8) = (dat1 (V3 m ρ) c).arrAt 16 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v17_0 (by decide))).trans (W4_arr m ρ c 8),
       (h c _ (mem_uc main_v17_1 (by decide))).trans (W4_arr m ρ c 9),
       (h c _ (mem_uc main_v17_2 (by decide))).trans (W4_arr m ρ c 10),
       (h c _ (mem_uc main_v17_3 (by decide))).trans (W4_arr m ρ c 11),
       (h c _ (mem_uc main_v17_4 (by decide))).trans (W4_arr m ρ c 12),
       (h c _ (mem_uc main_v17_5 (by decide))).trans (W4_arr m ρ c 13),
       (h c _ (mem_uc main_v17_6 (by decide))).trans (W4_arr m ρ c 14),
       (h c _ (mem_uc main_v17_7 (by decide))).trans (W4_arr m ρ c 15),
       (h c _ (mem_uc main_v17_8 (by decide))).trans (W4_arr m ρ c 16),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.Proof.InProj

end
-- ==== Proof.InProj.Pack.lean ====
/-
  The packing kernel: where each lane of its result lies among the columns of the weights.
-/
module

public import proofs.«01_k».proof.Proof.InProj.Launch
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.InProj

open Idealize.ShloMosaic Idealize.ShloMosaic.TcCoe
open Cert.InProjIdeal Cert.InProjIdeal.Gen Cert.InProjIdeal.Facts

/-- The column of the weights a packed lane holds; 2608, one past the last, for the lanes of zeros. -/
def col (j : Nat) : Nat :=
  if j < 768 then 1568 + j
  else if j < 800 then j
  else if j < 816 then 1792 + j
  else if j < 896 then 2608
  else if j < 1408 then j - 96
  else if j < 1920 then 1312 + (j - 1408) / 128 * 64 + (j - 1408) % 64
  else if j < 2176 then j - 1920
  else if j < 2432 then j - 1920
  else if j < 2688 then j - 1920
  else j - 352

/-- An entry of a weight row at a column, 0 past the last. -/
def at_col (w : Fin 2608 → EReal) (c : Nat) : EReal := if h : c < 2608 then w ⟨c, h⟩ else 0

theorem col_pad (j : Nat) (h : 816 ≤ j) (h' : j < 896) : col j = 2608 := by
  rw [col, if_neg (by omega), if_neg (by omega), if_neg (by omega), if_pos h']

theorem col_kv (j : Nat) (h : 1408 ≤ j) (h' : j < 1920) : col j = 1312 + (j - 1408) / 128 * 64 + (j - 1408) % 64 := by
  rw [col, if_neg (by omega), if_neg (by omega), if_neg (by omega), if_neg (by omega), if_neg (by omega), if_pos h']

theorem at_col_eq (w : Fin 2608 → EReal) {c n : Nat} (hn : n < 2608) (h : c = n) : w ⟨n, hn⟩ = at_col w c := by
  subst h
  rw [at_col, dif_pos hn]

theorem at_col_pad (w : Fin 2608 → EReal) {c : Nat} (h : c = 2608) : (0 : EReal) = at_col w c := by
  subst h
  rfl

section
variable (w : FVec Ideal S1x256x2608 .f32) (i : Fin 256)

theorem piece_dn (k : Fin 768) : k0_pay11 (F := Ideal) w (ix3 0 i k) = at_col (fun j => w (ix3 0 i j)) (col (0 + k.val)) := by
  pointwise [k0_pay11, k0_pay6]
  exact at_col_eq (fun j => w (ix3 0 i j)) _ (by simp only [col]; split_ifs <;> omega)

theorem piece_small (k : Fin 128) : k0_pay12 (F := Ideal) w (ix3 0 i k) = at_col (fun j => w (ix3 0 i j)) (col (768 + k.val)) := by
  pointwise [k0_pay12, k0_pay6]
  repeat' split
  · exact at_col_eq (fun j => w (ix3 0 i j)) _ (by simp only [col]; split_ifs <;> omega)
  · exact at_col_eq (fun j => w (ix3 0 i j)) _ (by simp only [col]; split_ifs <;> omega)
  · exact at_col_eq (fun j => w (ix3 0 i j)) _ (by simp only [col]; split_ifs <;> omega)
  · exact at_col_pad (fun j => w (ix3 0 i j)) (col_pad _ (by omega) (by omega))

theorem piece_q (k : Fin 512) : k0_pay13 (F := Ideal) w (ix3 0 i k) = at_col (fun j => w (ix3 0 i j)) (col (896 + k.val)) := by
  pointwise [k0_pay13, k0_pay6]
  exact at_col_eq (fun j => w (ix3 0 i j)) _ (by simp only [col]; split_ifs <;> omega)

theorem piece_kv (k : Fin 512) : k0_pay1 (F := Ideal) (k0_pay14 w) (ix3 0 i k) = at_col (fun j => w (ix3 0 i j)) (col (1408 + k.val)) := by
  pointwise [k0_pay1, k0_pay14, k0_pay6]
  split_ifs
  all_goals exact at_col_eq (fun j => w (ix3 0 i j)) _ ((col_kv _ (by omega) (by omega)).trans (by omega))

theorem piece_qk (k : Fin 256) : k0_pay2 (F := Ideal) (k0_pay10 w) (ix3 0 i k) = at_col (fun j => w (ix3 0 i j)) (col (1920 + k.val)) := by
  pointwise [k0_pay2, k0_pay10, k0_pay6]
  repeat' split
  all_goals exact at_col_eq (fun j => w (ix3 0 i j)) _ (by simp only [col]; split_ifs <;> omega)

theorem piece_v (k : Fin 256) : k0_pay3 (F := Ideal) (k0_pay7 w) (ix3 0 i k) = at_col (fun j => w (ix3 0 i j)) (col (2176 + k.val)) := by
  pointwise [k0_pay3, k0_pay7, k0_pay6]
  exact at_col_eq (fun j => w (ix3 0 i j)) _ (by simp only [col]; split_ifs <;> omega)

theorem piece_g (k : Fin 256) : k0_pay4 (F := Ideal) (k0_pay8 w) (ix3 0 i k) = at_col (fun j => w (ix3 0 i j)) (col (2432 + k.val)) := by
  pointwise [k0_pay4, k0_pay8, k0_pay6]
  exact at_col_eq (fun j => w (ix3 0 i j)) _ (by simp only [col]; split_ifs <;> omega)

theorem piece_z (k : Fin 256) : k0_pay5 (F := Ideal) (k0_pay9 w) (ix3 0 i k) = at_col (fun j => w (ix3 0 i j)) (col (2688 + k.val)) := by
  pointwise [k0_pay5, k0_pay9, k0_pay6]
  exact at_col_eq (fun j => w (ix3 0 i j)) _ (by simp only [col]; split_ifs <;> omega)

end

/-- A piece read at an index of the block. -/
theorem piece_at {n : Nat} (p : FVec Ideal ⟨3, ![1, 256, n]⟩ .bf16) (w : FVec Ideal S1x256x2608 .f32) (o : Nat)
    (hp : ∀ (i : Fin 256) (k : Fin n), p (ix3 0 i k) = at_col (fun j => w (ix3 0 i j)) (col (o + k.val)))
    (i : Fin 256) (j : Fin 2944) (z : S1x256x2944.Idx) (hz : (ix3 0 i j : S1x256x2944.Idx) = z) (x : (⟨3, ![1, 256, n]⟩ : Shape).Idx)
    (x0_lt : (x 0).val < 1) (h1 : (z 1).val = (x 1).val) (h2 : (z 2).val = o + (x 2).val) :
    p x = at_col (fun j => w (ix3 0 i j)) (col j.val) := by
  subst hz
  have ex : x = ix3 0 i (x 2) := funext fun a => Fin.ext (by
    match a with
    | ⟨0, _⟩ => show (x 0).val = 0; omega
    | ⟨1, _⟩ => exact h1.symm
    | ⟨2, _⟩ => rfl)
  rw [ex]
  exact (hp i (x 2)).trans (congrArg (fun n => at_col _ (col n)) (show o + (x 2).val = j.val from h2.symm))

variable (V : (c : Dev nD) → (b : Ref sig .tc) → Buf (Elt Ideal) ((c : Thread nD τ).loc b))

theorem pack_block (c : Dev nD) (t : Fin cfg0.N) (i : Fin 256) (j : Fin 2944) :
    (outsAt0 V c t : FVec Ideal S1x256x2944 .bf16) (ix3 0 i j)
      = at_col (fun j => (iblk0 V c 0 t : FVec Ideal S1x256x2608 .f32) (ix3 0 i j)) (col j.val) := by
  generalize hz : (ix3 0 i j : S1x256x2944.Idx) = z
  unfold Gen.outsAt0
  frame_out
  canon_tiles x h using (View.cover_of_tiledBy _ ![1, 256, 128] (by sl_kernel_rfl) z)
  · exact piece_at _ (iblk0 V c 0 t) 2688 (piece_z (iblk0 V c 0 t)) i j z hz x x0_lt h1 h2
  · exact piece_at _ (iblk0 V c 0 t) 2432 (piece_g (iblk0 V c 0 t)) i j z hz x x0_lt h1 h2
  · exact piece_at _ (iblk0 V c 0 t) 2176 (piece_v (iblk0 V c 0 t)) i j z hz x x0_lt h1 h2
  · exact piece_at _ (iblk0 V c 0 t) 1920 (piece_qk (iblk0 V c 0 t)) i j z hz x x0_lt h1 h2
  · exact piece_at _ (iblk0 V c 0 t) 1408 (piece_kv (iblk0 V c 0 t)) i j z hz x x0_lt h1 h2
  · exact piece_at _ (iblk0 V c 0 t) 896 (piece_q (iblk0 V c 0 t)) i j z hz x x0_lt h1 h2
  · exact piece_at _ (iblk0 V c 0 t) 768 (piece_small (iblk0 V c 0 t)) i j z hz x x0_lt h1 h2
  · exact piece_at _ (iblk0 V c 0 t) 0 (piece_dn (iblk0 V c 0 t)) i j z hz x x0_lt h1 (by simpa using h2)

end Cert.Proof.InProj

end
-- ==== Proof.InProj.Reads.lean ====
/-
  What the projection kernel's blocks hold: the tokens' rows, the gain and the packed weights.
-/
module

public import proofs.«01_k».proof.Proof.InProj.Pack
public import proofs.«01_k».proof.Proof.OutMlp.Spec
public import Idealize.ShloMosaic.Lib.IdealHost
public import Idealize.ShloMosaic.Lib.Claim

@[expose] public section

set_option maxRecDepth 16384

noncomputable section

namespace Cert.Proof.InProj

open Idealize.ShloMosaic Idealize.ShloMosaic.TcCoe
open Idealize.ShloMosaic.Pipeline (Dat)
open Cert.InProjIdeal Cert.InProjIdeal.Gen Cert.InProjIdeal.Facts

/-- Where the packing kernel's blocks lie. -/
theorem idx_pack : ∀ t : Fin cfg0.N, win0_0.index t = ![t.val / 4, t.val % 4, 0] ∧ win0_1.index t = ![t.val / 4, t.val % 4, 0] :=
  (by decide +kernel : ∀ t : Fin grid0.N, _)

/-- Where the projection kernel's blocks lie. -/
theorem idx_proj : ∀ t : Fin cfg1.N, win1_0.index t = ![t.val * 128 - 1, 0] ∧ win1_1.index t = ![t.val, 0] ∧ win1_2.index t = ![min ((t.val + 1) * 128) 2047, 0]
    ∧ win1_3.index t = ![0, 0] ∧ win1_4.index t = ![3, 0, 0] ∧ win1_5.index t = ![0, 0] ∧ win1_6.index t = ![0, 0] ∧ win1_7.index t = ![0, 0]
    ∧ win1_8.index t = ![t.val, 0] ∧ win1_9.index t = ![t.val, 0] ∧ win1_10.index t = ![t.val, 0] ∧ win1_11.index t = ![t.val, 0] ∧ win1_12.index t = ![t.val, 0]
    ∧ win1_13.index t = ![t.val, 0] ∧ win1_14.index t = ![t.val, 0] ∧ win1_15.index t = ![t.val, 0] ∧ win1_16.index t = ![t.val, 0] :=
  (by decide +kernel : ∀ t : Fin grid1.N, _)

/-- The half of the sequence that a point takes. -/
theorem half_of : ∀ t : Fin cfg1.N, (grid1.coords t 0).val % 2 = t.val % 2 :=
  (by decide +kernel : ∀ t : Fin grid1.N, _)

/-- There are 16 grid points. -/
theorem point_lt (t : Fin cfg1.N) : t.val < 16 := t.isLt
theorem point_lt0 (t : Fin cfg0.N) : t.val < 16 := t.isLt

section
variable (V : (c : Dev nD) → (b : Ref sig .tc) → Buf (Elt Ideal) ((c : Thread nD τ).loc b)) (c : Dev nD)

theorem source_row (t : Fin cfg0.N) (i : Fin 256) (j : Fin 2608) : (show FVec Ideal S1x256x2608 .f32 from iblk0 V c 0 t) (ix3 0 i j)
    = (show FVec Ideal S4x1024x2608 .f32 from V c main_arg2) (ix3 ⟨t.val / 4, by have := point_lt0 t; omega⟩ ⟨t.val % 4 * 256 + i.val, by omega⟩ j) := by
  have := point_lt0 t
  blk_point [iblk0, idx_pack t]

theorem prev_row (t : Fin cfg1.N) (r : Fin 8) (x : Fin 1024) : (show FVec Ideal S8x1024 .f32 from iblk1 V c 0 t) (ix2 r x)
    = (show FVec Ideal S16384x1024 .f32 from V c main_v0) (ix2 ⟨(t.val * 128 - 1) * 8 + r.val, by have := point_lt t; omega⟩ x) := by
  have := point_lt t
  blk_point [iblk1, idx_proj t]

theorem own_row (t : Fin cfg1.N) (r : Fin 1024) (x : Fin 1024) : (show FVec Ideal S1024x1024 .f32 from iblk1 V c 1 t) (ix2 r x)
    = (show FVec Ideal S16384x1024 .f32 from V c main_v0) (ix2 ⟨t.val * 1024 + r.val, by have := point_lt t; omega⟩ x) := by
  have := point_lt t
  blk_point [iblk1, idx_proj t]

theorem next_row (t : Fin cfg1.N) (r : Fin 8) (x : Fin 1024) : (show FVec Ideal S8x1024 .f32 from iblk1 V c 2 t) (ix2 r x)
    = (show FVec Ideal S16384x1024 .f32 from V c main_v0) (ix2 ⟨min ((t.val + 1) * 128) 2047 * 8 + r.val, by have := point_lt t; omega⟩ x) := by
  have := point_lt t
  blk_point [iblk1, idx_proj t]

theorem gain_row (t : Fin cfg1.N) (x : Fin 1024) : (show FVec Ideal S1x1024 .f32 from iblk1 V c 3 t) (ix2 0 x)
    = (show FVec Ideal S1x1024 .f32 from V c main_v2) (ix2 0 x) := by
  have := point_lt t
  blk_point [iblk1, idx_proj t]

theorem weight_row (t : Fin cfg1.N) (k : Fin 1024) (j : Fin 2944) : (show FVec Ideal S1x1024x2944 .bf16 from iblk1 V c 4 t) (ix3 0 k j)
    = (show FVec Ideal S4x1024x2944 .bf16 from V c main_v1) (ix3 3 k j) := by
  have := point_lt t
  blk_point [iblk1, idx_proj t]

theorem conv_row (t : Fin cfg1.N) (k : Fin 5) (j : Fin 768) : (show FVec Ideal S5x768 .f32 from iblk1 V c 5 t) (ix2 k j)
    = (show FVec Ideal S5x768 .f32 from V c main_arg3) (ix2 k j) := by
  have := point_lt t
  blk_point [iblk1, idx_proj t]

theorem decay_row (t : Fin cfg1.N) (j : Fin 128) : (show FVec Ideal S1x128 .f32 from iblk1 V c 6 t) (ix2 0 j)
    = (show FVec Ideal S1x128 .f32 from V c main_v10) (ix2 0 j) := by
  have := point_lt t
  blk_point [iblk1, idx_proj t]

theorem shift_row (t : Fin cfg1.N) (j : Fin 128) : (show FVec Ideal S1x128 .f32 from iblk1 V c 7 t) (ix2 0 j)
    = (show FVec Ideal S1x128 .f32 from V c main_v16) (ix2 0 j) := by
  have := point_lt t
  blk_point [iblk1, idx_proj t]

end

variable (m : (ℓ : Loc nD τ sig) → Buf (Elt Ideal) ℓ) (ρ : Dev nD → PrngReg) (c : Dev nD)

/-- The tokens. -/
abbrev argX := (show FVec Ideal S8x2048x1024 .f32 from m ((c : Thread nD τ).loc main_arg0))
/-- The gain of the norm. -/
abbrev argG := (show FVec Ideal S1024 .f32 from m ((c : Thread nD τ).loc main_arg1))
/-- The projection's weights. -/
abbrev argW := (show FVec Ideal S4x1024x2608 .f32 from m ((c : Thread nD τ).loc main_arg2))
/-- The convolution's weights. -/
abbrev argC := (show FVec Ideal S5x768 .f32 from m ((c : Thread nD τ).loc main_arg3))
/-- The logarithms of the decay rates. -/
abbrev argA := (show FVec Ideal S2x4 .f32 from m ((c : Thread nD τ).loc main_arg4))
/-- The shifts of the decays. -/
abbrev argB := (show FVec Ideal S2x4 .f32 from m ((c : Thread nD τ).loc main_arg5))

theorem tokens_host (n : Fin 16384) (x : Fin 1024) : (show FVec Ideal S16384x1024 .f32 from V3 m ρ c main_v0) (ix2 n x)
    = argX m c (ix3 ⟨n.val / 2048, by omega⟩ ⟨n.val % 2048, by omega⟩ x) := by
  refine (congrFun ((W3_of m ρ c main_v0 (by decide)).trans (W2_of m ρ c main_v0 (by decide))) (ix2 n x)).trans ?_
  unfold W1 W0
  entry_read
  pointwise []

theorem gain_host (x : Fin 1024) : (show FVec Ideal S1x1024 .f32 from V3 m ρ c main_v2) (ix2 0 x) = argG m c (ix1 x) := by
  have e : (show FVec Ideal S1024 .f32 from W2 m ρ c (Proc.devRef .tc main_arg1)) = argG m c :=
    W2_args m ρ c main_arg1 (by decide)
  rw [← e]
  show W3 m ρ c (Proc.devRef .tc main_v2) (ix2 0 x) = _
  unfold W3
  entry_read
  pointwise []

theorem conv_host (k : Fin 5) (j : Fin 768) : (show FVec Ideal S5x768 .f32 from V3 m ρ c main_arg3) (ix2 k j) = argC m c (ix2 k j) :=
  congrFun (W3_args m ρ c main_arg3 (by decide)) (ix2 k j)

/-- The packed weights: each lane the column it was taken from. -/
def packed : FVec Ideal S4x1024x2944 .bf16 := fun z => at_col (fun q => argW m c (ix3 (z 0) (z 1) q)) (col (z 2).val)

theorem packed_host (l : Fin 4) (k : Fin 1024) (j : Fin 2944) : (show FVec Ideal S4x1024x2944 .bf16 from V3 m ρ c main_v1) (ix3 l k j)
    = at_col (fun q => argW m c (ix3 l k q)) (col j.val) := by
  have e : (show FVec Ideal S4x1024x2944 .bf16 from V3 m ρ c main_v1)
      = packed m c := by
    refine (W3_of m ρ c main_v1 (by decide)).trans ((W2_arr m ρ c 1).trans ?_)
    refine (dat0 (V1 m ρ) c).arrAt_eq_of_covers 1 _ (by decide +kernel) fun t _ y => ?_
    blk_simp
    rw [after0_1]
    idx_vars y
    have h0 : y0 = 0 := Fin.ext (by have := y0.isLt; show y0.val = 0; omega)
    subst h0
    refine (pack_block (V1 m ρ) c t y1 y2).trans ?_
    have := point_lt0 t
    have ew : ∀ q, (show FVec Ideal S1x256x2608 .f32 from iblk0 (V1 m ρ) c 0 t) (ix3 0 y1 q)
        = argW m c (ix3 ⟨t.val / 4, by omega⟩ ⟨t.val % 4 * 256 + y1.val, by omega⟩ q) := fun q =>
      (source_row (V1 m ρ) c t y1 q).trans (congrFun (W1_args m ρ c main_arg2 (by decide)) _)
    refine (congrArg (at_col · (col y2.val)) (funext ew)).trans ?_
    refine (show _ = packed m c (ix3 ⟨t.val / 4, by omega⟩ ⟨t.val % 4 * 256 + y1.val, by omega⟩ y2) from rfl).trans (congrArg (packed m c) ?_)
    blk_ext [idx_pack t]
  exact congrFun e (ix3 l k j)

end Cert.Proof.InProj

end
-- ==== Proof.InProj.Block.lean ====
/-
  The plain results of the projection kernel's blocks: each lane is the product of the token's normed row with the packed
  weights' column for that lane.
-/
module

public import proofs.«01_k».proof.Proof.InProj.Reads
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.InProj

open Idealize.ShloMosaic Idealize.ShloMosaic.TcCoe
open Cert.InProjIdeal Cert.InProjIdeal.Gen Cert.InProjIdeal.Facts
open Cert.Proof.OutMlp (rms width eps)

/-! ## The normed rows -/

section
variable (x0 : FVec Ideal S8x1024 .f32) (x1 : FVec Ideal S1024x1024 .f32) (x2 : FVec Ideal S8x1024 .f32) (g : FVec Ideal S1x1024 .f32)

theorem square_sum (r : Fin 1040) : k1_pay4 (F := Ideal) x0 x1 x2 (ix2 r 0)
    = ∑ k : Fin 1024, k1_pay2 (F := Ideal) x0 x1 x2 (ix2 r k) * k1_pay2 (F := Ideal) x0 x1 x2 (ix2 r k) := by
  pointwise [k1_pay4]

theorem norm_at (v28 : FVec Ideal S1040x1024 .f32) (v33 : FVec Ideal S1040x1 .f32) (r : Fin 1040) (k : Fin 1024) :
    k1_pay6 (F := Ideal) v28 (k1_pay3 (F := Ideal) g) v33 (k1_pay5 (F := Ideal)) (ix2 r k)
      = v28 (ix2 r k) * Ideal.rsqrt (Ideal.div (v33 (ix2 r 0)) width + eps) * g (ix2 0 k) := by
  pointwise [k1_pay6, k1_pay3, k1_pay5, width, eps]

/-- The normed rows of a block with its two neighbours' edges. -/
abbrev normed : FVec Ideal S1040x1024 .f32 :=
  k1_pay6 (F := Ideal) (k1_pay2 (F := Ideal) x0 x1 x2) (k1_pay3 (F := Ideal) g) (k1_pay4 (F := Ideal) x0 x1 x2) (k1_pay5 (F := Ideal))

theorem normed_at (r : Fin 1040) (k : Fin 1024) :
    normed x0 x1 x2 g (ix2 r k) = rms (fun k => k1_pay2 (F := Ideal) x0 x1 x2 (ix2 r k)) (fun k => g (ix2 0 k)) k := by
  refine (norm_at g _ _ r k).trans ?_
  rw [square_sum]
  rfl

theorem rows_prev (r : Fin 1040) (k : Fin 1024) (h : r.val < 8) :
    k1_pay2 (F := Ideal) x0 x1 x2 (ix2 r k) = x0 (ix2 ⟨r.val, h⟩ k) := by
  pointwise [k1_pay2]
  rw [dif_pos h]

theorem rows_own (r : Fin 1040) (k : Fin 1024) (h : ¬ r.val < 8) (h' : r.val < 1032) :
    k1_pay2 (F := Ideal) x0 x1 x2 (ix2 r k) = x1 (ix2 ⟨r.val - 8, by omega⟩ k) := by
  pointwise [k1_pay2]
  rw [dif_neg h, dif_pos (by omega)]

theorem rows_next (r : Fin 1040) (k : Fin 1024) (h : ¬ r.val < 1032) :
    k1_pay2 (F := Ideal) x0 x1 x2 (ix2 r k) = x2 (ix2 ⟨r.val - 1032, by omega⟩ k) := by
  pointwise [k1_pay2]
  rw [dif_neg (by omega), dif_neg (by omega)]
  first | rfl | (refine congrArg x2 ?_; refine congrArg (ix2 · k) (Fin.ext ?_); dsimp only; omega)

theorem tile_at (v28 : FVec Ideal S1040x1024 .f32) (v30 : FVec Ideal S1x1024 .f32) (v33 v34 : FVec Ideal S1040x1 .f32) (r k : Fin 1024) :
    k1_pay7 (F := Ideal) v28 v30 v33 v34 (ix2 r k) = k1_pay6 (F := Ideal) v28 v30 v33 v34 (ix2 ⟨8 + r.val, by omega⟩ k) := by
  pointwise [k1_pay7]

end

/-! ## The products -/

/-- A slice of the weights along their lanes. -/
theorem weight_read (n : Nat) (w : FVec Ideal S1x1024x2944 .bf16) (o : Nat) (s : Shape) (hs : s = ⟨3, ![1, 1024, n]⟩)
    (h : ∀ a, (![0, 0, o] : Fin 3 → Nat) a + (![1, 1024, n] : Fin 3 → Nat) a ≤ S1x1024x2944.size a)
    (k : Fin 1024) (j : Fin n) (y : Fin 2944) (hy : y.val = o + j.val) :
    (View.ld (Val := Elt Ideal) (e' := .bf16) w (Rect.unit (s := S1x1024x2944) ![0, 0, o] ![1, 1024, n] h)) (ix3 0 k j) = w (ix3 0 k y) := by
  refine congrArg w (funext fun a => Fin.ext ?_)
  match a with
  | ⟨0, _⟩ => rfl
  | ⟨1, _⟩ => show 0 + 1 * k.val = k.val; omega
  | ⟨2, _⟩ => show o + 1 * j.val = y.val; omega

section
variable (h : FVec Ideal S1024x1024 .bf16) (w : FVec Ideal S1x1024x1024 .bf16)

theorem dot_q (r : Fin 1024) (j : Fin 512) :
    k1_pay17 (F := Ideal) h (k1_pay15 (F := Ideal) w) (constant S1024x1024 .f32 0x00000000#32) (ix2 r j)
      = ∑ k : Fin 1024, h (ix2 r k) * w (ix3 0 k ⟨j.val, by omega⟩) := by
  pointwise [k1_pay17, k1_pay16, k1_pay15]

theorem dot_kv (r : Fin 1024) (j : Fin 512) :
    k1_pay18 (F := Ideal) h (k1_pay15 (F := Ideal) w) (constant S1024x1024 .f32 0x00000000#32) (ix2 r j)
      = ∑ k : Fin 1024, h (ix2 r k) * w (ix3 0 k ⟨512 + j.val, by omega⟩) := by
  pointwise [k1_pay18, k1_pay16, k1_pay15]

theorem dot_qk (r : Fin 1024) (j : Fin 256) :
    k1_pay26 (F := Ideal) h w (ix2 r j) = ∑ k : Fin 1024, h (ix2 r k) * w (ix3 0 k ⟨j.val, by omega⟩) := by
  pointwise [k1_pay26, k1_pay25]

theorem dot_v (r : Fin 1024) (j : Fin 256) :
    k1_pay27 (F := Ideal) h w (ix2 r j) = ∑ k : Fin 1024, h (ix2 r k) * w (ix3 0 k ⟨256 + j.val, by omega⟩) := by
  pointwise [k1_pay27, k1_pay25]

theorem dot_g (r : Fin 1024) (j : Fin 256) :
    k1_pay28 (F := Ideal) (k1_pay25 (F := Ideal) h w) (ix2 r j) = ∑ k : Fin 1024, h (ix2 r k) * w (ix3 0 k ⟨512 + j.val, by omega⟩) := by
  pointwise [k1_pay28, k1_pay25]

theorem dot_z (r : Fin 1024) (j : Fin 256) :
    k1_pay29 (F := Ideal) (k1_pay25 (F := Ideal) h w) (ix2 r j) = ∑ k : Fin 1024, h (ix2 r k) * w (ix3 0 k ⟨768 + j.val, by omega⟩) := by
  pointwise [k1_pay29, k1_pay25]

end

theorem dot_lead (v28 : FVec Ideal S1040x1024 .f32) (v30 : FVec Ideal S1x1024 .f32) (v33 v34 : FVec Ideal S1040x1 .f32)
    (w : FVec Ideal S1x1024x896 .bf16) (r : Fin 1040) (j : Fin 896) :
    k1_pay8 (F := Ideal) v28 v30 v33 v34 w (ix2 r j) = ∑ k : Fin 1024, k1_pay6 (F := Ideal) v28 v30 v33 v34 (ix2 r k) * w (ix3 0 k j) := by
  pointwise [k1_pay8]

theorem small_at (v48 : FVec Ideal S1040x896 .f32) (r : Fin 1024) (j : Fin 128) :
    k1_pay36 (F := Ideal) v48 (ix2 r j) = v48 (ix2 ⟨8 + r.val, by omega⟩ ⟨768 + j.val, by omega⟩) := by
  pointwise [k1_pay36]

/-! ## The tokens' projections -/

section
variable (m : (ℓ : Loc nD τ sig) → Buf (Elt Ideal) ℓ) (ρ : Dev nD → PrngReg) (c : Dev nD)

/-- Token `n`'s row. -/
abbrev token (n : Fin 16384) : Fin 1024 → EReal := fun k => argX m c (ix3 ⟨n.val / 2048, by omega⟩ ⟨n.val % 2048, by omega⟩ k)

/-- Token `n`'s normed row times column `q` of the weights; column 2608 is zero. -/
def proj (n : Fin 16384) (q : Nat) : EReal :=
  ∑ k : Fin 1024, rms (token m c n) (fun k => argG m c (ix1 k)) k * at_col (fun q => argW m c (ix3 3 k q)) q

/-- The normed rows at a point. -/
abbrev normedAt (t : Fin cfg1.N) : FVec Ideal S1040x1024 .f32 :=
  normed (iblk1 (V3 m ρ) c 0 t) (iblk1 (V3 m ρ) c 1 t) (iblk1 (V3 m ρ) c 2 t) (iblk1 (V3 m ρ) c 3 t)

theorem gain_at (t : Fin cfg1.N) : (fun k : Fin 1024 => (iblk1 (V3 m ρ) c 3 t : FVec Ideal S1x1024 .f32) (ix2 0 k)) = fun k => argG m c (ix1 k) :=
  funext fun k => (gain_row (V3 m ρ) c t k).trans (gain_host m ρ c k)

/-- The projection at a lane, for a row that holds token `n`'s. -/
theorem proj_of (t : Fin cfg1.N) (r : Fin 1040) (n : Fin 16384) (w : Fin 1024 → EReal) (y : Fin 2944)
    (hr : ∀ k, k1_pay2 (F := Ideal) (iblk1 (V3 m ρ) c 0 t) (iblk1 (V3 m ρ) c 1 t) (iblk1 (V3 m ρ) c 2 t) (ix2 r k) = token m c n k)
    (hw : ∀ k, w k = (iblk1 (V3 m ρ) c 4 t : FVec Ideal S1x1024x2944 .bf16) (ix3 0 k y)) :
    (∑ k : Fin 1024, normedAt m ρ c t (ix2 r k) * w k) = proj m c n (col y.val) := by
  refine Finset.sum_congr rfl fun k _ => congrArg₂ (· * ·) ?_ ?_
  · refine (normed_at _ _ _ _ r k).trans ?_
    rw [gain_at m ρ c t]
    exact congrArg (rms · _ k) (funext hr)
  · exact (hw k).trans ((weight_row (V3 m ρ) c t k y).trans (packed_host m ρ c 3 k y))

/-- The token of a point's row. -/
abbrev tokenOf (t : Fin cfg1.N) (r : Fin 1024) : Fin 16384 := ⟨t.val * 1024 + r.val, by have := point_lt t; omega⟩

theorem own_token (t : Fin cfg1.N) (r : Fin 1024) (k : Fin 1024) :
    k1_pay2 (F := Ideal) (iblk1 (V3 m ρ) c 0 t) (iblk1 (V3 m ρ) c 1 t) (iblk1 (V3 m ρ) c 2 t) (ix2 ⟨8 + r.val, by omega⟩ k) = token m c (tokenOf t r) k := by
  refine (rows_own _ _ _ _ k (by show ¬ 8 + r.val < 8; omega) (by show 8 + r.val < 1032; omega)).trans ?_
  refine (congrArg _ (congrArg (ix2 · k) (Fin.ext (by show 8 + r.val - 8 = r.val; omega)))).trans ?_
  exact (own_row (V3 m ρ) c t r k).trans (tokens_host m ρ c _ k)

theorem block_small (t : Fin cfg1.N) (r : Fin 1024) (j : Fin 128) :
    ((outsAt1 (V3 m ρ) c t).2.1 : FVec Ideal S1024x128 .f32) (ix2 r j) = proj m c (tokenOf t r) (col (768 + j.val)) := by
  unfold Gen.outsAt1
  frame_out
  refine (small_at _ r j).trans ((dot_lead _ _ _ _ _ _ _).trans ?_)
  exact proj_of m ρ c t _ _ _ ⟨768 + j.val, by omega⟩ (own_token m ρ c t r) fun k => weight_read 896 _ 0 _ rfl _ k _ _ (Nat.zero_add _).symm

theorem block_q (t : Fin cfg1.N) (r : Fin 1024) (j : Fin 512) :
    ((outsAt1 (V3 m ρ) c t).2.2.1 : FVec Ideal S1024x512 .bf16) (ix2 r j) = proj m c (tokenOf t r) (col (896 + j.val)) := by
  unfold Gen.outsAt1
  frame_out
  refine (dot_q _ _ r j).trans ?_
  simp only [tile_at]
  exact proj_of m ρ c t _ _ _ ⟨896 + j.val, by omega⟩ (own_token m ρ c t r) fun k => weight_read 1024 _ 896 _ rfl _ k _ _ rfl

theorem block_kv (t : Fin cfg1.N) (r : Fin 1024) (j : Fin 512) :
    ((outsAt1 (V3 m ρ) c t).2.2.2.1 : FVec Ideal S1024x512 .bf16) (ix2 r j) = proj m c (tokenOf t r) (col (1408 + j.val)) := by
  unfold Gen.outsAt1
  frame_out
  refine (dot_kv _ _ r j).trans ?_
  simp only [tile_at]
  exact proj_of m ρ c t _ _ _ ⟨1408 + j.val, by omega⟩ (own_token m ρ c t r) fun k => weight_read 1024 _ 896 _ rfl _ k _ _ (by show 1408 + j.val = 896 + (512 + j.val); omega)

theorem block_qk (t : Fin cfg1.N) (r : Fin 1024) (j : Fin 256) :
    ((outsAt1 (V3 m ρ) c t).2.2.2.2.1 : FVec Ideal S1024x256 .f32) (ix2 r j) = proj m c (tokenOf t r) (col (1920 + j.val)) := by
  unfold Gen.outsAt1
  frame_out
  refine (dot_qk _ _ r j).trans ?_
  simp only [tile_at]
  exact proj_of m ρ c t _ _ _ ⟨1920 + j.val, by omega⟩ (own_token m ρ c t r) fun k => weight_read 1024 _ 1920 _ rfl _ k _ _ rfl

theorem block_v (t : Fin cfg1.N) (r : Fin 1024) (j : Fin 256) :
    ((outsAt1 (V3 m ρ) c t).2.2.2.2.2.1 : FVec Ideal S1024x256 .f32) (ix2 r j) = proj m c (tokenOf t r) (col (2176 + j.val)) := by
  unfold Gen.outsAt1
  frame_out
  refine (dot_v _ _ r j).trans ?_
  simp only [tile_at]
  exact proj_of m ρ c t _ _ _ ⟨2176 + j.val, by omega⟩ (own_token m ρ c t r) fun k => weight_read 1024 _ 1920 _ rfl _ k _ _ (by show 2176 + j.val = 1920 + (256 + j.val); omega)

theorem block_g (t : Fin cfg1.N) (r : Fin 1024) (j : Fin 256) :
    ((outsAt1 (V3 m ρ) c t).2.2.2.2.2.2.1 : FVec Ideal S1024x256 .f32) (ix2 r j) = proj m c (tokenOf t r) (col (2432 + j.val)) := by
  unfold Gen.outsAt1
  frame_out
  refine (dot_g _ _ r j).trans ?_
  simp only [tile_at]
  exact proj_of m ρ c t _ _ _ ⟨2432 + j.val, by omega⟩ (own_token m ρ c t r) fun k => weight_read 1024 _ 1920 _ rfl _ k _ _ (by show 2432 + j.val = 1920 + (512 + j.val); omega)

theorem block_z (t : Fin cfg1.N) (r : Fin 1024) (j : Fin 256) :
    ((outsAt1 (V3 m ρ) c t).2.2.2.2.2.2.2.1 : FVec Ideal S1024x256 .f32) (ix2 r j) = proj m c (tokenOf t r) (col (2688 + j.val)) := by
  unfold Gen.outsAt1
  frame_out
  refine (dot_z _ _ r j).trans ?_
  simp only [tile_at]
  exact proj_of m ρ c t _ _ _ ⟨2688 + j.val, by omega⟩ (own_token m ρ c t r) fun k => weight_read 1024 _ 1920 _ rfl _ k _ _ (by show 2688 + j.val = 1920 + (768 + j.val); omega)

end

end Cert.Proof.InProj

end
-- ==== Proof.InProj.Ref.lean ====
/-
  The reference's projection and its plain results, read at a token and a lane.
-/
module

public import proofs.«01_k».proof.Proof.InProj.Pack
public import proofs.«01_k».proof.Proof.OutMlp.Spec
public import proofs.«01_k».proof.Proof.Gen.InProjRefIdeal.Read

@[expose] public section

set_option maxRecDepth 16384

noncomputable section

namespace Cert.Proof.InProj

open Idealize.ShloMosaic Idealize.ShloMosaic.TcCoe
open Cert.InProjRefIdeal Cert.InProjRefIdeal.Gen Cert.InProjRefIdeal.Read
open Cert.Proof.OutMlp (rms width eps)

theorem col_rank (j : Nat) (h : 768 ≤ j) (h' : j < 800) : col j = j := by
  rw [col, if_neg (by omega), if_pos h']

theorem col_gates (j : Nat) (h : 800 ≤ j) (h' : j < 816) : col j = 1792 + j := by
  rw [col, if_neg (by omega), if_neg (by omega), if_pos h']

variable (x0 : FVec Ideal S8x2048x1024 .f32) (x1 : FVec Ideal S1024 .f32) (x2 : FVec Ideal S4x1024x2608 .f32)

/-- The normed row of the token at place `s` of sequence `b` times column `q` of the weights; column 2608 is zero. -/
def projAt (b : Fin 8) (s : Fin 2048) (q : Nat) : EReal :=
  ∑ k : Fin 1024, rms (fun k => x0 (ix3 b s k)) (fun k => x1 (ix1 k)) k * at_col (fun q => x2 (ix3 3 k q)) q

theorem projAt_pad (b : Fin 8) (s : Fin 2048) : projAt x0 x1 x2 b s 2608 = 0 :=
  (Finset.sum_congr rfl fun k _ => (congrArg (_ * ·) (at_col_pad _ rfl).symm).trans (mul_zero _)).trans Finset.sum_const_zero

theorem ref_norm (b : Fin 8) (s : Fin 2048) (k : Fin 1024) :
    (val_main_v12 (F := Ideal) x0 x1 : FVec Ideal S8x2048x1024 .f32) (ix3 b s k) = rms (fun k => x0 (ix3 b s k)) (fun k => x1 (ix1 k)) k := by
  pointwise [val_main_v0, val_main_cst, val_main_v1, val_main_v2, val_main_cst_0, val_main_v3, val_main_v4, val_main_cst_1, val_main_v5,
    val_main_v6, val_main_v7, val_main_v8, val_main_v9, val_main_v10, val_main_v11, val_main_v12]
  rfl

theorem ref_proj (b : Fin 8) (s : Fin 2048) (q : Fin 2608) :
    (val_main_v15 (F := Ideal) x0 x1 x2 : FVec Ideal S8x2048x2608 .f32) (ix3 b s q) = projAt x0 x1 x2 b s q.val := by
  have h : (val_main_v15 (F := Ideal) x0 x1 x2 : FVec Ideal S8x2048x2608 .f32) (ix3 b s q)
      = ∑ k : Fin 1024, (val_main_v12 (F := Ideal) x0 x1 : FVec Ideal S8x2048x1024 .f32) (ix3 b s k) * x2 (ix3 3 k q) := by
    pointwise [val_main_v15, val_main_v14, val_main_v13]
  rw [h]
  refine Finset.sum_congr rfl fun k _ => congrArg₂ (· * ·) (ref_norm x0 x1 b s k) ?_
  exact at_col_eq (fun q => x2 (ix3 3 k q)) q.isLt rfl

section
variable (n : Fin 16384)

/-- The reference's projection as an entry at a lane. -/
theorem ref_at (q : Fin 2608) (p : Nat) (h : q.val = p) :
    (val_main_v15 (F := Ideal) x0 x1 x2 : FVec Ideal S8x2048x2608 .f32) (ix3 ⟨n.val / 2048, by omega⟩ ⟨n.val % 2048, by omega⟩ q)
      = projAt x0 x1 x2 ⟨n.val / 2048, by omega⟩ ⟨n.val % 2048, by omega⟩ p := h ▸ ref_proj x0 x1 x2 _ _ q

theorem ref_q (j : Fin 512) : (val_main_v32 (F := Ideal) x0 x1 x2 : FVec Ideal S16384x512 .bf16) (ix2 n j)
    = projAt x0 x1 x2 ⟨n.val / 2048, by omega⟩ ⟨n.val % 2048, by omega⟩ (col (896 + j.val)) := by
  pointwise [val_main_v32, val_main_v31, val_main_v21]
  refine ref_at x0 x1 x2 n _ _ (Eq.symm ?_)
  simp only [col]
  split_ifs <;> omega

theorem ref_v (j : Fin 256) : (val_main_v46 (F := Ideal) x0 x1 x2 : FVec Ideal S16384x256 .f32) (ix2 n j)
    = projAt x0 x1 x2 ⟨n.val / 2048, by omega⟩ ⟨n.val % 2048, by omega⟩ (col (2176 + j.val)) := by
  pointwise [val_main_v46, val_main_v18]
  refine ref_at x0 x1 x2 n _ _ (Eq.symm ?_)
  simp only [col]
  split_ifs <;> omega

theorem ref_g (j : Fin 256) : (val_main_v47 (F := Ideal) x0 x1 x2 : FVec Ideal S16384x256 .f32) (ix2 n j)
    = projAt x0 x1 x2 ⟨n.val / 2048, by omega⟩ ⟨n.val % 2048, by omega⟩ (col (2432 + j.val)) := by
  pointwise [val_main_v47, val_main_v19]
  refine ref_at x0 x1 x2 n _ _ (Eq.symm ?_)
  simp only [col]
  split_ifs <;> omega

theorem ref_z (j : Fin 256) : (val_main_v48 (F := Ideal) x0 x1 x2 : FVec Ideal S16384x256 .f32) (ix2 n j)
    = projAt x0 x1 x2 ⟨n.val / 2048, by omega⟩ ⟨n.val % 2048, by omega⟩ (col (2688 + j.val)) := by
  pointwise [val_main_v48, val_main_v25]
  refine ref_at x0 x1 x2 n _ _ (Eq.symm ?_)
  simp only [col]
  split_ifs <;> omega

theorem ref_qk (j : Fin 256) : (val_main_v45 (F := Ideal) x0 x1 x2 : FVec Ideal S16384x256 .f32) (ix2 n j)
    = projAt x0 x1 x2 ⟨n.val / 2048, by omega⟩ ⟨n.val % 2048, by omega⟩ (col (1920 + j.val)) := by
  pointwise [val_main_v45, val_main_v44, val_main_v17, val_main_v16]
  split_ifs
  all_goals refine ref_at x0 x1 x2 n _ _ (Eq.symm ?_)
  all_goals
    simp only [col]
    split_ifs <;> omega

theorem ref_kv (j : Fin 512) : (val_main_v43 (F := Ideal) x0 x1 x2 : FVec Ideal S16384x512 .bf16) (ix2 n j)
    = projAt x0 x1 x2 ⟨n.val / 2048, by omega⟩ ⟨n.val % 2048, by omega⟩ (col (1408 + j.val)) := by
  pointwise [val_main_v43, val_main_v42, val_main_v41, val_main_v40, val_main_v39, val_main_v38, val_main_v37, val_main_v36, val_main_v35,
    val_main_v34, val_main_v33, val_main_v22, val_main_v23]
  split_ifs
  all_goals exact ref_at x0 x1 x2 n _ _ (Eq.symm ((col_kv _ (by omega) (by omega)).trans (by dsimp only; omega)))

theorem ref_small (j : Fin 128) : (val_main_v30 (F := Ideal) x0 x1 x2 : FVec Ideal S16384x128 .f32) (ix2 n j)
    = projAt x0 x1 x2 ⟨n.val / 2048, by omega⟩ ⟨n.val % 2048, by omega⟩ (col (768 + j.val)) := by
  pointwise [val_main_v30, val_main_v29, val_main_v28, val_main_v27, val_main_v26, val_main_v20, val_main_call0_v0, val_main_c]
  by_cases h1 : j.val < 48
  · rw [dif_pos h1]
    by_cases h2 : j.val < 32
    · rw [dif_pos h2]
      exact ref_at x0 x1 x2 n _ _ (col_rank (768 + j.val) (by omega) (by omega)).symm
    · rw [dif_neg h2]
      by_cases h3 : j.val - 32 < 8
      · rw [dif_pos h3]
        exact ref_at x0 x1 x2 n _ _ (Eq.symm ((col_gates _ (by omega) (by omega)).trans (by dsimp only; omega)))
      · rw [dif_neg h3]
        exact ref_at x0 x1 x2 n _ _ (Eq.symm ((col_gates _ (by omega) (by omega)).trans (by dsimp only; omega)))
  · rw [dif_neg h1]
    exact (by simp [FloatOps.sitofp] : (FloatOps.sitofp (F := Ideal) FTy.f32 0#32 : EReal) = 0).trans ((projAt_pad x0 x1 x2 _ _).symm.trans
      (congrArg (projAt x0 x1 x2 _ _) (col_pad _ (by omega) (by omega)).symm))

end

end Cert.Proof.InProj

end
-- ==== Proof.InProj.Value.lean ====
/-
  The plain results of the input projection: what the kernel leaves in each, and that the reference's is the same.
-/
module

public import proofs.«01_k».proof.Proof.InProj.Block
public import proofs.«01_k».proof.Proof.InProj.Ref

@[expose] public section

set_option maxRecDepth 16384

noncomputable section

namespace Cert.Proof.InProj

open Idealize.ShloMosaic Idealize.ShloMosaic.TcCoe
open Idealize.ShloMosaic.Pipeline (Dat)
open Cert.InProjIdeal Cert.InProjIdeal.Gen Cert.InProjIdeal.Facts

variable (m : (ℓ : Loc nD τ sig) → Buf (Elt Ideal) ℓ) (ρ : Dev nD → PrngReg) (c : Dev nD)

/-- The result with the gates' raw lanes. -/
def res_small : FVec Ideal S16384x128 .f32 := fun z => proj m c (z 0) (col (768 + (z 1).val))

theorem final_small : (dat1 (V3 m ρ) c).arrAt 9 cfg1.N = res_small m c := by
  refine (dat1 (V3 m ρ) c).arrAt_eq_of_covers 9 _ (by decide +kernel) fun t _ y => ?_
  blk_simp
  rw [after1_9]
  idx_vars y
  refine (block_small m ρ c t y0 y1).trans (show res_small m c (ix2 (tokenOf t y0) y1) = _ from congrArg (res_small m c) ?_)
  blk_ext [idx_proj t]

theorem same_small : (Cert.InProjRefIdeal.Read.val_main_v30 (F := Ideal) (argX m c) (argG m c) (argW m c) : FVec Ideal S16384x128 .f32) = res_small m c := by
  funext z
  idx_vars z
  exact ref_small (argX m c) (argG m c) (argW m c) z0 z1

/-- The result with the attention's queries. -/
def res_q : FVec Ideal S16384x512 .bf16 := fun z => proj m c (z 0) (col (896 + (z 1).val))

theorem final_q : (dat1 (V3 m ρ) c).arrAt 10 cfg1.N = res_q m c := by
  refine (dat1 (V3 m ρ) c).arrAt_eq_of_covers 10 _ (by decide +kernel) fun t _ y => ?_
  blk_simp
  rw [after1_10]
  idx_vars y
  refine (block_q m ρ c t y0 y1).trans (show res_q m c (ix2 (tokenOf t y0) y1) = _ from congrArg (res_q m c) ?_)
  blk_ext [idx_proj t]

theorem same_q : (Cert.InProjRefIdeal.Read.val_main_v32 (F := Ideal) (argX m c) (argG m c) (argW m c) : FVec Ideal S16384x512 .bf16) = res_q m c := by
  funext z
  idx_vars z
  exact ref_q (argX m c) (argG m c) (argW m c) z0 z1

/-- The result with the attention's keys and values, each head's twice. -/
def res_kv : FVec Ideal S16384x512 .bf16 := fun z => proj m c (z 0) (col (1408 + (z 1).val))

theorem final_kv : (dat1 (V3 m ρ) c).arrAt 11 cfg1.N = res_kv m c := by
  refine (dat1 (V3 m ρ) c).arrAt_eq_of_covers 11 _ (by decide +kernel) fun t _ y => ?_
  blk_simp
  rw [after1_11]
  idx_vars y
  refine (block_kv m ρ c t y0 y1).trans (show res_kv m c (ix2 (tokenOf t y0) y1) = _ from congrArg (res_kv m c) ?_)
  blk_ext [idx_proj t]

theorem same_kv : (Cert.InProjRefIdeal.Read.val_main_v43 (F := Ideal) (argX m c) (argG m c) (argW m c) : FVec Ideal S16384x512 .bf16) = res_kv m c := by
  funext z
  idx_vars z
  exact ref_kv (argX m c) (argG m c) (argW m c) z0 z1

/-- The result with the linear attention's queries and keys. -/
def res_qk : FVec Ideal S16384x256 .f32 := fun z => proj m c (z 0) (col (1920 + (z 1).val))

theorem final_qk : (dat1 (V3 m ρ) c).arrAt 12 cfg1.N = res_qk m c := by
  refine (dat1 (V3 m ρ) c).arrAt_eq_of_covers 12 _ (by decide +kernel) fun t _ y => ?_
  blk_simp
  rw [after1_12]
  idx_vars y
  refine (block_qk m ρ c t y0 y1).trans (show res_qk m c (ix2 (tokenOf t y0) y1) = _ from congrArg (res_qk m c) ?_)
  blk_ext [idx_proj t]

theorem same_qk : (Cert.InProjRefIdeal.Read.val_main_v45 (F := Ideal) (argX m c) (argG m c) (argW m c) : FVec Ideal S16384x256 .f32) = res_qk m c := by
  funext z
  idx_vars z
  exact ref_qk (argX m c) (argG m c) (argW m c) z0 z1

/-- The result with its values. -/
def res_v : FVec Ideal S16384x256 .f32 := fun z => proj m c (z 0) (col (2176 + (z 1).val))

theorem final_v : (dat1 (V3 m ρ) c).arrAt 13 cfg1.N = res_v m c := by
  refine (dat1 (V3 m ρ) c).arrAt_eq_of_covers 13 _ (by decide +kernel) fun t _ y => ?_
  blk_simp
  rw [after1_13]
  idx_vars y
  refine (block_v m ρ c t y0 y1).trans (show res_v m c (ix2 (tokenOf t y0) y1) = _ from congrArg (res_v m c) ?_)
  blk_ext [idx_proj t]

theorem same_v : (Cert.InProjRefIdeal.Read.val_main_v46 (F := Ideal) (argX m c) (argG m c) (argW m c) : FVec Ideal S16384x256 .f32) = res_v m c := by
  funext z
  idx_vars z
  exact ref_v (argX m c) (argG m c) (argW m c) z0 z1

/-- The result with its gates. -/
def res_g : FVec Ideal S16384x256 .f32 := fun z => proj m c (z 0) (col (2432 + (z 1).val))

theorem final_g : (dat1 (V3 m ρ) c).arrAt 14 cfg1.N = res_g m c := by
  refine (dat1 (V3 m ρ) c).arrAt_eq_of_covers 14 _ (by decide +kernel) fun t _ y => ?_
  blk_simp
  rw [after1_14]
  idx_vars y
  refine (block_g m ρ c t y0 y1).trans (show res_g m c (ix2 (tokenOf t y0) y1) = _ from congrArg (res_g m c) ?_)
  blk_ext [idx_proj t]

theorem same_g : (Cert.InProjRefIdeal.Read.val_main_v47 (F := Ideal) (argX m c) (argG m c) (argW m c) : FVec Ideal S16384x256 .f32) = res_g m c := by
  funext z
  idx_vars z
  exact ref_g (argX m c) (argG m c) (argW m c) z0 z1

/-- The result with the delta rule's gates. -/
def res_z : FVec Ideal S16384x256 .f32 := fun z => proj m c (z 0) (col (2688 + (z 1).val))

theorem final_z : (dat1 (V3 m ρ) c).arrAt 15 cfg1.N = res_z m c := by
  refine (dat1 (V3 m ρ) c).arrAt_eq_of_covers 15 _ (by decide +kernel) fun t _ y => ?_
  blk_simp
  rw [after1_15]
  idx_vars y
  refine (block_z m ρ c t y0 y1).trans (show res_z m c (ix2 (tokenOf t y0) y1) = _ from congrArg (res_z m c) ?_)
  blk_ext [idx_proj t]

theorem same_z : (Cert.InProjRefIdeal.Read.val_main_v48 (F := Ideal) (argX m c) (argG m c) (argW m c) : FVec Ideal S16384x256 .f32) = res_z m c := by
  funext z
  idx_vars z
  exact ref_z (argX m c) (argG m c) (argW m c) z0 z1

end Cert.Proof.InProj

end
-- ==== Proof.InProj.Mix.lean ====
/-
  The mixed results of the projection kernel on one row: the convolution, its activation, the norms of queries and keys, and the gates.
-/
module

public import proofs.«01_k».proof.Proof.OutMlp.Kernel
public import proofs.«01_k».proof.Proof.Gen.InProjIdeal.Skeleton
public import Idealize.ShloMosaic.Lib.Pointwise

@[expose] public section

set_option maxRecDepth 16384

noncomputable section

namespace Cert.Proof.InProj

open Idealize.ShloMosaic Idealize.ShloMosaic.TcCoe
open Cert.InProjIdeal Cert.InProjIdeal.Gen Cert.InProjIdeal.Facts
open Cert.Proof.OutMlp (eps headSq lane silu sum_indicator head_word eq_word)

/-- The scale of the queries. -/
def scale : EReal := Ideal.ofBits .f32 0x3E000000#32

/-- A lane divided by the length of its head. -/
def unitHead (f : Fin 256 → EReal) (j : Fin 256) : EReal := f j * Ideal.rsqrt (headSq f j + eps)

/-- The five taps of the convolution. -/
def conv5 (a : Nat → EReal) (w : Fin 5 → EReal) : EReal := a 0 * w 0 + a 1 * w 1 + a 2 * w 2 + a 3 * w 3 + a 4 * w 4

/-- The lanes of a result row: queries, keys and values, from the activated lanes. -/
def mixOf (f : Nat → EReal) (j : Nat) : EReal :=
  if h : j < 256 then unitHead (fun x => f x.val) ⟨j, h⟩ * scale
  else if h' : j < 512 then unitHead (fun x => f (256 + x.val)) ⟨j - 256, by omega⟩
  else f j

/-- The logistic function. -/
def sigmoid (s : EReal) : EReal := Ideal.div 1 (1 + Ideal.exp (-s))

/-- The softplus. -/
def softplus (a : EReal) : EReal := max a 0 + Ideal.log1p (Ideal.exp (-(FloatOps.absf (F := Ideal) (φ := .f32) a)))

/-- The gate lanes of one row: 32 to 39 and 40 to 47. -/
def gateOf (s na dt : EReal) (j : Nat) : EReal :=
  if 32 ≤ j ∧ j < 40 then sigmoid s else if 40 ≤ j ∧ j < 48 then na * softplus (s + dt) else 0

/-- Eight numbers at lanes 40 to 47, zeros elsewhere. -/
def lanesOf (u : Fin 2 → Fin 4 → EReal) (j : Nat) : EReal :=
  if h : 40 ≤ j ∧ j < 48 then u ⟨(j - 40) / 4, by omega⟩ ⟨(j - 40) % 4, by omega⟩ else 0

/-- The group indicator: 1 where the two lanes belong to one head. -/
abbrev ind : FVec Ideal S256x256 .bf16 :=
  k1_pay14 (F := Ideal) (iota .tc S256x256 32 [0] iota_S256x256_d0_w32) 64#32 k1_pay12 k1_pay13 0#32

theorem ind_at (k j : Fin 256) : ind (ix2 k j) = (if k.val / 64 = j.val / 64 then 1 else 0 : EReal) := by
  pointwise [ind, k1_pay14, k1_pay12, k1_pay13]
  rw [head_word, head_word]
  have h := eq_word ⟨k.val / 64, by omega⟩ ⟨j.val / 64, by omega⟩
  dsimp only at h
  rw [h]
  split <;> simp [FloatOps.sitofp]

section
variable (A B : FVec Ideal S512x768 .f32) (f : Nat → EReal) (r : Fin 512)

theorem act_first (hB : ∀ j, B (ix2 r j) = 0 - A (ix2 r j)) (j : Fin 768) : k1_pay21 (F := Ideal) A B (ix2 r j) = silu (A (ix2 r j)) := by
  pointwise [k1_pay21, silu]
  rw [hB, zero_sub]

theorem act_second (hB : ∀ j, B (ix2 r j) = Ideal.exp (0 - A (ix2 r j))) (j : Fin 768) :
    k1_pay32 (F := Ideal) A B (Scalar.ofBits .f32 0x3F800000#32) (ix2 r j) = silu (A (ix2 r j)) := by
  pointwise [k1_pay32, silu]
  rw [hB, zero_sub]

variable (s : FVec Ideal S512x768 .f32)

theorem query_first (hs : ∀ j, k1_pay21 (F := Ideal) A B (ix2 r j) = f j.val) (j : Fin 256) :
    k1_pay22 (F := Ideal) ind A B (ix2 r j) = unitHead (fun x => f x.val) j * scale := by
  pointwise [k1_pay22, unitHead, headSq, eps, scale, ind_at, hs]
  rw [sum_indicator (fun k => f k.val * f k.val) j]

theorem key_first (hs : ∀ j, k1_pay21 (F := Ideal) A B (ix2 r j) = f j.val) (j : Fin 256) :
    k1_pay23 (F := Ideal) ind A B (ix2 r j) = unitHead (fun x => f (256 + x.val)) j := by
  pointwise [k1_pay23, unitHead, headSq, eps, scale, ind_at, hs]
  rw [sum_indicator (fun k => f (256 + k.val) * f (256 + k.val)) j]

theorem value_first (hs : ∀ j, k1_pay21 (F := Ideal) A B (ix2 r j) = f j.val) (j : Fin 256) :
    k1_pay24 (F := Ideal) A B (ix2 r j) = f (512 + j.val) := by
  pointwise [k1_pay24, hs]

variable (e : Ideal .f32)

theorem query_second (hs : ∀ j, k1_pay32 (F := Ideal) A B e (ix2 r j) = f j.val) (j : Fin 256) :
    k1_pay33 (F := Ideal) ind A B e (ix2 r j) = unitHead (fun x => f x.val) j * scale := by
  pointwise [k1_pay33, unitHead, headSq, eps, scale, ind_at, hs]
  rw [sum_indicator (fun k => f k.val * f k.val) j]

theorem key_second (hs : ∀ j, k1_pay32 (F := Ideal) A B e (ix2 r j) = f j.val) (j : Fin 256) :
    k1_pay34 (F := Ideal) ind A B e (ix2 r j) = unitHead (fun x => f (256 + x.val)) j := by
  pointwise [k1_pay34, unitHead, headSq, eps, scale, ind_at, hs]
  rw [sum_indicator (fun k => f (256 + k.val) * f (256 + k.val)) j]

theorem value_second (hs : ∀ j, k1_pay32 (F := Ideal) A B e (ix2 r j) = f j.val) (j : Fin 256) :
    k1_pay35 (F := Ideal) A B e (ix2 r j) = f (512 + j.val) := by
  pointwise [k1_pay35, hs]

end

section
variable (a0 a1 a2 a3 a4 : FVec Ideal S512x768 .f32) (w0 w1 w2 w3 w4 : FVec Ideal S1x768 .f32) (r : Fin 512) (j : Fin 768)

theorem conv_first : k1_pay19 (F := Ideal) a0 w0 a1 w1 a2 w2 a3 w3 a4 w4 (ix2 r j)
    = a0 (ix2 r j) * w0 (ix2 0 j) + a1 (ix2 r j) * w1 (ix2 0 j) + a2 (ix2 r j) * w2 (ix2 0 j) + a3 (ix2 r j) * w3 (ix2 0 j)
      + a4 (ix2 r j) * w4 (ix2 0 j) := by
  pointwise [k1_pay19]

theorem minus_first : k1_pay20 (F := Ideal) a0 w0 a1 w1 a2 w2 a3 w3 a4 w4 (ix2 r j) = 0 - k1_pay19 (F := Ideal) a0 w0 a1 w1 a2 w2 a3 w3 a4 w4 (ix2 r j) := by
  pointwise [k1_pay20]

theorem conv_second : k1_pay30 (F := Ideal) a0 w0 a1 w1 a2 w2 a3 w3 a4 w4 (ix2 r j)
    = a0 (ix2 r j) * w0 (ix2 0 j) + a1 (ix2 r j) * w1 (ix2 0 j) + a2 (ix2 r j) * w2 (ix2 0 j) + a3 (ix2 r j) * w3 (ix2 0 j)
      + a4 (ix2 r j) * w4 (ix2 0 j) := by
  pointwise [k1_pay30]

theorem minus_second : k1_pay31 (F := Ideal) a0 w0 a1 w1 a2 w2 a3 w3 a4 w4 (ix2 r j)
    = Ideal.exp (0 - k1_pay30 (F := Ideal) a0 w0 a1 w1 a2 w2 a3 w3 a4 w4 (ix2 r j)) := by
  pointwise [k1_pay31]

end

end Cert.Proof.InProj

end
-- ==== Proof.InProj.Conv.lean ====
/-
  The convolved result of the projection kernel's blocks. A block keeps its tokens' lanes and eight rows of each neighbour's, zeros at the
  ends of a sequence, and each token's lane is the sum of five rows' with the taps, activated; the first two thirds are normed by head.
-/
module

public import proofs.«01_k».proof.Proof.InProj.Block
public import proofs.«01_k».proof.Proof.InProj.Mix
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.InProj

open Idealize.ShloMosaic Idealize.ShloMosaic.TcCoe
open Cert.InProjIdeal Cert.InProjIdeal.Gen Cert.InProjIdeal.Facts
open Cert.Proof.OutMlp (rms width eps silu)

/-- The word that is 1 at the first tile of a sequence. -/
abbrev firstWord (n : Nat) : BitVec 1 :=
  Scalar.cmpi CmpIPredicate.eq
    (Scalar.select
      (Scalar.andi
        (Scalar.xori (Scalar.cmpi CmpIPredicate.slt (Scalar.remsi (BitVec.ofNat 32 n) 2#32) 0#32) 0#1)
        (Scalar.cmpi CmpIPredicate.ne (Scalar.remsi (BitVec.ofNat 32 n) 2#32) 0#32))
      (Scalar.addi (Scalar.remsi (BitVec.ofNat 32 n) 2#32) 2#32)
      (Scalar.remsi (BitVec.ofNat 32 n) 2#32))
    0#32

/-- The word that is 1 at the last tile of a sequence. -/
abbrev lastWord (n : Nat) : BitVec 1 :=
  Scalar.cmpi CmpIPredicate.eq
    (Scalar.select
      (Scalar.andi
        (Scalar.xori (Scalar.cmpi CmpIPredicate.slt (Scalar.remsi (BitVec.ofNat 32 n) 2#32) 0#32) 0#1)
        (Scalar.cmpi CmpIPredicate.ne (Scalar.remsi (BitVec.ofNat 32 n) 2#32) 0#32))
      (Scalar.addi (Scalar.remsi (BitVec.ofNat 32 n) 2#32) 2#32)
      (Scalar.remsi (BitVec.ofNat 32 n) 2#32))
    1#32

theorem first_word : ∀ t : Fin cfg1.N, firstWord (grid1.coords t 0).val = BitVec.ofBool (decide (t.val % 2 = 0)) :=
  (by decide +kernel : ∀ t : Fin grid1.N, _)

theorem last_word : ∀ t : Fin cfg1.N, lastWord (grid1.coords t 0).val = BitVec.ofBool (decide (t.val % 2 = 1)) :=
  (by decide +kernel : ∀ t : Fin grid1.N, _)

/-! ## The rows held -/

section
variable (f l : BitVec 1) (v28 : FVec Ideal S1040x1024 .f32) (v30 : FVec Ideal S1x1024 .f32) (v33 v34 : FVec Ideal S1040x1 .f32)
  (v46 : FVec Ideal S1x1024x896 .bf16)

/-- What a block holds: the projected rows, with the neighbours' replaced by zeros where the words say so. -/
def held (L : FVec Ideal S1040x896 .f32) (p : Fin 1040) (j : Fin 768) : EReal :=
  if p.val < 8 then Scalar.select f 0 (L (ix2 p ⟨j.val, by omega⟩))
  else if p.val < 1032 then L (ix2 p ⟨j.val, by omega⟩)
  else Scalar.select l 0 (L (ix2 p ⟨j.val, by omega⟩))

theorem held_prev (w : S8x768.Idx) (p : Fin 1040) (j : Fin 768) (h0 : p.val = (w 0).val) (hw : (w 0).val < 8) (h1 : j.val = (w 1).val) :
    k1_pay9 (F := Ideal) f v28 v30 v33 v34 v46 w = held f l (k1_pay8 (F := Ideal) v28 v30 v33 v34 v46) p j := by
  have e : w = ix2 ⟨p.val, by omega⟩ j := funext fun a => Fin.ext (by
    match a with
    | ⟨0, _⟩ => exact h0.symm
    | ⟨1, _⟩ => exact h1.symm)
  rw [e, held, if_pos (by omega)]
  pointwise [k1_pay9]

theorem held_own (w : S1024x768.Idx) (p : Fin 1040) (j : Fin 768) (h0 : p.val = 8 + (w 0).val) (hw : (w 0).val < 1024) (h1 : j.val = (w 1).val) :
    k1_pay10 (F := Ideal) v28 v30 v33 v34 v46 w = held f l (k1_pay8 (F := Ideal) v28 v30 v33 v34 v46) p j := by
  have e : w = ix2 ⟨p.val - 8, by omega⟩ j := funext fun a => Fin.ext (by
    match a with
    | ⟨0, _⟩ => show (w 0).val = p.val - 8; omega
    | ⟨1, _⟩ => exact h1.symm)
  rw [e, held, if_neg (by omega), if_pos (by omega)]
  pointwise [k1_pay10]
  exact congrArg (k1_pay8 (F := Ideal) v28 v30 v33 v34 v46) (congrArg (ix2 · _) (Fin.ext (by show 8 + (p.val - 8) = p.val; omega)))

theorem held_next (w : S8x768.Idx) (p : Fin 1040) (j : Fin 768) (h0 : p.val = 1032 + (w 0).val) (hw : (w 0).val < 8) (h1 : j.val = (w 1).val) :
    k1_pay11 (F := Ideal) l v28 v30 v33 v34 v46 w = held f l (k1_pay8 (F := Ideal) v28 v30 v33 v34 v46) p j := by
  have e : w = ix2 ⟨p.val - 1032, by omega⟩ j := funext fun a => Fin.ext (by
    match a with
    | ⟨0, _⟩ => show (w 0).val = p.val - 1032; omega
    | ⟨1, _⟩ => exact h1.symm)
  rw [e, held, if_neg (by omega), if_neg (by omega)]
  pointwise [k1_pay11]
  exact congrArg (Scalar.select l 0) (congrArg (k1_pay8 (F := Ideal) v28 v30 v33 v34 v46) (congrArg (ix2 · _) (Fin.ext (by show 1032 + (p.val - 1032) = p.val; omega))))

/-- The three stores fill the buffer. -/
theorem held_cover (P : FVec Ideal S8x768 .f32) (C : FVec Ideal S1024x768 .f32) (N : FVec Ideal S8x768 .f32) (y : S1040x768.Idx) :
    ∃ p ∈ ([⟨Rect.unit ![1032, 0] ![8, 768] inb_S1040x768_S8x768_1032_0, N⟩,
        ⟨Rect.unit ![8, 0] ![1024, 768] inb_S1040x768_S1024x768_8_0, C⟩,
        ⟨Rect.unit ![0, 0] ![8, 768] inb_S1040x768_S8x768_0_0, P⟩] : List (View.Piece (Elt Ideal) S1040x768 .f32)), y ∈ p.1.set := by
  have h0 : (y 0).val < 1040 := (y 0).isLt
  have h1 : (y 1).val < 768 := (y 1).isLt
  by_cases h : (y 0).val < 8
  · refine ⟨_, .tail _ (.tail _ (.head _)), (Rect.mem_set_unit (inb := inb_S1040x768_S8x768_0_0)).mpr fun a => ?_⟩
    match a with
    | ⟨0, _⟩ => exact ⟨Nat.zero_le _, by show (y 0).val < 0 + 8; omega⟩
    | ⟨1, _⟩ => exact ⟨Nat.zero_le _, by show (y 1).val < 0 + 768; omega⟩
  · by_cases h' : (y 0).val < 1032
    · refine ⟨_, .tail _ (.head _), (Rect.mem_set_unit (inb := inb_S1040x768_S1024x768_8_0)).mpr fun a => ?_⟩
      match a with
      | ⟨0, _⟩ => exact ⟨by show 8 ≤ (y 0).val; omega, by show (y 0).val < 8 + 1024; omega⟩
      | ⟨1, _⟩ => exact ⟨Nat.zero_le _, by show (y 1).val < 0 + 768; omega⟩
    · refine ⟨_, .head _, (Rect.mem_set_unit (inb := inb_S1040x768_S8x768_1032_0)).mpr fun a => ?_⟩
      match a with
      | ⟨0, _⟩ => exact ⟨by show 1032 ≤ (y 0).val; omega, by show (y 0).val < 1032 + 8; omega⟩
      | ⟨1, _⟩ => exact ⟨Nat.zero_le _, by show (y 1).val < 0 + 768; omega⟩

/-- A load of 512 rows from `R` on. -/
abbrev loaded (R : Nat) (h : ∀ a, (![R, 0] : Fin 2 → Nat) a + (![512, 768] : Fin 2 → Nat) a ≤ S1040x768.size a) : FVec Ideal S512x768 .f32 :=
  (View.whole cc1_scratch0).readCov (Val := Elt Ideal)
    [⟨Rect.unit ![1032, 0] ![8, 768] inb_S1040x768_S8x768_1032_0, k1_pay11 (F := Ideal) l v28 v30 v33 v34 v46⟩,
      ⟨Rect.unit ![8, 0] ![1024, 768] inb_S1040x768_S1024x768_8_0, k1_pay10 (F := Ideal) v28 v30 v33 v34 v46⟩,
      ⟨Rect.unit ![0, 0] ![8, 768] inb_S1040x768_S8x768_0_0, k1_pay9 (F := Ideal) f v28 v30 v33 v34 v46⟩]
    (Rect.unit (s := S1040x768) ![R, 0] ![512, 768] h).toLoadRect

theorem held_read (R : Nat) (h : ∀ a, (![R, 0] : Fin 2 → Nat) a + (![512, 768] : Fin 2 → Nat) a ≤ S1040x768.size a)
    (k : Fin 512) (j : Fin 768) (p : Fin 1040) (hp : p.val = R + k.val) :
    loaded f l v28 v30 v33 v34 v46 R h (ix2 k j) = held f l (k1_pay8 (F := Ideal) v28 v30 v33 v34 v46) p j := by
  unfold loaded
  rw [View.readCov_eq_canon']
  have e : (Rect.unit (s := S1040x768) ![R, 0] ![512, 768] h).toLoadRect.idx (ix2 k j) = ix2 p j := funext fun a => Fin.ext (by
    match a with
    | ⟨0, _⟩ => show R + 1 * k.val = p.val; omega
    | ⟨1, _⟩ => show 0 + 1 * j.val = j.val; omega)
  refine (congrArg _ e).trans ?_
  have hp0 : p.val < 1040 := p.isLt
  have hj0 : j.val < 768 := j.isLt
  canon_tiles w hw using (held_cover _ _ _ (ix2 p j))
  · exact held_next f l v28 v30 v33 v34 v46 w p j hw0 w0_lt hw1
  · exact held_own f l v28 v30 v33 v34 v46 w p j hw0 w0_lt hw1
  · exact held_prev f l v28 v30 v33 v34 v46 w p j hw0 w0_lt hw1

end

/-- A row of the taps. -/
theorem conv_read (W : FVec Ideal S5x768 .f32) (k : Nat) (h : ∀ a, (![k, 0] : Fin 2 → Nat) a + (![1, 768] : Fin 2 → Nat) a ≤ S5x768.size a)
    (j : Fin 768) (y : Fin 5) (hy : y.val = k) :
    (View.ld (Val := Elt Ideal) (e' := .f32) W (Rect.unit (s := S5x768) ![k, 0] ![1, 768] h) : FVec Ideal S1x768 .f32) (ix2 0 j) = W (ix2 y j) := by
  refine congrArg W (funext fun a => Fin.ext ?_)
  match a with
  | ⟨0, _⟩ => exact hy.symm
  | ⟨1, _⟩ => show 0 + 1 * j.val = j.val; omega

/-! ## The tokens' lanes -/

variable (m : (ℓ : Loc nD τ sig) → Buf (Elt Ideal) ℓ) (ρ : Dev nD → PrngReg) (c : Dev nD)

/-- Lane `j` of the token `k - 2` places after token `n` in its sequence, 0 past the ends. -/
def tap (n : Fin 16384) (k j : Nat) : EReal :=
  if h : 2 ≤ n.val % 2048 + k ∧ n.val % 2048 + k < 2050 then proj m c ⟨n.val + k - 2, by omega⟩ (col j) else 0

/-- Lane `j` of token `n`, convolved and activated. -/
def activated (n : Fin 16384) (j : Nat) : EReal :=
  if h : j < 768 then silu (conv5 (fun k => tap m c n k j) (fun k => argC m c (ix2 k ⟨j, h⟩))) else 0

theorem activated_at (n : Fin 16384) (j : Fin 768) :
    activated m c n j.val = silu (conv5 (fun k => tap m c n k j.val) (fun k => argC m c (ix2 k j))) := dif_pos j.isLt

/-- The projected rows of a point. -/
abbrev leadAt (t : Fin cfg1.N) : FVec Ideal S1040x896 .f32 :=
  k1_pay8 (F := Ideal) (k1_pay2 (iblk1 (V3 m ρ) c 0 t) (iblk1 (V3 m ρ) c 1 t) (iblk1 (V3 m ρ) c 2 t))
    (k1_pay3 (iblk1 (V3 m ρ) c 3 t))
    (k1_pay4 (iblk1 (V3 m ρ) c 0 t) (iblk1 (V3 m ρ) c 1 t) (iblk1 (V3 m ρ) c 2 t)) k1_pay5
    (View.ld (iblk1 (V3 m ρ) c 4 t) (Rect.unit ![0, 0, 0] ![1, 1024, 896] inb_S1x1024x2944_S1x1024x896_0_0_0))

theorem lead_at (t : Fin cfg1.N) (p : Fin 1040) (j : Fin 896) (n : Fin 16384)
    (hr : ∀ k, k1_pay2 (F := Ideal) (iblk1 (V3 m ρ) c 0 t) (iblk1 (V3 m ρ) c 1 t) (iblk1 (V3 m ρ) c 2 t) (ix2 p k) = token m c n k) :
    leadAt m ρ c t (ix2 p j) = proj m c n (col j.val) := by
  refine (dot_lead _ _ _ _ _ _ _).trans ?_
  exact proj_of m ρ c t p n _ ⟨j.val, by omega⟩ hr fun k => weight_read 896 _ 0 _ rfl _ k _ _ (Nat.zero_add _).symm

/-- The row held at `p` is the token's that lies `p - 8` after the tile's first. -/
theorem row_token (t : Fin cfg1.N) (p : Fin 1040) (n : Fin 16384) (hn : n.val + 8 = t.val * 1024 + p.val)
    (hf : p.val < 8 → t.val % 2 = 1) (hl : 1032 ≤ p.val → t.val % 2 = 0) (k : Fin 1024) :
    k1_pay2 (F := Ideal) (iblk1 (V3 m ρ) c 0 t) (iblk1 (V3 m ρ) c 1 t) (iblk1 (V3 m ρ) c 2 t) (ix2 p k) = token m c n k := by
  have ht := point_lt t
  by_cases h : p.val < 8
  · have := hf h
    refine (rows_prev _ _ _ p k h).trans ((prev_row (V3 m ρ) c t ⟨p.val, h⟩ k).trans ((tokens_host m ρ c _ k).trans ?_))
    exact congrArg (token m c · k) (Fin.ext (by show (t.val * 128 - 1) * 8 + p.val = n.val; omega))
  · by_cases h' : p.val < 1032
    · refine (rows_own _ _ _ p k h h').trans ((own_row (V3 m ρ) c t ⟨p.val - 8, by omega⟩ k).trans ((tokens_host m ρ c _ k).trans ?_))
      exact congrArg (token m c · k) (Fin.ext (by show t.val * 1024 + (p.val - 8) = n.val; omega))
    · have := hl (by omega)
      refine (rows_next _ _ _ p k h').trans ((next_row (V3 m ρ) c t ⟨p.val - 1032, by omega⟩ k).trans ((tokens_host m ρ c _ k).trans ?_))
      exact congrArg (token m c · k) (Fin.ext (by show min ((t.val + 1) * 128) 2047 * 8 + (p.val - 1032) = n.val; omega))

/-- What a block holds is the taps of its tokens. -/
theorem held_tap (t : Fin cfg1.N) (r : Fin 1024) (k : Nat) (hk : k < 5) (p : Fin 1040) (hp : p.val = 6 + r.val + k) (j : Fin 768) :
    held (firstWord (grid1.coords t 0).val) (lastWord (grid1.coords t 0).val) (leadAt m ρ c t) p j = tap m c (tokenOf t r) k j.val := by
  have ht := point_lt t
  have hr := r.isLt
  rw [first_word, last_word, held, tap]
  have en : (tokenOf t r).val = t.val * 1024 + r.val := rfl
  by_cases h : 2 ≤ (tokenOf t r).val % 2048 + k ∧ (tokenOf t r).val % 2048 + k < 2050
  · rw [dif_pos h]
    have e := lead_at m ρ c t p ⟨j.val, by omega⟩ ⟨(tokenOf t r).val + k - 2, by omega⟩
      (row_token m ρ c t p _ (by show (tokenOf t r).val + k - 2 + 8 = _; omega) (by omega) (by omega))
    by_cases h1 : p.val < 8
    · rw [if_pos h1, decide_eq_false (by omega)]
      exact e
    · rw [if_neg h1]
      by_cases h2 : p.val < 1032
      · rw [if_pos h2]
        exact e
      · rw [if_neg h2, decide_eq_false (by omega)]
        exact e
  · rw [dif_neg h]
    by_cases h1 : p.val < 8
    · rw [if_pos h1, decide_eq_true (by omega)]
      rfl
    · rw [if_neg h1, if_neg (by omega), decide_eq_true (by omega)]
      rfl

/-- The rows loaded for a tap. -/
abbrev rowsAt (t : Fin cfg1.N) (R : Nat) (h : ∀ a, (![R, 0] : Fin 2 → Nat) a + (![512, 768] : Fin 2 → Nat) a ≤ S1040x768.size a) : FVec Ideal S512x768 .f32 :=
  loaded (firstWord (grid1.coords t 0).val) (lastWord (grid1.coords t 0).val)
    (k1_pay2 (iblk1 (V3 m ρ) c 0 t) (iblk1 (V3 m ρ) c 1 t) (iblk1 (V3 m ρ) c 2 t))
    (k1_pay3 (iblk1 (V3 m ρ) c 3 t))
    (k1_pay4 (iblk1 (V3 m ρ) c 0 t) (iblk1 (V3 m ρ) c 1 t) (iblk1 (V3 m ρ) c 2 t)) k1_pay5
    (View.ld (iblk1 (V3 m ρ) c 4 t) (Rect.unit ![0, 0, 0] ![1, 1024, 896] inb_S1x1024x2944_S1x1024x896_0_0_0)) R h

/-- The weights loaded for a tap. -/
abbrev tapsAt (t : Fin cfg1.N) (k : Nat) (h : ∀ a, (![k, 0] : Fin 2 → Nat) a + (![1, 768] : Fin 2 → Nat) a ≤ S5x768.size a) : FVec Ideal S1x768 .f32 :=
  View.ld (Val := Elt Ideal) (e' := .f32) (iblk1 (V3 m ρ) c 5 t) (Rect.unit (s := S5x768) ![k, 0] ![1, 768] h)

theorem term_at (t : Fin cfg1.N) (R o k : Nat) (hk : k < 5) (h) (h') (r : Fin 512) (ho : o + 512 ≤ 1024) (hR : R = 6 + o + k) (j : Fin 768) :
    rowsAt m ρ c t R h (ix2 r j) * tapsAt m ρ c t k h' (ix2 0 j)
      = tap m c (tokenOf t ⟨o + r.val, by omega⟩) k j.val * argC m c (ix2 ⟨k, hk⟩ j) := by
  refine congrArg₂ (· * ·) ?_ ?_
  · refine (held_read _ _ _ _ _ _ _ R h r j ⟨R + r.val, by omega⟩ rfl).trans ?_
    exact held_tap m ρ c t ⟨o + r.val, by omega⟩ k hk _ (by show R + r.val = 6 + (o + r.val) + k; omega) j
  · exact (conv_read _ k h' j ⟨k, hk⟩ rfl).trans ((conv_row (V3 m ρ) c t ⟨k, hk⟩ j).trans (conv_host m ρ c ⟨k, hk⟩ j))

/-- The first half's sums. -/
abbrev sums_first (t : Fin cfg1.N) : FVec Ideal S512x768 .f32 :=
  k1_pay19 (F := Ideal) (rowsAt m ρ c t 6 inb_S1040x768_S512x768_6_0) (tapsAt m ρ c t 0 inb_S5x768_S1x768_0_0) (rowsAt m ρ c t 7 inb_S1040x768_S512x768_7_0) (tapsAt m ρ c t 1 inb_S5x768_S1x768_1_0) (rowsAt m ρ c t 8 inb_S1040x768_S512x768_8_0) (tapsAt m ρ c t 2 inb_S5x768_S1x768_2_0) (rowsAt m ρ c t 9 inb_S1040x768_S512x768_9_0) (tapsAt m ρ c t 3 inb_S5x768_S1x768_3_0) (rowsAt m ρ c t 10 inb_S1040x768_S512x768_10_0) (tapsAt m ρ c t 4 inb_S5x768_S1x768_4_0)

/-- What its activation is made from. -/
abbrev minus_first_of (t : Fin cfg1.N) : FVec Ideal S512x768 .f32 :=
  k1_pay20 (F := Ideal) (rowsAt m ρ c t 6 inb_S1040x768_S512x768_6_0) (tapsAt m ρ c t 0 inb_S5x768_S1x768_0_0) (rowsAt m ρ c t 7 inb_S1040x768_S512x768_7_0) (tapsAt m ρ c t 1 inb_S5x768_S1x768_1_0) (rowsAt m ρ c t 8 inb_S1040x768_S512x768_8_0) (tapsAt m ρ c t 2 inb_S5x768_S1x768_2_0) (rowsAt m ρ c t 9 inb_S1040x768_S512x768_9_0) (tapsAt m ρ c t 3 inb_S5x768_S1x768_3_0) (rowsAt m ρ c t 10 inb_S1040x768_S512x768_10_0) (tapsAt m ρ c t 4 inb_S5x768_S1x768_4_0)

theorem activated_first (t : Fin cfg1.N) (r : Fin 512) (j : Fin 768) :
    k1_pay21 (F := Ideal) (sums_first m ρ c t) (minus_first_of m ρ c t) (ix2 r j) = activated m c (tokenOf t ⟨0 + r.val, by omega⟩) j.val := by
  refine (act_first _ _ r (fun j => minus_first _ _ _ _ _ _ _ _ _ _ r j) j).trans ?_
  rw [activated_at]
  refine congrArg silu ((conv_first _ _ _ _ _ _ _ _ _ _ r j).trans ?_)
  rw [term_at m ρ c t 6 0 0 (by decide) _ _ r (by decide) rfl j, term_at m ρ c t 7 0 1 (by decide) _ _ r (by decide) rfl j,
    term_at m ρ c t 8 0 2 (by decide) _ _ r (by decide) rfl j, term_at m ρ c t 9 0 3 (by decide) _ _ r (by decide) rfl j,
    term_at m ρ c t 10 0 4 (by decide) _ _ r (by decide) rfl j]
  rfl

/-- The second half's sums. -/
abbrev sums_second (t : Fin cfg1.N) : FVec Ideal S512x768 .f32 :=
  k1_pay30 (F := Ideal) (rowsAt m ρ c t 518 inb_S1040x768_S512x768_518_0) (tapsAt m ρ c t 0 inb_S5x768_S1x768_0_0) (rowsAt m ρ c t 519 inb_S1040x768_S512x768_519_0) (tapsAt m ρ c t 1 inb_S5x768_S1x768_1_0) (rowsAt m ρ c t 520 inb_S1040x768_S512x768_520_0) (tapsAt m ρ c t 2 inb_S5x768_S1x768_2_0) (rowsAt m ρ c t 521 inb_S1040x768_S512x768_521_0) (tapsAt m ρ c t 3 inb_S5x768_S1x768_3_0) (rowsAt m ρ c t 522 inb_S1040x768_S512x768_522_0) (tapsAt m ρ c t 4 inb_S5x768_S1x768_4_0)

/-- What its activation is made from. -/
abbrev minus_second_of (t : Fin cfg1.N) : FVec Ideal S512x768 .f32 :=
  k1_pay31 (F := Ideal) (rowsAt m ρ c t 518 inb_S1040x768_S512x768_518_0) (tapsAt m ρ c t 0 inb_S5x768_S1x768_0_0) (rowsAt m ρ c t 519 inb_S1040x768_S512x768_519_0) (tapsAt m ρ c t 1 inb_S5x768_S1x768_1_0) (rowsAt m ρ c t 520 inb_S1040x768_S512x768_520_0) (tapsAt m ρ c t 2 inb_S5x768_S1x768_2_0) (rowsAt m ρ c t 521 inb_S1040x768_S512x768_521_0) (tapsAt m ρ c t 3 inb_S5x768_S1x768_3_0) (rowsAt m ρ c t 522 inb_S1040x768_S512x768_522_0) (tapsAt m ρ c t 4 inb_S5x768_S1x768_4_0)

theorem activated_second (t : Fin cfg1.N) (r : Fin 512) (j : Fin 768) :
    k1_pay32 (F := Ideal) (sums_second m ρ c t) (minus_second_of m ρ c t) (Scalar.ofBits .f32 0x3F800000#32) (ix2 r j) = activated m c (tokenOf t ⟨512 + r.val, by omega⟩) j.val := by
  refine (act_second _ _ r (fun j => minus_second _ _ _ _ _ _ _ _ _ _ r j) j).trans ?_
  rw [activated_at]
  refine congrArg silu ((conv_second _ _ _ _ _ _ _ _ _ _ r j).trans ?_)
  rw [term_at m ρ c t 518 512 0 (by decide) _ _ r (by decide) rfl j, term_at m ρ c t 519 512 1 (by decide) _ _ r (by decide) rfl j,
    term_at m ρ c t 520 512 2 (by decide) _ _ r (by decide) rfl j, term_at m ρ c t 521 512 3 (by decide) _ _ r (by decide) rfl j,
    term_at m ρ c t 522 512 4 (by decide) _ _ r (by decide) rfl j]
  rfl

/-- A store of 512 rows and 256 lanes as its part of the block. -/
theorem dn_tile (p : FVec Ideal S512x256 .f32) (g : Nat → Nat → EReal) (o q : Nat) (hp : ∀ (r : Fin 512) (j : Fin 256), p (ix2 r j) = g (o + r.val) (q + j.val))
    (r : Fin 1024) (j : Fin 768) (z : S1024x768.Idx) (hz : (ix2 r j : S1024x768.Idx) = z) (x : S512x256.Idx)
    (h0 : (z 0).val = o + (x 0).val) (h1 : (z 1).val = q + (x 1).val) : p x = g r.val j.val := by
  subst hz
  have e : x = ix2 (x 0) (x 1) := funext fun a => by
    match a with
    | ⟨0, _⟩ => rfl
    | ⟨1, _⟩ => rfl
  rw [e]
  exact (hp (x 0) (x 1)).trans (congrArg₂ g h0.symm h1.symm)

/-- Lane `j` of row `r` of a block. -/
def mixedAt (t : Fin cfg1.N) (r j : Nat) : EReal := if h : r < 1024 then mixOf (activated m c (tokenOf t ⟨r, h⟩)) j else 0

theorem mixed_query (t : Fin cfg1.N) (o : Nat) (r : Fin 512) (ho : o + 512 ≤ 1024) (j : Fin 256) :
    unitHead (fun x => activated m c (tokenOf t ⟨o + r.val, by omega⟩) x.val) j * scale = mixedAt m c t (o + r.val) (0 + j.val) := by
  have hj := j.isLt
  rw [mixedAt, dif_pos (by omega), mixOf, dif_pos (by omega)]
  exact congrArg (unitHead _ · * scale) (Fin.ext (by show j.val = 0 + j.val; omega))

theorem mixed_key (t : Fin cfg1.N) (o : Nat) (r : Fin 512) (ho : o + 512 ≤ 1024) (j : Fin 256) :
    unitHead (fun x => activated m c (tokenOf t ⟨o + r.val, by omega⟩) (256 + x.val)) j = mixedAt m c t (o + r.val) (256 + j.val) := by
  have hj := j.isLt
  rw [mixedAt, dif_pos (by omega), mixOf, dif_neg (by omega), dif_pos (by omega)]
  exact congrArg (unitHead _) (Fin.ext (by show j.val = 256 + j.val - 256; omega))

theorem mixed_value (t : Fin cfg1.N) (o : Nat) (r : Fin 512) (ho : o + 512 ≤ 1024) (j : Fin 256) :
    activated m c (tokenOf t ⟨o + r.val, by omega⟩) (512 + j.val) = mixedAt m c t (o + r.val) (512 + j.val) := by
  rw [mixedAt, dif_pos (by omega), mixOf, dif_neg (by omega), dif_neg (by omega)]

theorem block_dn (t : Fin cfg1.N) (r : Fin 1024) (j : Fin 768) :
    ((outsAt1 (V3 m ρ) c t).1 : FVec Ideal S1024x768 .f32) (ix2 r j) = mixOf (activated m c (tokenOf t r)) j.val := by
  refine Eq.trans ?_ (show mixedAt m c t r.val j.val = _ from dif_pos r.isLt)
  generalize hz : (ix2 r j : S1024x768.Idx) = z
  unfold Gen.outsAt1
  frame_out
  canon_tiles x h using (View.cover_of_tiledBy _ ![512, 256] (by sl_kernel_rfl) z)
  · exact dn_tile _ (mixedAt m c t) 512 512 (fun r j => (value_second (sums_second m ρ c t) (minus_second_of m ρ c t) (activated m c (tokenOf t ⟨512 + r.val, by omega⟩)) r (Scalar.ofBits .f32 0x3F800000#32) (activated_second m ρ c t r) j).trans
      (mixed_value m c t 512 r (by decide) j)) r j z hz x h0 h1
  · exact dn_tile _ (mixedAt m c t) 512 256 (fun r j => (key_second (sums_second m ρ c t) (minus_second_of m ρ c t) (activated m c (tokenOf t ⟨512 + r.val, by omega⟩)) r (Scalar.ofBits .f32 0x3F800000#32) (activated_second m ρ c t r) j).trans
      (mixed_key m c t 512 r (by decide) j)) r j z hz x h0 h1
  · exact dn_tile _ (mixedAt m c t) 512 0 (fun r j => (query_second (sums_second m ρ c t) (minus_second_of m ρ c t) (activated m c (tokenOf t ⟨512 + r.val, by omega⟩)) r (Scalar.ofBits .f32 0x3F800000#32) (activated_second m ρ c t r) j).trans
      (mixed_query m c t 512 r (by decide) j)) r j z hz x h0 (h1.trans (Nat.zero_add _).symm)
  · exact dn_tile _ (mixedAt m c t) 0 512 (fun r j => (value_first (sums_first m ρ c t) (minus_first_of m ρ c t) (activated m c (tokenOf t ⟨0 + r.val, by omega⟩)) r (activated_first m ρ c t r) j).trans
      (mixed_value m c t 0 r (by decide) j)) r j z hz x (h0.trans (Nat.zero_add _).symm) h1
  · exact dn_tile _ (mixedAt m c t) 0 256 (fun r j => (key_first (sums_first m ρ c t) (minus_first_of m ρ c t) (activated m c (tokenOf t ⟨0 + r.val, by omega⟩)) r (activated_first m ρ c t r) j).trans
      (mixed_key m c t 0 r (by decide) j)) r j z hz x (h0.trans (Nat.zero_add _).symm) h1
  · exact dn_tile _ (mixedAt m c t) 0 0 (fun r j => (query_first (sums_first m ρ c t) (minus_first_of m ρ c t) (activated m c (tokenOf t ⟨0 + r.val, by omega⟩)) r (activated_first m ρ c t r) j).trans
      (mixed_query m c t 0 r (by decide) j)) r j z hz x (h0.trans (Nat.zero_add _).symm) (h1.trans (Nat.zero_add _).symm)

end Cert.Proof.InProj

end
-- ==== Proof.InProj.Gates.lean ====
/-
  The gate lanes of the projection kernel's blocks. The decay rates and shifts are written into zeros at lanes 40 to 47 by the host.
-/
module

public import proofs.«01_k».proof.Proof.InProj.Block
public import proofs.«01_k».proof.Proof.InProj.Mix
public import Idealize.ShloMosaic.Lib.Pointwise
public import Idealize.ShloMosaic.Lib.Routing.OpsPair
public import Idealize.ShloMosaic.Lib.Pipeline.ValueKit
public import Idealize.ShloMosaic.Lib.Pipeline.ReadBack

@[expose] public section

set_option maxRecDepth 16384

noncomputable section

namespace Cert.Proof.InProj

open Idealize.ShloMosaic Idealize.ShloMosaic.TcCoe
open Cert.InProjIdeal Cert.InProjIdeal.Gen Cert.InProjIdeal.Facts
open Cert.Proof.OutMlp (rms width eps)

open Idealize.ShloMosaic.Routing

theorem ge_word (n b : Nat) (hn : n < 128) (hb : b < 128) :
    IntOp.cmpi .sge (BitVec.ofNat 32 n) (BitVec.ofNat 32 b) = BitVec.ofBool (decide (b ≤ n)) := by
  have h : ∀ n b : Fin 128, IntOp.cmpi .sge (BitVec.ofNat 32 n.val) (BitVec.ofNat 32 b.val) = BitVec.ofBool (decide (b.val ≤ n.val)) := by
    decide +kernel
  exact h ⟨n, hn⟩ ⟨b, hb⟩

theorem lt_word (n b : Nat) (hn : n < 128) (hb : b < 128) :
    IntOp.cmpi .slt (BitVec.ofNat 32 n) (BitVec.ofNat 32 b) = BitVec.ofBool (decide (n < b)) := by
  have h : ∀ n b : Fin 128, IntOp.cmpi .slt (BitVec.ofNat 32 n.val) (BitVec.ofNat 32 b.val) = BitVec.ofBool (decide (n.val < b.val)) := by
    decide +kernel
  exact h ⟨n, hn⟩ ⟨b, hb⟩

theorem within (n a b : Nat) (hn : n < 128) (ha : a < 128) (hb : b < 128) :
    IntOp.andi (IntOp.cmpi .sge (BitVec.ofNat 32 n) (BitVec.ofNat 32 a)) (IntOp.cmpi .slt (BitVec.ofNat 32 n) (BitVec.ofNat 32 b))
      = BitVec.ofBool (decide (a ≤ n ∧ n < b)) := by
  rw [ge_word n a hn ha, lt_word n b hn hb]
  by_cases h1 : a ≤ n <;> by_cases h2 : n < b <;> simp [h1, h2] <;> decide

theorem select_of {α : Type} (p : Prop) [Decidable p] (a b : α) : Scalar.select (BitVec.ofBool (decide p)) a b = if p then a else b := by
  by_cases h : p <;> simp [h, Scalar.select]

theorem gate_at (v48 : FVec Ideal S1040x896 .f32) (dt na : FVec Ideal S1x128 .f32) (r : Fin 1024) (j : Fin 128) :
    k1_pay1 (F := Ideal) (k1_pay36 v48) (iota .tc S1024x128 32 [1] iota_S1024x128_d1_w32) (k1_pay37 v48) dt na (ix2 r j)
      = gateOf (v48 (ix2 ⟨8 + r.val, by omega⟩ ⟨768 + j.val, by omega⟩)) (na (ix2 0 j)) (dt (ix2 0 j)) j.val := by
  pointwise [k1_pay1, k1_pay36, k1_pay37]
  rw [within j.val 32 40 j.isLt (by decide) (by decide), within j.val 40 48 j.isLt (by decide) (by decide), select_of, select_of, zero_sub, zero_sub]
  rfl

/-- The two indices at which the eight numbers are written. -/
abbrev laneStart : IVec S2 32 := concatenate S2 0 [⟨S1, broadcastInDim S1 ![] bcast_S_S1 (constantI S_ 32 0#32)⟩,
          ⟨S1, broadcastInDim S1 ![] bcast_S_S1 (constantI S_ 32 40#32)⟩] concatenates_S1_S1_S2_d0

theorem lands (n : Fin 8) : scatter_S1x128_S2_S8_0_0_01_0.resultIdx? (S8.rowMajor.symm n) laneStart = some (ix2 0 ⟨40 + n.val, by omega⟩) := by
  revert n
  decide +kernel

theorem fold_once {α : Type} (f : Fin 8 → α) (x0 : α) (j : Fin 128) :
    (List.finRange 8).foldl (fun a n => if (some (ix2 (0 : Fin 1) (⟨40 + n.val, by omega⟩ : Fin 128)) : Option S1x128.Idx) = some (ix2 0 j) then f n else a) x0
      = if h : 40 ≤ j.val ∧ j.val < 48 then f ⟨j.val - 40, by omega⟩ else x0 := by
  have e : ∀ n : Fin 8, ((some (ix2 (0 : Fin 1) (⟨40 + n.val, by omega⟩ : Fin 128)) : Option S1x128.Idx) = some (ix2 0 j)) ↔ 40 + n.val = j.val := fun n =>
    ⟨fun h => congrArg Fin.val (congrFun (Option.some.inj h) 1), fun h => by rw [show (⟨40 + n.val, by omega⟩ : Fin 128) = j from Fin.ext h]⟩
  simp only [e]
  simp only [List.finRange_succ, List.finRange_zero, List.map_cons, List.map_nil, List.foldl_cons, List.foldl_nil, List.map_map]
  show (if 47 = j.val then f ⟨7, by decide⟩ else if 46 = j.val then f ⟨6, by decide⟩ else if 45 = j.val then f ⟨5, by decide⟩ else if 44 = j.val then f ⟨4, by decide⟩ else if 43 = j.val then f ⟨3, by decide⟩ else if 42 = j.val then f ⟨2, by decide⟩ else if 41 = j.val then f ⟨1, by decide⟩ else if 40 = j.val then f ⟨0, by decide⟩ else x0) = _
  split_ifs <;> first | rfl | omega | exact congrArg f (Fin.ext (by dsimp only; omega))

theorem lane_scatter (x : FVec Ideal S1x128 .f32) (u : FVec Ideal S8 .f32) (j : Fin 128) :
    Host.scatter scatter_S1x128_S2_S8_0_0_01_0 (fun _ b => b) x laneStart u (ix2 0 j)
      = if h : 40 ≤ j.val ∧ j.val < 48 then u (ix1 ⟨j.val - 40, by omega⟩) else x (ix2 0 j) := by
  rw [scatter_at]
  refine Eq.trans ?_ (fold_once (fun n => u (ix1 n)) (x (ix2 0 j)) j)
  refine congrArg (fun f => List.foldl f _ _) (funext fun a => funext fun n => ?_)
  rw [lands n]
  refine if_congr Iff.rfl (congrArg u ?_) rfl
  refine funext fun a => Fin.ext ?_
  match a with
  | ⟨0, _⟩ => exact (by decide +kernel : ∀ n : Fin 8, (S8.rowMajor.symm n 0).val = n.val) n

variable (m : (ℓ : Loc nD τ sig) → Buf (Elt Ideal) ℓ) (ρ : Dev nD → PrngReg) (c : Dev nD)

theorem shift_host (j : Fin 128) : (show FVec Ideal S1x128 .f32 from V3 m ρ c main_v16) (ix2 0 j) = lanesOf (fun h k => argB m c (ix2 h k)) j.val := by
  have e : (show FVec Ideal S2x4 .f32 from W2 m ρ c (Proc.devRef .tc main_arg5)) = argB m c :=
    W2_args m ρ c main_arg5 (by decide)
  show W3 m ρ c (Proc.devRef .tc main_v16) (ix2 0 j) = _
  unfold W3
  entry_read
  refine (lane_scatter _ _ j).trans ?_
  rw [lanesOf]
  by_cases h : 40 ≤ j.val ∧ j.val < 48
  · rw [dif_pos h, dif_pos h, ← e]
    pointwise []
  · rw [dif_neg h, dif_neg h]
    pointwise []

theorem decay_host (j : Fin 128) : (show FVec Ideal S1x128 .f32 from V3 m ρ c main_v10) (ix2 0 j)
    = lanesOf (fun h k => -Ideal.exp (argA m c (ix2 h k))) j.val := by
  have e : (show FVec Ideal S2x4 .f32 from W2 m ρ c (Proc.devRef .tc main_arg4)) = argA m c :=
    W2_args m ρ c main_arg4 (by decide)
  show W3 m ρ c (Proc.devRef .tc main_v10) (ix2 0 j) = _
  unfold W3
  entry_read
  refine (lane_scatter _ _ j).trans ?_
  rw [lanesOf]
  by_cases h : 40 ≤ j.val ∧ j.val < 48
  · rw [dif_pos h, dif_pos h, ← e]
    pointwise []
  · rw [dif_neg h, dif_neg h]
    pointwise []

theorem block_gates (t : Fin cfg1.N) (r : Fin 1024) (j : Fin 128) :
    ((outsAt1 (V3 m ρ) c t).2.2.2.2.2.2.2.2 : FVec Ideal S1024x128 .f32) (ix2 r j)
      = gateOf (proj m c (tokenOf t r) (col (768 + j.val))) (lanesOf (fun h k => -Ideal.exp (argA m c (ix2 h k))) j.val)
          (lanesOf (fun h k => argB m c (ix2 h k)) j.val) j.val := by
  unfold Gen.outsAt1
  frame_out
  refine (gate_at _ _ _ r j).trans ?_
  rw [show (iblk1 (V3 m ρ) c 6 t : FVec Ideal S1x128 .f32) (ix2 0 j) = _ from (decay_row (V3 m ρ) c t j).trans (decay_host m ρ c j),
    show (iblk1 (V3 m ρ) c 7 t : FVec Ideal S1x128 .f32) (ix2 0 j) = _ from (shift_row (V3 m ρ) c t j).trans (shift_host m ρ c j)]
  refine congrArg (gateOf · _ _ _) ((dot_lead _ _ _ _ _ _ _).trans ?_)
  exact proj_of m ρ c t _ _ _ ⟨768 + j.val, by omega⟩ (own_token m ρ c t r) fun k => weight_read 896 _ 0 _ rfl _ k _ _ (Nat.zero_add _).symm

end Cert.Proof.InProj

end
-- ==== Proof.InProj.RefMix.lean ====
/-
  The reference's mixed results, read at a token and a lane: the convolution with its activation, the normed queries and keys, and the gates.
-/
module

public import proofs.«01_k».proof.Proof.InProj.Ref
public import proofs.«01_k».proof.Proof.InProj.Mix

@[expose] public section

set_option maxRecDepth 16384

noncomputable section

namespace Cert.Proof.InProj

open Idealize.ShloMosaic Idealize.ShloMosaic.TcCoe
open Cert.InProjRefIdeal Cert.InProjRefIdeal.Gen Cert.InProjRefIdeal.Read
open Cert.Proof.OutMlp (rms width eps silu headSq)

theorem col_conv (j : Nat) (h : j < 768) : col j = 1568 + j := by
  rw [col, if_pos h]

variable (x0 : FVec Ideal S8x2048x1024 .f32) (x1 : FVec Ideal S1024 .f32) (x2 : FVec Ideal S4x1024x2608 .f32) (x3 : FVec Ideal S5x768 .f32)
  (x4 x5 : FVec Ideal S2x4 .f32)

/-- Lane `j` of the token `k - 2` places after place `s` of sequence `b`, 0 past the ends. -/
def tapOf (b : Fin 8) (s : Fin 2048) (k j : Nat) : EReal :=
  if h : 2 ≤ s.val + k ∧ s.val + k < 2050 then projAt x0 x1 x2 b ⟨s.val + k - 2, by omega⟩ (col j) else 0

/-- Lane `j` of the token, convolved and activated. -/
def activatedOf (b : Fin 8) (s : Fin 2048) (j : Nat) : EReal :=
  if h : j < 768 then silu (conv5 (fun k => tapOf x0 x1 x2 b s k j) (fun k => x3 (ix2 k ⟨j, h⟩))) else 0

theorem pad_zero : (val_main_call1_v0 (F := Ideal) : FVec Ideal S_ .f32) (Shape.Idx.first h_S_) = 0 := by
  pointwise [val_main_call1_v0, val_main_c_2]
  simp [FloatOps.sitofp]

/-- A tap that may lie past an end. -/
theorem tap_pad (b : Fin 8) (s : Fin 2048) (k : Nat) (j : Fin 768) (y : Nat) (hy : y = s.val + k) (q : Fin 2608) (hq : q.val = 1568 + j.val) (p : EReal) (hp : p = 0) :
    (if h : 2 ≤ y ∧ y - 2 < 2048 then (val_main_v15 (F := Ideal) x0 x1 x2 : FVec Ideal S8x2048x2608 .f32) (ix3 b ⟨y - 2, h.2⟩ q) else p)
      = tapOf x0 x1 x2 b s k j.val := by
  subst hy hp
  rw [tapOf]
  by_cases h : 2 ≤ s.val + k ∧ s.val + k - 2 < 2048
  · rw [dif_pos h, dif_pos (by omega)]
    refine (ref_proj x0 x1 x2 b _ q).trans ?_
    rw [hq, col_conv j.val j.isLt]
  · rw [dif_neg h, dif_neg (by omega)]

theorem ref_conv (b : Fin 8) (s : Fin 2048) (j : Fin 768) : (val_main_v83 (F := Ideal) x0 x1 x2 x3 : FVec Ideal S8x2048x768 .f32) (ix3 b s j)
    = conv5 (fun k => tapOf x0 x1 x2 b s k j.val) (fun k => x3 (ix2 k j)) := by
  have own : (val_main_v15 (F := Ideal) x0 x1 x2 : FVec Ideal S8x2048x2608 .f32) (ix3 b s ⟨1568 + j.val, by omega⟩) = tapOf x0 x1 x2 b s 2 j.val := by
    rw [tapOf, dif_pos (by omega)]
    refine (ref_proj x0 x1 x2 b s _).trans ?_
    rw [col_conv j.val j.isLt]
    rfl
  pointwise [val_main_v24, val_main_v49, val_main_v50, val_main_v51, val_main_v52, val_main_v53, val_main_v54, val_main_v55, val_main_v56, val_main_v57,
    val_main_v58, val_main_v59, val_main_v60, val_main_v61, val_main_v62, val_main_v63, val_main_v64, val_main_v65, val_main_v66, val_main_v67,
    val_main_v68, val_main_v69, val_main_v70, val_main_v71, val_main_v72, val_main_v73, val_main_v74, val_main_v75, val_main_v76, val_main_v77,
    val_main_v78, val_main_v79, val_main_v80, val_main_v81, val_main_v82, val_main_v83]
  rw [own, tap_pad x0 x1 x2 b s 0 j s.val (by omega) ⟨1568 + j.val, by omega⟩ rfl _ pad_zero,
    tap_pad x0 x1 x2 b s 1 j (1 + s.val) (by omega) ⟨1568 + j.val, by omega⟩ rfl _ pad_zero,
    tap_pad x0 x1 x2 b s 3 j (3 + s.val) (by omega) ⟨1568 + j.val, by omega⟩ rfl _ pad_zero,
    tap_pad x0 x1 x2 b s 4 j (4 + s.val) (by omega) ⟨1568 + j.val, by omega⟩ rfl _ pad_zero, conv5]

theorem ref_act (b : Fin 8) (s : Fin 2048) (j : Fin 768) : (val_main_v84 (F := Ideal) x0 x1 x2 x3 : FVec Ideal S8x2048x768 .f32) (ix3 b s j)
    = activatedOf x0 x1 x2 x3 b s j.val := by
  have h : (val_main_v84 (F := Ideal) x0 x1 x2 x3 : FVec Ideal S8x2048x768 .f32) (ix3 b s j)
      = silu ((val_main_v83 (F := Ideal) x0 x1 x2 x3 : FVec Ideal S8x2048x768 .f32) (ix3 b s j)) := by
    pointwise [val_main_call2_v0, val_main_call2_v1, val_main_call2_cst, val_main_call2_v2, val_main_call2_v3, val_main_call2_cst_0, val_main_call2_v4,
    val_main_call2_v5, val_main_v84, silu]
  rw [h, ref_conv, activatedOf, dif_pos j.isLt]

theorem ref_act_at (b : Fin 8) (s : Fin 2048) (q : Fin 768) (j : Nat) (h : q.val = j) :
    (val_main_v84 (F := Ideal) x0 x1 x2 x3 : FVec Ideal S8x2048x768 .f32) (ix3 b s q) = activatedOf x0 x1 x2 x3 b s j := h ▸ ref_act x0 x1 x2 x3 b s q

theorem ref_queries (b : Fin 8) (s : Fin 2048) (j : Fin 256) : (val_main_v128 (F := Ideal) x0 x1 x2 x3 : FVec Ideal S8x2048x256 .f32) (ix3 b s j)
    = unitHead (fun x => activatedOf x0 x1 x2 x3 b s x.val) j * scale := by
  pointwise [val_main_v85, val_main_v86, val_main_v87, val_main_v88, val_main_v89, val_main_v90, val_main_cst_3, val_main_v91, val_main_v92, val_main_cst_4,
    val_main_v93, val_main_v94, val_main_v95, val_main_v96, val_main_v97, val_main_cst_5, val_main_v98, val_main_v99, val_main_v127, val_main_v128, unitHead, headSq, eps, scale]
  simp only [ref_act_at x0 x1 x2 x3 b s _ _ rfl]

theorem ref_keys (b : Fin 8) (s : Fin 2048) (j : Fin 256) : (val_main_v130 (F := Ideal) x0 x1 x2 x3 : FVec Ideal S8x2048x256 .f32) (ix3 b s j)
    = unitHead (fun x => activatedOf x0 x1 x2 x3 b s (256 + x.val)) j := by
  pointwise [val_main_v86, val_main_v100, val_main_v101, val_main_v102, val_main_cst_6, val_main_v103, val_main_v104, val_main_cst_7, val_main_v105, val_main_v106,
    val_main_v107, val_main_v108, val_main_v109, val_main_v129, val_main_v130, unitHead, headSq, eps]
  simp only [ref_act_at x0 x1 x2 x3 b s _ _ rfl]

theorem ref_dn (n : Fin 16384) (j : Fin 768) : (val_main_v132 (F := Ideal) x0 x1 x2 x3 : FVec Ideal S16384x768 .f32) (ix2 n j)
    = mixOf (activatedOf x0 x1 x2 x3 ⟨n.val / 2048, by omega⟩ ⟨n.val % 2048, by omega⟩) j.val := by
  pointwise [val_main_v87, val_main_v131, val_main_v132]
  rw [mixOf]
  by_cases h : j.val < 256
  · rw [dif_pos h, dif_pos h]
    exact ref_queries x0 x1 x2 x3 _ _ _
  · rw [dif_neg h, dif_neg h]
    by_cases h' : j.val < 512
    · rw [dif_pos (by omega), dif_pos h']
      exact ref_keys x0 x1 x2 x3 _ _ _
    · rw [dif_neg (by omega), dif_neg h']
      exact ref_act_at x0 x1 x2 x3 _ _ _ _ (show 512 + (j.val - 256 - 256) = j.val by omega)

end Cert.Proof.InProj

end
-- ==== Proof.InProj.RefGates.lean ====
/-
  The reference's gates, read at a token and a lane.
-/
module

public import proofs.«01_k».proof.Proof.InProj.Ref
public import proofs.«01_k».proof.Proof.InProj.Mix

@[expose] public section

set_option maxRecDepth 16384

noncomputable section

namespace Cert.Proof.InProj

open Idealize.ShloMosaic Idealize.ShloMosaic.TcCoe
open Cert.InProjRefIdeal Cert.InProjRefIdeal.Gen Cert.InProjRefIdeal.Read
open Cert.Proof.OutMlp (rms width eps silu headSq)

variable (x0 : FVec Ideal S8x2048x1024 .f32) (x1 : FVec Ideal S1024 .f32) (x2 : FVec Ideal S4x1024x2608 .f32) (x3 : FVec Ideal S5x768 .f32)
  (x4 x5 : FVec Ideal S2x4 .f32)

/-- A gate column of the projection, at its place in the reference. -/
theorem gate_entry (n : Fin 16384) (j : Fin 128) (p : Nat) (hp : p < 2608) (hj : 32 ≤ j.val ∧ j.val < 48) (e : p = 2560 + j.val) :
    (val_main_v15 (F := Ideal) x0 x1 x2 : FVec Ideal S8x2048x2608 .f32) (ix3 ⟨n.val / 2048, by omega⟩ ⟨n.val % 2048, by omega⟩ ⟨p, hp⟩)
      = projAt x0 x1 x2 ⟨n.val / 2048, by omega⟩ ⟨n.val % 2048, by omega⟩ (col (768 + j.val)) := by
  refine ref_at x0 x1 x2 n _ _ ?_
  have c := col_gates (768 + j.val) (by omega) (by omega)
  show p = col (768 + j.val)
  omega

theorem gateOf_late (s na dt : EReal) (j : Nat) (h : 40 ≤ j ∧ j < 48) : gateOf s na dt j = na * softplus (s + dt) := by
  have k : ¬ (32 ≤ j ∧ j < 40) := by omega
  unfold gateOf
  rw [if_neg k, if_pos h]

theorem gateOf_early (s na dt : EReal) (j : Nat) (h : 32 ≤ j ∧ j < 40) : gateOf s na dt j = sigmoid s := by
  unfold gateOf
  rw [if_pos h]

theorem gateOf_else (s na dt : EReal) (j : Nat) (h : ¬ (32 ≤ j ∧ j < 48)) : gateOf s na dt j = 0 := by
  have k : ¬ (32 ≤ j ∧ j < 40) := by omega
  have k' : ¬ (40 ≤ j ∧ j < 48) := by omega
  unfold gateOf
  rw [if_neg k, if_neg k']

theorem lanesOf_at (u : Fin 2 → Fin 4 → EReal) (j : Nat) (h : 40 ≤ j ∧ j < 48) (a b : Nat) (ha : a < 2) (hb : b < 4)
    (ea : a = (j - 40) / 4) (eb : b = (j - 40) % 4) : u ⟨a, ha⟩ ⟨b, hb⟩ = lanesOf u j := by
  subst ea eb
  rw [lanesOf, dif_pos h]

/-- The decay of a gate lane, out of its parts. -/
theorem decay_parts (na v dt na' v' dt' : EReal) (h : na = na') (hv : v = v') (hd : dt = dt') :
    na * (max (v + dt) 0 + Ideal.log1p (Ideal.exp (-(FloatOps.absf (F := Ideal) (φ := .f32) (v + dt))))) = na' * softplus (v' + dt') := by
  rw [h, hv, hd, softplus]

set_option maxHeartbeats 1000000 in
theorem ref_gates (n : Fin 16384) (j : Fin 128) : (val_main_v137 (F := Ideal) x0 x1 x2 x4 x5 : FVec Ideal S16384x128 .f32) (ix2 n j)
    = gateOf (projAt x0 x1 x2 ⟨n.val / 2048, by omega⟩ ⟨n.val % 2048, by omega⟩ (col (768 + j.val)))
        (lanesOf (fun h k => -Ideal.exp (x4 (ix2 h k))) j.val) (lanesOf (fun h k => x5 (ix2 h k)) j.val) j.val := by
  pointwise [val_main_v26, val_main_v27, val_main_v110, val_main_v111, val_main_v112, val_main_cst_8, val_main_v113, val_main_v114, val_main_cst_9,
    val_main_v115, val_main_v116, val_main_v117, val_main_v118, val_main_v119, val_main_v120, val_main_v121, val_main_v122, val_main_call3_cst,
    val_main_call3_v0, val_main_call3_v1, val_main_call3_v2, val_main_call3_v3, val_main_call3_v4, val_main_call3_v5, val_main_call3_v6,
    val_main_call3_v7, val_main_call3_v8, val_main_call3_v9, val_main_call3_v10, val_main_call3_v11, val_main_v123, val_main_v124, val_main_v125,
    val_main_v126, val_main_v133, val_main_v134, val_main_v135, val_main_v136, val_main_c_10, val_main_call4_v0, val_main_v137]
  by_cases h : 32 ≤ j.val ∧ j.val - 32 < 16
  · rewrite [dif_pos h]
    by_cases h' : j.val - 32 < 8
    · rewrite [dif_pos h', gateOf_early _ _ _ j.val (by omega), sigmoid]
      exact congrArg (fun s => Ideal.div 1 (1 + Ideal.exp (-s))) (gate_entry x0 x1 x2 n j _ (by omega) (by omega) (by omega))
    · have k : 40 ≤ j.val ∧ j.val < 48 := by omega
      refine Eq.trans ?_ (gateOf_late _ _ _ j.val k).symm
      refine (dif_neg h').trans ?_
      simp only [ne_eq, not_true_eq_false, if_false]
      exact decay_parts _ _ _ _ _ _ (lanesOf_at (fun h k => -Ideal.exp (x4 (ix2 h k))) j.val k _ _ (by omega) (by omega) (by omega) (by omega))
        (gate_entry x0 x1 x2 n j _ (by omega) (by omega) (by omega))
        (lanesOf_at (fun h k => x5 (ix2 h k)) j.val k _ _ (by omega) (by omega) (by omega) (by omega))
  · rewrite [dif_neg h, gateOf_else _ _ _ j.val (by omega)]
    simp [FloatOps.sitofp]

end Cert.Proof.InProj

end
-- ==== Proof.InProj.Mixed.lean ====
/-
  The two mixed results of the input projection, the convolved lanes and the gates: what the kernel leaves in each, and that the reference's is the
  same.
-/
module

public import proofs.«01_k».proof.Proof.InProj.Conv
public import proofs.«01_k».proof.Proof.InProj.Gates
public import proofs.«01_k».proof.Proof.InProj.RefMix
public import proofs.«01_k».proof.Proof.InProj.RefGates

@[expose] public section

set_option maxRecDepth 16384

noncomputable section

namespace Cert.Proof.InProj

open Idealize.ShloMosaic Idealize.ShloMosaic.TcCoe
open Idealize.ShloMosaic.Pipeline (Dat)
open Cert.InProjIdeal Cert.InProjIdeal.Gen Cert.InProjIdeal.Facts

variable (m : (ℓ : Loc nD τ sig) → Buf (Elt Ideal) ℓ) (ρ : Dev nD → PrngReg) (c : Dev nD)

/-- A tap along the rows of both sequences is the tap within the row's own sequence. -/
theorem tap_eq (n : Fin 16384) (k j : Nat) : tap m c n k j
    = tapOf (argX m c) (argG m c) (argW m c) ⟨n.val / 2048, by omega⟩ ⟨n.val % 2048, by omega⟩ k j := by
  unfold tap tapOf
  by_cases h : 2 ≤ n.val % 2048 + k ∧ n.val % 2048 + k < 2050
  · rw [dif_pos h, dif_pos h]
    have e1 : (n.val + k - 2) / 2048 = n.val / 2048 := by omega
    have e2 : (n.val + k - 2) % 2048 = n.val % 2048 + k - 2 := by omega
    show projAt (argX m c) (argG m c) (argW m c) ⟨(n.val + k - 2) / 2048, _⟩ ⟨(n.val + k - 2) % 2048, _⟩ (col j) = _
    simp only [e1, e2]
  · rw [dif_neg h, dif_neg h]

theorem activated_eq (n : Fin 16384) : activated m c n
    = activatedOf (argX m c) (argG m c) (argW m c) (argC m c) ⟨n.val / 2048, by omega⟩ ⟨n.val % 2048, by omega⟩ := by
  funext j
  unfold activated activatedOf
  simp only [tap_eq]

/-- The result with the convolved lanes, the first two thirds normed by head. -/
def res_dn : FVec Ideal S16384x768 .f32 := fun z => mixOf (activated m c (z 0)) (z 1).val

theorem final_dn : (dat1 (V3 m ρ) c).arrAt 8 cfg1.N = res_dn m c := by
  refine (dat1 (V3 m ρ) c).arrAt_eq_of_covers 8 _ (by decide +kernel) fun t _ y => ?_
  blk_simp
  rw [after1_8]
  idx_vars y
  refine (block_dn m ρ c t y0 y1).trans (show res_dn m c (ix2 (tokenOf t y0) y1) = _ from congrArg (res_dn m c) ?_)
  blk_ext [idx_proj t]

theorem same_dn : (Cert.InProjRefIdeal.Read.val_main_v132 (F := Ideal) (argX m c) (argG m c) (argW m c) (argC m c) : FVec Ideal S16384x768 .f32)
    = res_dn m c := by
  funext z
  idx_vars z
  refine (ref_dn (argX m c) (argG m c) (argW m c) (argC m c) z0 z1).trans ?_
  rw [← activated_eq]
  rfl

/-- The result with the gates. -/
def res_gates : FVec Ideal S16384x128 .f32 := fun z =>
  gateOf (proj m c (z 0) (col (768 + (z 1).val))) (lanesOf (fun h k => -Ideal.exp (argA m c (ix2 h k))) (z 1).val)
    (lanesOf (fun h k => argB m c (ix2 h k)) (z 1).val) (z 1).val

theorem final_gates : (dat1 (V3 m ρ) c).arrAt 16 cfg1.N = res_gates m c := by
  refine (dat1 (V3 m ρ) c).arrAt_eq_of_covers 16 _ (by decide +kernel) fun t _ y => ?_
  blk_simp
  rw [after1_16]
  idx_vars y
  refine (block_gates m ρ c t y0 y1).trans (show res_gates m c (ix2 (tokenOf t y0) y1) = _ from congrArg (res_gates m c) ?_)
  blk_ext [idx_proj t]

theorem same_gates : (Cert.InProjRefIdeal.Read.val_main_v137 (F := Ideal) (argX m c) (argG m c) (argW m c) (argA m c) (argB m c) : FVec Ideal S16384x128 .f32)
    = res_gates m c := by
  funext z
  idx_vars z
  exact ref_gates (argX m c) (argG m c) (argW m c) (argA m c) (argB m c) z0 z1

end Cert.Proof.InProj

end
-- ==== Proof.InProj.Claims.lean ====
/-
  The claims about the input projection: the two frames, the reference's, and the value.
-/
module

public import proofs.«01_k».proof.Defs
public import proofs.«01_k».proof.Proof.InProj.Launch
public import proofs.«01_k».proof.Proof.InProj.Value
public import proofs.«01_k».proof.Proof.InProj.Mixed
public import proofs.«01_k».proof.Proof.Gen.InProj.Frame
public import Idealize.ShloMosaic.Lib.Quiescent

@[expose] public section

set_option maxRecDepth 16384

noncomputable section

namespace Cert.Proof.InProj

open Idealize.ShloMosaic Idealize.ShloMosaic.TcCoe Idealize.SL.Sem

/-- The kernel runs, at machine words. -/
theorem frame : Cert.quiescent_InProj (hInProj := Cert.InProj.Gen.facts) := fun m ρ _ =>
  Cert.InProj.Gen.frame (F := Bits) m ρ

/-- The kernel runs, at the extended reals. -/
theorem frame_ideal : Cert.quiescent_InProjIdeal (hInProjIdeal := Cert.InProjIdeal.Gen.facts) := fun m ρ _ =>
  Cert.InProjIdeal.Gen.frame (F := Ideal) m ρ

/-- The reference runs, at the extended reals. -/
theorem frame_ref : Cert.quiescent_InProjRefIdeal (hInProjRefIdeal := Cert.InProjRefIdeal.Gen.facts) := fun m ρ _ =>
  (θ_run Cert.InProjRefIdeal.defs _ _).mono (fun r h => ⟨fun c => (h c).2.2.2.2.2.2.2.2.2, sem_eq_zero_of_no_sems (by decide) r.2⟩)
    (Cert.InProjRefIdeal.Value.run (F := Ideal) m ρ)

/-- The idealization rewrites nothing. -/
theorem preserves : Cert.preserves_InProj_InProjIdeal := trivial

/-- Kernel and reference end with equal results from equal arguments. -/
theorem algebraic : Cert.algebraic_InProjIdeal_InProjRefIdeal (hInProjIdeal := Cert.InProjIdeal.Gen.facts)
    (hInProjRefIdeal := Cert.InProjRefIdeal.Gen.facts) := by
  intro m ρ m' ρ' _ hag
  refine ⟨fun c => res_dn m c, fun c => res_small m c, fun c => res_q m c, fun c => res_kv m c, fun c => res_qk m c, fun c => res_v m c, fun c => res_g m c, fun c => res_z m c, fun c => res_gates m c, ?_, ?_⟩
  · refine (θ_run Cert.InProjIdeal.defs _ _).mono (fun _ h c => ?_) (run m ρ)
    exact ⟨((h c).1).trans (final_dn m ρ c),
      ((h c).2.1).trans (final_small m ρ c),
      ((h c).2.2.1).trans (final_q m ρ c),
      ((h c).2.2.2.1).trans (final_kv m ρ c),
      ((h c).2.2.2.2.1).trans (final_qk m ρ c),
      ((h c).2.2.2.2.2.1).trans (final_v m ρ c),
      ((h c).2.2.2.2.2.2.1).trans (final_g m ρ c),
      ((h c).2.2.2.2.2.2.2.1).trans (final_z m ρ c),
      ((h c).2.2.2.2.2.2.2.2.1).trans (final_gates m ρ c),
      (h c).2.2.2.2.2.2.2.2.2⟩
  · refine (θ_run Cert.InProjRefIdeal.defs _ _).mono (fun _ h c => ?_) (Cert.InProjRefIdeal.Value.run (F := Ideal) m' ρ')
    obtain ⟨h0, h1, h2, h3, h4, h5⟩ := hag c
    refine ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, ((h c).2.2.2.2.2.2.2.1).trans ?_, ((h c).2.2.2.2.2.2.2.2.1).trans ?_, (h c).2.2.2.2.2.2.2.2.2⟩
    · refine (Cert.InProjRefIdeal.Read.val_main_v132_eq (F := Ideal) (StableHlo.launchContents m' c)).trans ?_
      show Cert.InProjRefIdeal.Read.val_main_v132 (F := Ideal) (m' ((c.tc : Thread _ _).loc Cert.InProjRefIdeal.main_arg0)) (m' ((c.tc : Thread _ _).loc Cert.InProjRefIdeal.main_arg1)) (m' ((c.tc : Thread _ _).loc Cert.InProjRefIdeal.main_arg2)) (m' ((c.tc : Thread _ _).loc Cert.InProjRefIdeal.main_arg3)) = _
      rw [h0, h1, h2, h3]
      exact same_dn m c
    · refine (Cert.InProjRefIdeal.Read.val_main_v30_eq (F := Ideal) (StableHlo.launchContents m' c)).trans ?_
      show Cert.InProjRefIdeal.Read.val_main_v30 (F := Ideal) (m' ((c.tc : Thread _ _).loc Cert.InProjRefIdeal.main_arg0)) (m' ((c.tc : Thread _ _).loc Cert.InProjRefIdeal.main_arg1)) (m' ((c.tc : Thread _ _).loc Cert.InProjRefIdeal.main_arg2)) = _
      rw [h0, h1, h2]
      exact same_small m c
    · refine (Cert.InProjRefIdeal.Read.val_main_v32_eq (F := Ideal) (StableHlo.launchContents m' c)).trans ?_
      show Cert.InProjRefIdeal.Read.val_main_v32 (F := Ideal) (m' ((c.tc : Thread _ _).loc Cert.InProjRefIdeal.main_arg0)) (m' ((c.tc : Thread _ _).loc Cert.InProjRefIdeal.main_arg1)) (m' ((c.tc : Thread _ _).loc Cert.InProjRefIdeal.main_arg2)) = _
      rw [h0, h1, h2]
      exact same_q m c
    · refine (Cert.InProjRefIdeal.Read.val_main_v43_eq (F := Ideal) (StableHlo.launchContents m' c)).trans ?_
      show Cert.InProjRefIdeal.Read.val_main_v43 (F := Ideal) (m' ((c.tc : Thread _ _).loc Cert.InProjRefIdeal.main_arg0)) (m' ((c.tc : Thread _ _).loc Cert.InProjRefIdeal.main_arg1)) (m' ((c.tc : Thread _ _).loc Cert.InProjRefIdeal.main_arg2)) = _
      rw [h0, h1, h2]
      exact same_kv m c
    · refine (Cert.InProjRefIdeal.Read.val_main_v45_eq (F := Ideal) (StableHlo.launchContents m' c)).trans ?_
      show Cert.InProjRefIdeal.Read.val_main_v45 (F := Ideal) (m' ((c.tc : Thread _ _).loc Cert.InProjRefIdeal.main_arg0)) (m' ((c.tc : Thread _ _).loc Cert.InProjRefIdeal.main_arg1)) (m' ((c.tc : Thread _ _).loc Cert.InProjRefIdeal.main_arg2)) = _
      rw [h0, h1, h2]
      exact same_qk m c
    · refine (Cert.InProjRefIdeal.Read.val_main_v46_eq (F := Ideal) (StableHlo.launchContents m' c)).trans ?_
      show Cert.InProjRefIdeal.Read.val_main_v46 (F := Ideal) (m' ((c.tc : Thread _ _).loc Cert.InProjRefIdeal.main_arg0)) (m' ((c.tc : Thread _ _).loc Cert.InProjRefIdeal.main_arg1)) (m' ((c.tc : Thread _ _).loc Cert.InProjRefIdeal.main_arg2)) = _
      rw [h0, h1, h2]
      exact same_v m c
    · refine (Cert.InProjRefIdeal.Read.val_main_v47_eq (F := Ideal) (StableHlo.launchContents m' c)).trans ?_
      show Cert.InProjRefIdeal.Read.val_main_v47 (F := Ideal) (m' ((c.tc : Thread _ _).loc Cert.InProjRefIdeal.main_arg0)) (m' ((c.tc : Thread _ _).loc Cert.InProjRefIdeal.main_arg1)) (m' ((c.tc : Thread _ _).loc Cert.InProjRefIdeal.main_arg2)) = _
      rw [h0, h1, h2]
      exact same_g m c
    · refine (Cert.InProjRefIdeal.Read.val_main_v48_eq (F := Ideal) (StableHlo.launchContents m' c)).trans ?_
      show Cert.InProjRefIdeal.Read.val_main_v48 (F := Ideal) (m' ((c.tc : Thread _ _).loc Cert.InProjRefIdeal.main_arg0)) (m' ((c.tc : Thread _ _).loc Cert.InProjRefIdeal.main_arg1)) (m' ((c.tc : Thread _ _).loc Cert.InProjRefIdeal.main_arg2)) = _
      rw [h0, h1, h2]
      exact same_z m c
    · refine (Cert.InProjRefIdeal.Read.val_main_v137_eq (F := Ideal) (StableHlo.launchContents m' c)).trans ?_
      show Cert.InProjRefIdeal.Read.val_main_v137 (F := Ideal) (m' ((c.tc : Thread _ _).loc Cert.InProjRefIdeal.main_arg0)) (m' ((c.tc : Thread _ _).loc Cert.InProjRefIdeal.main_arg1)) (m' ((c.tc : Thread _ _).loc Cert.InProjRefIdeal.main_arg2)) (m' ((c.tc : Thread _ _).loc Cert.InProjRefIdeal.main_arg4)) (m' ((c.tc : Thread _ _).loc Cert.InProjRefIdeal.main_arg5)) = _
      rw [h0, h1, h2, h4, h5]
      exact same_gates m c

end Cert.Proof.InProj

end
-- ==== Proof.lean ====
/-
  The proof of `Cert.Claim`: the claims of each program, assembled.
-/
module

public import proofs.«01_k».proof.Defs
public import proofs.«01_k».proof.Proof.OutMlp.Claims
public import proofs.«01_k».proof.Proof.Swa.Claims
public import proofs.«01_k».proof.Proof.InProj.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.OutMlp
public import proofs.«01_k».proof.Proof.Gen.OutMlp.Skeleton
public import proofs.«01_k».proof.Proof.Gen.OutMlp.Launch
public import proofs.«01_k».proof.Proof.Gen.OutMlp.Points
public import proofs.«01_k».proof.Proof.Gen.OutMlp.Frame
public import proofs.«01_k».proof.Proof.Gen.OutMlpIdeal
public import proofs.«01_k».proof.Proof.Gen.OutMlpIdeal.Skeleton
public import proofs.«01_k».proof.Proof.Gen.OutMlpIdeal.Launch
public import proofs.«01_k».proof.Proof.Gen.OutMlpIdeal.Points
public import proofs.«01_k».proof.Proof.Gen.OutMlpIdeal.Frame
public import proofs.«01_k».proof.Proof.Gen.OutMlpIdeal.Value
public import proofs.«01_k».proof.Proof.Gen.OutMlpRefIdeal
public import proofs.«01_k».proof.Proof.Gen.OutMlpRefIdeal.Run
public import proofs.«01_k».proof.Proof.Gen.OutMlpRefIdeal.Read
public import proofs.«01_k».proof.Proof.Gen.ReferenceIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read

@[expose] public section

noncomputable section

namespace Cert.Proof

theorem claim : Cert.Claim :=
  ⟨Cert.Kernel.Gen.facts, Cert.KernelIdeal.Gen.facts, Cert.ReferenceIdeal.Gen.facts,
    Cert.OutMlp.Gen.facts, Cert.OutMlpIdeal.Gen.facts, Cert.OutMlpRefIdeal.Gen.facts,
    Cert.InProj.Gen.facts, Cert.InProjIdeal.Gen.facts, Cert.InProjRefIdeal.Gen.facts, Swa.pre_facts,
    Swa.frame, Swa.frame_ideal, Swa.frame_ideal_pre, Swa.frame_ref, Swa.frame_ref_pre,
    OutMlp.frame, OutMlp.frame_ideal, OutMlp.frame_ref,
    InProj.frame, InProj.frame_ideal, InProj.frame_ref,
    Swa.preserves, Swa.algebraic, OutMlp.preserves, OutMlp.algebraic,
    InProj.preserves, InProj.algebraic⟩

end Cert.Proof

end
